-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_below_infinity [hPre_steps_below_infinity : Cert.Pre_steps_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_steps_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_below_infinity [hPre_steps_below_infinity : Cert.Pre_steps_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_steps_below_infinity [hKernelIdeal : Cert.KernelIdeal.Facts] [hPre_steps_below_infinity : Cert.Pre_steps_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_steps_below_infinity [hReferenceIdeal : Cert.ReferenceIdeal.Facts] [hPre_steps_below_infinity : Cert.Pre_steps_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_steps_below_infinity [hKernelIdeal : Cert.KernelIdeal.Facts] [hReferenceIdeal : Cert.ReferenceIdeal.Facts] [hPre_steps_below_infinity : Cert.Pre_steps_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v39) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_steps_below_infinity : Cert.Pre_steps_below_infinity.Facts),
    quiescent_Kernel (hKernel := hKernel)
    ∧ quiescent_KernelIdeal (hKernelIdeal := hKernelIdeal)
    ∧ quiescent_KernelIdeal_pre_steps_below_infinity (hKernelIdeal := hKernelIdeal) (hPre_steps_below_infinity := hPre_steps_below_infinity)
    ∧ quiescent_ReferenceIdeal (hReferenceIdeal := hReferenceIdeal)
    ∧ quiescent_ReferenceIdeal_pre_steps_below_infinity (hReferenceIdeal := hReferenceIdeal) (hPre_steps_below_infinity := hPre_steps_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_steps_below_infinity (hKernelIdeal := hKernelIdeal) (hReferenceIdeal := hReferenceIdeal) (hPre_steps_below_infinity := hPre_steps_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_steps_below_infinity.lean ====
abbrev S16384x2048 : Shape := ⟨2, ![16384, 2048]⟩
abbrev S16384x3072 : Shape := ⟨2, ![16384, 3072]⟩
abbrev S16384x32 : Shape := ⟨2, ![16384, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : FVec F S16384x2048 .f32) (main_arg1 : FVec F S16384x3072 .f32) (main_arg2 : FVec F S16384x32 .f32) (main_arg3 : FVec F S4x3072 .f32) (main_arg4 : FVec F S3072 .f32) (main_arg5 : FVec F S32 .f32) (main_arg6 : FVec F S32 .f32) (main_arg7 : FVec F S32 .f32) (main_arg8 : FVec F S2048 .f32) : IVec S_ 1 :=
  let main_cst : FVec F S_ .f32 := constant S_ .f32 0x7F800000#32
  let main_v0 : FVec F S16384x32 .f32 := broadcastInDim S16384x32 ![] bcast_S_S16384x32 main_cst
  let main_v1 : IVec S16384x32 1 := cmpf .olt main_arg2 main_v0
  let main_c : IVec S_ 1 := constantI S_ 1 1#1
  let main_v2 : IVec S_ 1 := (fun x v => Host.reduce IntOp.andi x v reducesTo_S16384x32_S_d0_1 h_S_) main_v1 main_c
  main_v2
-- ==== Kernel.lean ====
abbrev S16384x2048 : Shape := ⟨2, ![16384, 2048]⟩
abbrev S16384x3072 : Shape := ⟨2, ![16384, 3072]⟩
abbrev S16384x32 : Shape := ⟨2, ![16384, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S16384x1048 : Shape := ⟨2, ![16384, 1048]⟩
abbrev S16384x968 : Shape := ⟨2, ![16384, 968]⟩
abbrev S16384x7168 : Shape := ⟨2, ![16384, 7168]⟩
abbrev S4x2048 : Shape := ⟨2, ![4, 2048]⟩
abbrev S4x512 : Shape := ⟨2, ![4, 512]⟩
abbrev S1x2048 : Shape := ⟨2, ![1, 2048]⟩
abbrev S512 : Shape := ⟨1, ![512]⟩
abbrev S1x512 : Shape := ⟨2, ![1, 512]⟩
abbrev S128x2048 : Shape := ⟨2, ![128, 2048]⟩
abbrev S32x2048 : Shape := ⟨2, ![32, 2048]⟩
abbrev S2048x32 : Shape := ⟨2, ![2048, 32]⟩
abbrev S32x64 : Shape := ⟨2, ![32, 64]⟩
abbrev S256x2048 : Shape := ⟨2, ![256, 2048]⟩
abbrev S256x512 : Shape := ⟨2, ![256, 512]⟩
abbrev S256x128 : Shape := ⟨2, ![256, 128]⟩
abbrev S8x2048 : Shape := ⟨2, ![8, 2048]⟩
abbrev S8x512 : Shape := ⟨2, ![8, 512]⟩
abbrev S2048x128 : Shape := ⟨2, ![2048, 128]⟩
abbrev S8x1 : Shape := ⟨2, ![8, 1]⟩
abbrev S248x2048 : Shape := ⟨2, ![248, 2048]⟩
abbrev S248x512 : Shape := ⟨2, ![248, 512]⟩
abbrev S256x256 : Shape := ⟨2, ![256, 256]⟩
abbrev S32x256 : Shape := ⟨2, ![32, 256]⟩
abbrev S32x1 : Shape := ⟨2, ![32, 1]⟩
abbrev S32x128 : Shape := ⟨2, ![32, 128]⟩
abbrev S256x1 : Shape := ⟨2, ![256, 1]⟩
abbrev S1x256 : Shape := ⟨2, ![1, 256]⟩
abbrev S128x128 : Shape := ⟨2, ![128, 128]⟩
abbrev S256 : Shape := ⟨1, ![256]⟩

abbrev nBuf : Space → Nat
  | .hbm => 103
  | .vmem => 30
  | .smem => 0
  | _ => 0

abbrev bufTy : (tb : Table) → Fin (tcTables nBuf tb) → BufTy
  | .hbm, ⟨0, _⟩ => ⟨S16384x2048, .f32⟩
  | .hbm, ⟨1, _⟩ => ⟨S16384x3072, .f32⟩
  | .hbm, ⟨2, _⟩ => ⟨S16384x32, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S_, .f32⟩
  | .hbm, ⟨10, _⟩ => ⟨S16384x1048, .f32⟩
  | .hbm, ⟨11, _⟩ => ⟨S_, .f32⟩
  | .hbm, ⟨12, _⟩ => ⟨S16384x968, .f32⟩
  | .hbm, ⟨13, _⟩ => ⟨S16384x7168, .f32⟩
  | .hbm, ⟨14, _⟩ => ⟨S4x2048, .f32⟩
  | .hbm, ⟨15, _⟩ => ⟨S4x512, .f32⟩
  | .hbm, ⟨16, _⟩ => ⟨S4x512, .f32⟩
  | .hbm, ⟨17, _⟩ => ⟨S2048, .f32⟩
  | .hbm, ⟨18, _⟩ => ⟨S1x2048, .f32⟩
  | .hbm, ⟨19, _⟩ => ⟨S512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S128x2048, .i32⟩
  | .hbm, ⟨24, _⟩ => ⟨S128x2048, .i32⟩
  | .hbm, ⟨25, _⟩ => ⟨S_, .i32⟩
  | .hbm, ⟨26, _⟩ => ⟨S_, .i32⟩
  | .hbm, ⟨27, _⟩ => ⟨S128x2048, .i32⟩
  | .hbm, ⟨28, _⟩ => ⟨S128x2048, .i32⟩
  | .hbm, ⟨29, _⟩ => ⟨S128x2048, .i32⟩
  | .hbm, ⟨30, _⟩ => ⟨S_, .i32⟩
  | .hbm, ⟨31, _⟩ => ⟨S128x2048, .i32⟩
  | .hbm, ⟨32, _⟩ => ⟨S128x2048, .i1⟩
  | .hbm, ⟨33, _⟩ => ⟨S128x2048, .i32⟩
  | .hbm, ⟨34, _⟩ => ⟨S128x2048, .i32⟩
  | .hbm, ⟨35, _⟩ => ⟨S_, .i32⟩
  | .hbm, ⟨36, _⟩ => ⟨S128x2048, .i32⟩
  | .hbm, ⟨37, _⟩ => ⟨S128x2048, .i1⟩
  | .hbm, ⟨38, _⟩ => ⟨S128x2048, .i1⟩
  | .hbm, ⟨39, _⟩ => ⟨S_, .i32⟩
  | .hbm, ⟨40, _⟩ => ⟨S128x2048, .i32⟩
  | .hbm, ⟨41, _⟩ => ⟨S128x2048, .i32⟩
  | .hbm, ⟨42, _⟩ => ⟨S128x2048, .i32⟩
  | .hbm, ⟨43, _⟩ => ⟨S_, .i32⟩
  | .hbm, ⟨44, _⟩ => ⟨S128x2048, .i32⟩
  | .hbm, ⟨45, _⟩ => ⟨S128x2048, .i32⟩
  | .hbm, ⟨46, _⟩ => ⟨S128x2048, .i1⟩
  | .hbm, ⟨47, _⟩ => ⟨S_, .f32⟩
  | .hbm, ⟨48, _⟩ => ⟨S_, .f32⟩
  | .hbm, ⟨49, _⟩ => ⟨S128x2048, .f32⟩
  | .hbm, ⟨50, _⟩ => ⟨S128x2048, .f32⟩
  | .hbm, ⟨51, _⟩ => ⟨S128x2048, .f32⟩
  | .hbm, ⟨52, _⟩ => ⟨S32x2048, .i32⟩
  | .hbm, ⟨53, _⟩ => ⟨S32x2048, .i32⟩
  | .hbm, ⟨54, _⟩ => ⟨S_, .i32⟩
  | .hbm, ⟨55, _⟩ => ⟨S32x2048, .i32⟩
  | .hbm, ⟨56, _⟩ => ⟨S32x2048, .i32⟩
  | .hbm, ⟨57, _⟩ => ⟨S32x2048, .i1⟩
  | .hbm, ⟨58, _⟩ => ⟨S_, .f32⟩
  | .hbm, ⟨59, _⟩ => ⟨S_, .f32⟩
  | .hbm, ⟨60, _⟩ => ⟨S32x2048, .f32⟩
  | .hbm, ⟨61, _⟩ => ⟨S32x2048, .f32⟩
  | .hbm, ⟨62, _⟩ => ⟨S32x2048, .f32⟩
  | .hbm, ⟨63, _⟩ => ⟨S2048x32, .i32⟩
  | .hbm, ⟨64, _⟩ => ⟨S2048x32, .i32⟩
  | .hbm, ⟨65, _⟩ => ⟨S_, .i32⟩
  | .hbm, ⟨66, _⟩ => ⟨S_, .i32⟩
  | .hbm, ⟨67, _⟩ => ⟨S2048x32, .i32⟩
  | .hbm, ⟨68, _⟩ => ⟨S2048x32, .i32⟩
  | .hbm, ⟨69, _⟩ => ⟨S2048x32, .i32⟩
  | .hbm, ⟨70, _⟩ => ⟨S_, .i32⟩
  | .hbm, ⟨71, _⟩ => ⟨S2048x32, .i32⟩
  | .hbm, ⟨72, _⟩ => ⟨S2048x32, .i1⟩
  | .hbm, ⟨73, _⟩ => ⟨S2048x32, .i32⟩
  | .hbm, ⟨74, _⟩ => ⟨S2048x32, .i32⟩
  | .hbm, ⟨75, _⟩ => ⟨S_, .i32⟩
  | .hbm, ⟨76, _⟩ => ⟨S2048x32, .i32⟩
  | .hbm, ⟨77, _⟩ => ⟨S2048x32, .i1⟩
  | .hbm, ⟨78, _⟩ => ⟨S2048x32, .i1⟩
  | .hbm, ⟨79, _⟩ => ⟨S_, .i32⟩
  | .hbm, ⟨80, _⟩ => ⟨S2048x32, .i32⟩
  | .hbm, ⟨81, _⟩ => ⟨S2048x32, .i32⟩
  | .hbm, ⟨82, _⟩ => ⟨S2048x32, .i32⟩
  | .hbm, ⟨83, _⟩ => ⟨S2048x32, .i1⟩
  | .hbm, ⟨84, _⟩ => ⟨S_, .f32⟩
  | .hbm, ⟨85, _⟩ => ⟨S_, .f32⟩
  | .hbm, ⟨86, _⟩ => ⟨S2048x32, .f32⟩
  | .hbm, ⟨87, _⟩ => ⟨S2048x32, .f32⟩
  | .hbm, ⟨88, _⟩ => ⟨S2048x32, .f32⟩
  | .hbm, ⟨89, _⟩ => ⟨S32x64, .f32⟩
  | .hbm, ⟨90, _⟩ => ⟨S2048, .f32⟩
  | .hbm, ⟨91, _⟩ => ⟨S1x2048, .f32⟩
  | .hbm, ⟨92, _⟩ => ⟨S32x64, .f32⟩
  | .hbm, ⟨93, _⟩ => ⟨S2048, .f32⟩
  | .hbm, ⟨94, _⟩ => ⟨S1x2048, .f32⟩
  | .hbm, ⟨95, _⟩ => ⟨S32x64, .f32⟩
  | .hbm, ⟨96, _⟩ => ⟨S2048, .f32⟩
  | .hbm, ⟨97, _⟩ => ⟨S1x2048, .f32⟩
  | .hbm, ⟨98, _⟩ => ⟨S1x2048, .f32⟩
  | .hbm, ⟨99, _⟩ => ⟨S128x2048, .bf16⟩
  | .hbm, ⟨100, _⟩ => ⟨S32x2048, .bf16⟩
  | .hbm, ⟨101, _⟩ => ⟨S2048x32, .bf16⟩
  | .hbm, ⟨102, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S4x2048, .f32⟩
  | .local _ .vmem, ⟨11, _⟩ => ⟨S4x512, .f32⟩
  | .local _ .vmem, ⟨12, _⟩ => ⟨S4x512, .f32⟩
  | .local _ .vmem, ⟨13, _⟩ => ⟨S1x2048, .f32⟩
  | .local _ .vmem, ⟨14, _⟩ => ⟨S1x512, .f32⟩
  | .local _ .vmem, ⟨15, _⟩ => ⟨S1x512, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S128x2048, .bf16⟩
  | .local _ .vmem, ⟨21, _⟩ => ⟨S32x2048, .bf16⟩
  | .local _ .vmem, ⟨22, _⟩ => ⟨S2048x32, .bf16⟩
  | .local _ .vmem, ⟨23, _⟩ => ⟨S256x2048, .f32⟩
  | .local _ .vmem, ⟨24, _⟩ => ⟨S256x2048, .f32⟩
  | .local _ .vmem, ⟨25, _⟩ => ⟨S8x2048, .f32⟩
  | .local _ .vmem, ⟨26, _⟩ => ⟨S8x512, .f32⟩
  | .local _ .vmem, ⟨27, _⟩ => ⟨S8x512, .f32⟩
  | .local _ .vmem, ⟨28, _⟩ => ⟨S2048x128, .f32⟩
  | .local _ .vmem, ⟨29, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_cst_6 : Ref sig .tc := ⟨.hbm, 59, rfl⟩
abbrev main_call2_v0 : Ref sig .tc := ⟨.hbm, 60, rfl⟩
abbrev main_call2_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_c_7 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_c : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_0 : Ref sig .tc := ⟨.hbm, 79, rfl⟩
abbrev main_call3_v12 : Ref sig .tc := ⟨.hbm, 80, rfl⟩
abbrev main_call3_v13 : Ref sig .tc := ⟨.hbm, 81, rfl⟩
abbrev main_v27 : Ref sig .tc := ⟨.hbm, 82, rfl⟩
abbrev main_v28 : Ref sig .tc := ⟨.hbm, 83, rfl⟩
abbrev main_cst_8 : Ref sig .tc := ⟨.hbm, 84, rfl⟩
abbrev main_cst_9 : Ref sig .tc := ⟨.hbm, 85, rfl⟩
abbrev main_call4_v0 : Ref sig .tc := ⟨.hbm, 86, rfl⟩
abbrev main_call4_v1 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c12_i32 : BitVec 32 := 12#32
  let c0_i32 : BitVec 32 := 0#32
  ![v1.toNat, c12_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c13_i32 : BitVec 32 := 13#32
  let c0_i32 : BitVec 32 := 0#32
  ![v1.toNat, c13_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S32x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2048x32 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S16384x3072 : Shape := ⟨2, ![16384, 3072]⟩
abbrev S16384x32 : Shape := ⟨2, ![16384, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2x8192x3072 : Shape := ⟨3, ![2, 8192, 3072]⟩
abbrev S2x8192x32 : Shape := ⟨3, ![2, 8192, 32]⟩
abbrev S_ : Shape := ⟨0, ![]⟩
abbrev S2x8195x3072 : Shape := ⟨3, ![2, 8195, 3072]⟩
abbrev S1x3072 : Shape := ⟨2, ![1, 3072]⟩
abbrev S1x1x3072 : Shape := ⟨3, ![1, 1, 3072]⟩
abbrev S2x8192x2048 : Shape := ⟨3, ![2, 8192, 2048]⟩
abbrev S2x8192x512 : Shape := ⟨3, ![2, 8192, 512]⟩
abbrev S2x8192x4x8x64 : Shape := ⟨5, ![2, 8192, 4, 8, 64]⟩
abbrev S2x8192x4x128 : Shape := ⟨4, ![2, 8192, 4, 128]⟩
abbrev S1x1x32 : Shape := ⟨3, ![1, 1, 32]⟩
abbrev S2x8192x4x8 : Shape := ⟨4, ![2, 8192, 4, 8]⟩
abbrev S4x8 : Shape := ⟨2, ![4, 8]⟩
abbrev S256x256 : Shape := ⟨2, ![256, 256]⟩
abbrev S2x4x8x64x128 : Shape := ⟨5, ![2, 4, 8, 64, 128]⟩
abbrev S2x32x256x4x8x64 : Shape := ⟨6, ![2, 32, 256, 4, 8, 64]⟩
abbrev S32x2x256x4x8x64 : Shape := ⟨6, ![32, 2, 256, 4, 8, 64]⟩
abbrev S2x32x256x4x8 : Shape := ⟨5, ![2, 32, 256, 4, 8]⟩
abbrev S32x2x256x4x8 : Shape := ⟨5, ![32, 2, 256, 4, 8]⟩
abbrev S2x32x256x4x128 : Shape := ⟨5, ![2, 32, 256, 4, 128]⟩
abbrev S32x2x256x4x128 : Shape := ⟨5, ![32, 2, 256, 4, 128]⟩
abbrev S1x2x256x4x8x64 : Shape := ⟨6, ![1, 2, 256, 4, 8, 64]⟩
abbrev S2x256x4x8x64 : Shape := ⟨5, ![2, 256, 4, 8, 64]⟩
abbrev S1x2x256x4x8 : Shape := ⟨5, ![1, 2, 256, 4, 8]⟩
abbrev S2x256x4x8 : Shape := ⟨4, ![2, 256, 4, 8]⟩
abbrev S1x2x256x4x128 : Shape := ⟨5, ![1, 2, 256, 4, 128]⟩
abbrev S2x256x4x128 : Shape := ⟨4, ![2, 256, 4, 128]⟩
abbrev S1x1x4x8 : Shape := ⟨4, ![1, 1, 4, 8]⟩
abbrev S2x256x1x4x8 : Shape := ⟨5, ![2, 256, 1, 4, 8]⟩
abbrev S2x1x256x4x8 : Shape := ⟨5, ![2, 1, 256, 4, 8]⟩
abbrev S2x256x256x4x8 : Shape := ⟨5, ![2, 256, 256, 4, 8]⟩
abbrev S1x256x256x1x1 : Shape := ⟨5, ![1, 256, 256, 1, 1]⟩
abbrev S2x256x4x8x1 : Shape := ⟨5, ![2, 256, 4, 8, 1]⟩
abbrev S2x4x256x256 : Shape := ⟨4, ![2, 4, 256, 256]⟩
abbrev S2x256x256x4 : Shape := ⟨4, ![2, 256, 256, 4]⟩
abbrev S2x256x256x4x1 : Shape := ⟨5, ![2, 256, 256, 4, 1]⟩
abbrev S2x4x8x64x256 : Shape := ⟨5, ![2, 4, 8, 64, 256]⟩
abbrev S2x1x4x8 : Shape := ⟨4, ![2, 1, 4, 8]⟩
abbrev S2x4x8 : Shape := ⟨3, ![2, 4, 8]⟩
abbrev S2x4x8x1x1 : Shape := ⟨5, ![2, 4, 8, 1, 1]⟩
abbrev S4x8x1 : Shape := ⟨3, ![4, 8, 1]⟩
abbrev S1x1x4x8x1 : Shape := ⟨5, ![1, 1, 4, 8, 1]⟩
abbrev S2x8192x4x512 : Shape := ⟨4, ![2, 8192, 4, 512]⟩
abbrev S2x8192x4 : Shape := ⟨3, ![2, 8192, 4]⟩
abbrev S2x8192x4x1 : Shape := ⟨4, ![2, 8192, 4, 1]⟩
abbrev S1x1x2048 : Shape := ⟨3, ![1, 1, 2048]⟩

abbrev nBuf : Space → Nat
  | .hbm => 237
  | .vmem => 0
  | .smem => 0
  | _ => 0

abbrev hbmTy0_0 (i : Nat) : BufTy := match i % 128 with
  | 0 => ⟨S16384x2048, .f32⟩
  | 1 => ⟨S16384x3072, .f32⟩
  | 2 => ⟨S16384x32, .f32⟩
  | 3 => ⟨S4x3072, .f32⟩
  | 4 => ⟨S3072, .f32⟩
  | 5 => ⟨S32, .f32⟩
  | 6 => ⟨S32, .f32⟩
  | 7 => ⟨S32, .f32⟩
  | 8 => ⟨S2048, .f32⟩
  | 9 => ⟨S2x8192x3072, .f32⟩
  | 10 => ⟨S2x8192x32, .f32⟩
  | 11 => ⟨S_, .i32⟩
  | 12 => ⟨S_, .f32⟩
  | 13 => ⟨S2x8195x3072, .f32⟩
  | 14 => ⟨S2x8192x3072, .f32⟩
  | 15 => ⟨S1x3072, .f32⟩
  | 16 => ⟨S3072, .f32⟩
  | 17 => ⟨S1x1x3072, .f32⟩
  | 18 => ⟨S2x8192x3072, .f32⟩
  | 19 => ⟨S2x8192x3072, .f32⟩
  | 20 => ⟨S2x8192x3072, .f32⟩
  | 21 => ⟨S1x3072, .f32⟩
  | 22 => ⟨S3072, .f32⟩
  | 23 => ⟨S1x1x3072, .f32⟩
  | 24 => ⟨S2x8192x3072, .f32⟩
  | 25 => ⟨S2x8192x3072, .f32⟩
  | 26 => ⟨S2x8192x3072, .f32⟩
  | 27 => ⟨S2x8192x3072, .f32⟩
  | 28 => ⟨S1x3072, .f32⟩
  | 29 => ⟨S3072, .f32⟩
  | 30 => ⟨S1x1x3072, .f32⟩
  | 31 => ⟨S2x8192x3072, .f32⟩
  | 32 => ⟨S2x8192x3072, .f32⟩
  | 33 => ⟨S2x8192x3072, .f32⟩
  | 34 => ⟨S2x8192x3072, .f32⟩
  | 35 => ⟨S1x3072, .f32⟩
  | 36 => ⟨S3072, .f32⟩
  | 37 => ⟨S1x1x3072, .f32⟩
  | 38 => ⟨S2x8192x3072, .f32⟩
  | 39 => ⟨S2x8192x3072, .f32⟩
  | 40 => ⟨S2x8192x3072, .f32⟩
  | 41 => ⟨S1x1x3072, .f32⟩
  | 42 => ⟨S2x8192x3072, .f32⟩
  | 43 => ⟨S2x8192x3072, .f32⟩
  | 44 => ⟨S2x8192x3072, .f32⟩
  | 45 => ⟨S2x8192x3072, .f32⟩
  | 46 => ⟨S_, .f32⟩
  | 47 => ⟨S2x8192x3072, .f32⟩
  | 48 => ⟨S2x8192x3072, .f32⟩
  | 49 => ⟨S_, .f32⟩
  | 50 => ⟨S2x8192x3072, .f32⟩
  | 51 => ⟨S2x8192x3072, .f32⟩
  | 52 => ⟨S2x8192x3072, .f32⟩
  | 53 => ⟨S2x8192x2048, .f32⟩
  | 54 => ⟨S2x8192x512, .f32⟩
  | 55 => ⟨S2x8192x512, .f32⟩
  | 56 => ⟨S2x8192x4x8x64, .f32⟩
  | 57 => ⟨S2x8192x4x128, .f32⟩
  | 58 => ⟨S2x8192x4x128, .f32⟩
  | 59 => ⟨S1x1x32, .f32⟩
  | 60 => ⟨S2x8192x32, .f32⟩
  | 61 => ⟨S2x8192x32, .f32⟩
  | 62 => ⟨S_, .f32⟩
  | 63 => ⟨S2x8192x32, .f32⟩
  | 64 => ⟨S2x8192x32, .f32⟩
  | 65 => ⟨S2x8192x32, .f32⟩
  | 66 => ⟨S2x8192x32, .f32⟩
  | 67 => ⟨S2x8192x32, .i1⟩
  | 68 => ⟨S2x8192x32, .f32⟩
  | 69 => ⟨S2x8192x32, .f32⟩
  | 70 => ⟨S2x8192x32, .f32⟩
  | 71 => ⟨S2x8192x32, .f32⟩
  | 72 => ⟨S2x8192x32, .f32⟩
  | 73 => ⟨S2x8192x32, .f32⟩
  | 74 => ⟨S2x8192x32, .f32⟩
  | 75 => ⟨S2x8192x32, .f32⟩
  | 76 => ⟨S2x8192x4x8, .f32⟩
  | 77 => ⟨S32, .f32⟩
  | 78 => ⟨S4x8, .f32⟩
  | 79 => ⟨S4x8, .f32⟩
  | 80 => ⟨S_, .i1⟩
  | 81 => ⟨S256x256, .i1⟩
  | 82 => ⟨S256x256, .i32⟩
  | 83 => ⟨S_, .i32⟩
  | 84 => ⟨S256x256, .i32⟩
  | 85 => ⟨S256x256, .i32⟩
  | 86 => ⟨S256x256, .i32⟩
  | 87 => ⟨S256x256, .i1⟩
  | 88 => ⟨S_, .i1⟩
  | 89 => ⟨S256x256, .i1⟩
  | 90 => ⟨S256x256, .i1⟩
  | 91 => ⟨S_, .f32⟩
  | 92 => ⟨S2x4x8x64x128, .f32⟩
  | 93 => ⟨S2x32x256x4x8x64, .f32⟩
  | 94 => ⟨S32x2x256x4x8x64, .f32⟩
  | 95 => ⟨S2x32x256x4x8, .f32⟩
  | 96 => ⟨S32x2x256x4x8, .f32⟩
  | 97 => ⟨S2x32x256x4x128, .f32⟩
  | 98 => ⟨S32x2x256x4x128, .f32⟩
  | 99 => ⟨S2x32x256x4x128, .f32⟩
  | 100 => ⟨S32x2x256x4x128, .f32⟩
  | 101 => ⟨S_, .f32⟩
  | 102 => ⟨S32x2x256x4x8x64, .f32⟩
  | 103 => ⟨S_, .i32⟩
  | 104 => ⟨S32x2x256x4x8x64, .f32⟩
  | 105 => ⟨S32x2x256x4x8, .f32⟩
  | 106 => ⟨S32x2x256x4x128, .f32⟩
  | 107 => ⟨S32x2x256x4x128, .f32⟩
  | 108 => ⟨S4x8, .f32⟩
  | 109 => ⟨S256x256, .i1⟩
  | 110 => ⟨S32, .f32⟩
  | 111 => ⟨S_, .i32⟩
  | 112 => ⟨S2x4x8x64x128, .f32⟩
  | 113 => ⟨S32x2x256x4x8x64, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S1x2x256x4x8x64, .f32⟩
  | 122 => ⟨S2x256x4x8x64, .f32⟩
  | 123 => ⟨S_, .i32⟩
  | 124 => ⟨S_, .i32⟩
  | 125 => ⟨S_, .i32⟩
  | 126 => ⟨S_, .i32⟩
  | 127 => ⟨S1x2x256x4x8, .f32⟩
  | _ => ⟨S16384x2048, .f32⟩

abbrev hbmTy0_1 (i : Nat) : BufTy := match i % 128 with
  | 0 => ⟨S2x256x4x8, .f32⟩
  | 1 => ⟨S_, .i32⟩
  | 2 => ⟨S_, .i32⟩
  | 3 => ⟨S_, .i32⟩
  | 4 => ⟨S_, .i32⟩
  | 5 => ⟨S1x2x256x4x128, .f32⟩
  | 6 => ⟨S2x256x4x128, .f32⟩
  | 7 => ⟨S_, .i32⟩
  | 8 => ⟨S_, .i32⟩
  | 9 => ⟨S_, .i32⟩
  | 10 => ⟨S_, .i32⟩
  | 11 => ⟨S1x2x256x4x128, .f32⟩
  | 12 => ⟨S2x256x4x128, .f32⟩
  | 13 => ⟨S1x1x4x8, .f32⟩
  | 14 => ⟨S2x256x4x8, .f32⟩
  | 15 => ⟨S2x256x4x8, .f32⟩
  | 16 => ⟨S_, .f32⟩
  | 17 => ⟨S_, .f32⟩
  | 18 => ⟨S2x256x4x8, .f32⟩
  | 19 => ⟨S2x256x1x4x8, .f32⟩
  | 20 => ⟨S2x1x256x4x8, .f32⟩
  | 21 => ⟨S2x256x256x4x8, .f32⟩
  | 22 => ⟨S2x256x256x4x8, .f32⟩
  | 23 => ⟨S2x256x256x4x8, .f32⟩
  | 24 => ⟨S1x256x256x1x1, .i1⟩
  | 25 => ⟨S_, .f32⟩
  | 26 => ⟨S_, .f32⟩
  | 27 => ⟨S2x256x256x4x8, .i1⟩
  | 28 => ⟨S2x256x256x4x8, .f32⟩
  | 29 => ⟨S2x256x256x4x8, .f32⟩
  | 30 => ⟨S2x256x256x4x8, .f32⟩
  | 31 => ⟨S2x256x4x8x1, .f32⟩
  | 32 => ⟨S2x256x4x8x64, .f32⟩
  | 33 => ⟨S2x256x4x8x64, .f32⟩
  | 34 => ⟨S2x4x256x256, .f32⟩
  | 35 => ⟨S2x256x256x4, .f32⟩
  | 36 => ⟨S2x256x256x4x1, .f32⟩
  | 37 => ⟨S2x256x256x4x8, .f32⟩
  | 38 => ⟨S2x256x256x4x8, .f32⟩
  | 39 => ⟨S2x4x8x64x256, .f32⟩
  | 40 => ⟨S2x256x4x8x64, .f32⟩
  | 41 => ⟨S2x4x8x64x256, .f32⟩
  | 42 => ⟨S2x256x4x8x64, .f32⟩
  | 43 => ⟨S2x256x4x8, .f32⟩
  | 44 => ⟨S2x256x4x8x1, .f32⟩
  | 45 => ⟨S2x256x4x8x64, .f32⟩
  | 46 => ⟨S2x256x4x8x64, .f32⟩
  | 47 => ⟨S2x256x4x8x64, .f32⟩
  | 48 => ⟨S2x1x4x8, .f32⟩
  | 49 => ⟨S2x256x4x8, .f32⟩
  | 50 => ⟨S2x256x4x8, .f32⟩
  | 51 => ⟨S2x256x4x8, .f32⟩
  | 52 => ⟨S2x1x4x8, .f32⟩
  | 53 => ⟨S2x4x8, .f32⟩
  | 54 => ⟨S2x4x8, .f32⟩
  | 55 => ⟨S2x4x8x1x1, .f32⟩
  | 56 => ⟨S2x4x8x64x128, .f32⟩
  | 57 => ⟨S2x4x8x64x128, .f32⟩
  | 58 => ⟨S2x256x4x8x1, .f32⟩
  | 59 => ⟨S2x256x4x8x64, .f32⟩
  | 60 => ⟨S2x256x4x8x64, .f32⟩
  | 61 => ⟨S2x4x8x64x128, .f32⟩
  | 62 => ⟨S2x4x8x64x128, .f32⟩
  | 63 => ⟨S4x8x1, .f32⟩
  | 64 => ⟨S1x1x4x8x1, .f32⟩
  | 65 => ⟨S2x256x4x8x64, .f32⟩
  | 66 => ⟨S2x256x4x8x64, .f32⟩
  | 67 => ⟨S2x256x4x8x64, .f32⟩
  | 68 => ⟨S1x2x256x4x8x64, .f32⟩
  | 69 => ⟨S_, .i32⟩
  | 70 => ⟨S_, .i32⟩
  | 71 => ⟨S_, .i32⟩
  | 72 => ⟨S_, .i32⟩
  | 73 => ⟨S_, .i32⟩
  | 74 => ⟨S32x2x256x4x8x64, .f32⟩
  | 75 => ⟨S_, .i32⟩
  | 76 => ⟨S_, .i32⟩
  | 77 => ⟨S2x32x256x4x8x64, .f32⟩
  | 78 => ⟨S2x8192x2048, .f32⟩
  | 79 => ⟨S2x8192x2048, .f32⟩
  | 80 => ⟨S2x8192x2048, .f32⟩
  | 81 => ⟨S2x8192x2048, .f32⟩
  | 82 => ⟨S_, .f32⟩
  | 83 => ⟨S2x8192x2048, .f32⟩
  | 84 => ⟨S2x8192x2048, .f32⟩
  | 85 => ⟨S_, .f32⟩
  | 86 => ⟨S2x8192x2048, .f32⟩
  | 87 => ⟨S2x8192x2048, .f32⟩
  | 88 => ⟨S2x8192x2048, .f32⟩
  | 89 => ⟨S2x8192x2048, .f32⟩
  | 90 => ⟨S2x8192x4x512, .f32⟩
  | 91 => ⟨S2x8192x4x512, .f32⟩
  | 92 => ⟨S_, .f32⟩
  | 93 => ⟨S2x8192x4, .f32⟩
  | 94 => ⟨S2x8192x4x1, .f32⟩
  | 95 => ⟨S_, .f32⟩
  | 96 => ⟨S2x8192x4x1, .f32⟩
  | 97 => ⟨S2x8192x4x1, .f32⟩
  | 98 => ⟨S_, .f32⟩
  | 99 => ⟨S2x8192x4x1, .f32⟩
  | 100 => ⟨S2x8192x4x1, .f32⟩
  | 101 => ⟨S2x8192x4x1, .f32⟩
  | 102 => ⟨S2x8192x4x512, .f32⟩
  | 103 => ⟨S2x8192x4x512, .f32⟩
  | 104 => ⟨S2x8192x2048, .f32⟩
  | 105 => ⟨S1x1x2048, .f32⟩
  | 106 => ⟨S2x8192x2048, .f32⟩
  | 107 => ⟨S2x8192x2048, .f32⟩
  | 108 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_0 : Ref sig .tc := ⟨.hbm, 80, rfl⟩
abbrev main_v48 : Ref sig .tc := ⟨.hbm, 81, rfl⟩
abbrev main_call3_v0 : Ref sig .tc := ⟨.hbm, 82, rfl⟩
abbrev main_call3_c : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_0 : Ref sig .tc := ⟨.hbm, 88, rfl⟩
abbrev main_call3_v5 : Ref sig .tc := ⟨.hbm, 89, rfl⟩
abbrev main_v49 : Ref sig .tc := ⟨.hbm, 90, rfl⟩
abbrev main_cst : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_1 : Ref sig .tc := ⟨.hbm, 101, rfl⟩
abbrev main_v59 : Ref sig .tc := ⟨.hbm, 102, rfl⟩
abbrev main_c_2 : Ref sig .tc := ⟨.hbm, 103, rfl⟩
abbrev main_v60_0 : Ref sig .tc := ⟨.hbm, 104, rfl⟩
abbrev main_v60_1 : Ref sig .tc := ⟨.hbm, 105, rfl⟩
abbrev main_v60_2 : Ref sig .tc := ⟨.hbm, 106, rfl⟩
abbrev main_v60_3 : Ref sig .tc := ⟨.hbm, 107, rfl⟩
abbrev main_v60_4 : Ref sig .tc := ⟨.hbm, 108, rfl⟩
abbrev main_v60_5 : Ref sig .tc := ⟨.hbm, 109, rfl⟩
abbrev main_v60_6 : Ref sig .tc := ⟨.hbm, 110, rfl⟩
abbrev main_v60_7 : Ref sig .tc := ⟨.hbm, 111, rfl⟩
abbrev main_v60_8 : Ref sig .tc := ⟨.hbm, 112, rfl⟩
abbrev main_v60_9 : Ref sig .tc := ⟨.hbm, 113, rfl⟩
abbrev main_while0c_c_15 : Ref sig .tc := ⟨.hbm, 114, rfl⟩
abbrev main_while0c_v82 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_call4_c_1 : Ref sig .tc := ⟨.hbm, 118, rfl⟩
abbrev main_while0b_call4_c_2 : Ref sig .tc := ⟨.hbm, 119, rfl⟩
abbrev main_while0b_call4_c_3 : Ref sig .tc := ⟨.hbm, 120, rfl⟩
abbrev main_while0b_call4_v0 : Ref sig .tc := ⟨.hbm, 121, rfl⟩
abbrev main_while0b_v82 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_c_2 : Ref sig .tc := ⟨.hbm, 126, rfl⟩
abbrev main_while0b_call5_v0 : Ref sig .tc := ⟨.hbm, 127, rfl⟩
abbrev main_while0b_v83 : Ref sig .tc := ⟨.hbm, 128, rfl⟩
abbrev main_while0b_call6_c : Ref sig .tc := ⟨.hbm, 129, rfl⟩
abbrev main_while0b_call6_c_0 : Ref sig .tc := ⟨.hbm, 130, rfl⟩
abbrev main_while0b_call6_c_1 : Ref sig .tc := ⟨.hbm, 131, rfl⟩
abbrev main_while0b_call6_c_2 : Ref sig .tc := ⟨.hbm, 132, rfl⟩
abbrev main_while0b_call6_v0 : Ref sig .tc := ⟨.hbm, 133, rfl⟩
abbrev main_while0b_v84 : Ref sig .tc := ⟨.hbm, 134, rfl⟩
abbrev main_while0b_call7_c : Ref sig .tc := ⟨.hbm, 135, rfl⟩
abbrev main_while0b_call7_c_0 : Ref sig .tc := ⟨.hbm, 136, rfl⟩
abbrev main_while0b_call7_c_1 : Ref sig .tc := ⟨.hbm, 137, rfl⟩
abbrev main_while0b_call7_c_2 : Ref sig .tc := ⟨.hbm, 138, rfl⟩
abbrev main_while0b_call7_v0 : Ref sig .tc := ⟨.hbm, 139, rfl⟩
abbrev main_while0b_v85 : Ref sig .tc := ⟨.hbm, 140, rfl⟩
abbrev main_while0b_v86 : Ref sig .tc := ⟨.hbm, 141, rfl⟩
abbrev main_while0b_v87 : Ref sig .tc := ⟨.hbm, 142, rfl⟩
abbrev main_while0b_v88 : Ref sig .tc := ⟨.hbm, 143, rfl⟩
abbrev main_while0b_call8_call0_cst : Ref sig .tc := ⟨.hbm, 144, rfl⟩
abbrev main_while0b_call8_call0_v0 : Ref sig .tc := ⟨.hbm, 145, rfl⟩
abbrev main_while0b_v89 : Ref sig .tc := ⟨.hbm, 146, rfl⟩
abbrev main_while0b_v90 : Ref sig .tc := ⟨.hbm, 147, rfl⟩
abbrev main_while0b_v91 : Ref sig .tc := ⟨.hbm, 148, rfl⟩
abbrev main_while0b_v92 : Ref sig .tc := ⟨.hbm, 149, rfl⟩
abbrev main_while0b_v93 : Ref sig .tc := ⟨.hbm, 150, rfl⟩
abbrev main_while0b_v94 : Ref sig .tc := ⟨.hbm, 151, rfl⟩
abbrev main_while0b_v95 : Ref sig .tc := ⟨.hbm, 152, rfl⟩
abbrev main_while0b_cst_15 : Ref sig .tc := ⟨.hbm, 153, rfl⟩
abbrev main_while0b_call9_v0 : Ref sig .tc := ⟨.hbm, 154, rfl⟩
abbrev main_while0b_call9_v1 : Ref sig .tc := ⟨.hbm, 155, rfl⟩
abbrev main_while0b_call9_v2 : Ref sig .tc := ⟨.hbm, 156, rfl⟩
abbrev main_while0b_v96 : Ref sig .tc := ⟨.hbm, 157, rfl⟩
abbrev main_while0b_v97 : Ref sig .tc := ⟨.hbm, 158, rfl⟩
abbrev main_while0b_v98 : Ref sig .tc := ⟨.hbm, 159, rfl⟩
abbrev main_while0b_v99 : Ref sig .tc := ⟨.hbm, 160, rfl⟩
abbrev main_while0b_v100 : Ref sig .tc := ⟨.hbm, 161, rfl⟩
abbrev main_while0b_v101 : Ref sig .tc := ⟨.hbm, 162, rfl⟩
abbrev main_while0b_v102 : Ref sig .tc := ⟨.hbm, 163, rfl⟩
abbrev main_while0b_v103 : Ref sig .tc := ⟨.hbm, 164, rfl⟩
abbrev main_while0b_v104 : Ref sig .tc := ⟨.hbm, 165, rfl⟩
abbrev main_while0b_v105 : Ref sig .tc := ⟨.hbm, 166, rfl⟩
abbrev main_while0b_v106 : Ref sig .tc := ⟨.hbm, 167, rfl⟩
abbrev main_while0b_v107 : Ref sig .tc := ⟨.hbm, 168, rfl⟩
abbrev main_while0b_v108 : Ref sig .tc := ⟨.hbm, 169, rfl⟩
abbrev main_while0b_v109 : Ref sig .tc := ⟨.hbm, 170, rfl⟩
abbrev main_while0b_v110 : Ref sig .tc := ⟨.hbm, 171, rfl⟩
abbrev main_while0b_v111 : Ref sig .tc := ⟨.hbm, 172, rfl⟩
abbrev main_while0b_v112 : Ref sig .tc := ⟨.hbm, 173, rfl⟩
abbrev main_while0b_v113 : Ref sig .tc := ⟨.hbm, 174, rfl⟩
abbrev main_while0b_v114 : Ref sig .tc := ⟨.hbm, 175, rfl⟩
abbrev main_while0b_v115 : Ref sig .tc := ⟨.hbm, 176, rfl⟩
abbrev main_while0b_v116 : Ref sig .tc := ⟨.hbm, 177, rfl⟩
abbrev main_while0b_v117 : Ref sig .tc := ⟨.hbm, 178, rfl⟩
abbrev main_while0b_v118 : Ref sig .tc := ⟨.hbm, 179, rfl⟩
abbrev main_while0b_v119 : Ref sig .tc := ⟨.hbm, 180, rfl⟩
abbrev main_while0b_v120 : Ref sig .tc := ⟨.hbm, 181, rfl⟩
abbrev main_while0b_v121 : Ref sig .tc := ⟨.hbm, 182, rfl⟩
abbrev main_while0b_v122 : Ref sig .tc := ⟨.hbm, 183, rfl⟩
abbrev main_while0b_v123 : Ref sig .tc := ⟨.hbm, 184, rfl⟩
abbrev main_while0b_v124 : Ref sig .tc := ⟨.hbm, 185, rfl⟩
abbrev main_while0b_v125 : Ref sig .tc := ⟨.hbm, 186, rfl⟩
abbrev main_while0b_v126 : Ref sig .tc := ⟨.hbm, 187, rfl⟩
abbrev main_while0b_v127 : Ref sig .tc := ⟨.hbm, 188, rfl⟩
abbrev main_while0b_v128 : Ref sig .tc := ⟨.hbm, 189, rfl⟩
abbrev main_while0b_v129 : Ref sig .tc := ⟨.hbm, 190, rfl⟩
abbrev main_while0b_v130 : Ref sig .tc := ⟨.hbm, 191, rfl⟩
abbrev main_while0b_v131 : Ref sig .tc := ⟨.hbm, 192, rfl⟩
abbrev main_while0b_v132 : Ref sig .tc := ⟨.hbm, 193, rfl⟩
abbrev main_while0b_v133 : Ref sig .tc := ⟨.hbm, 194, rfl⟩
abbrev main_while0b_v134 : Ref sig .tc := ⟨.hbm, 195, rfl⟩
abbrev main_while0b_call10_v0 : Ref sig .tc := ⟨.hbm, 196, rfl⟩
abbrev main_while0b_call10_c : Ref sig .tc := ⟨.hbm, 197, rfl⟩
abbrev main_while0b_call10_c_0 : Ref sig .tc := ⟨.hbm, 198, rfl⟩
abbrev main_while0b_call10_c_1 : Ref sig .tc := ⟨.hbm, 199, rfl⟩
abbrev main_while0b_call10_c_2 : Ref sig .tc := ⟨.hbm, 200, rfl⟩
abbrev main_while0b_call10_c_3 : Ref sig .tc := ⟨.hbm, 201, rfl⟩
abbrev main_while0b_v135 : Ref sig .tc := ⟨.hbm, 202, rfl⟩
abbrev main_while0b_c_16 : Ref sig .tc := ⟨.hbm, 203, rfl⟩
abbrev main_while0b_v136 : Ref sig .tc := ⟨.hbm, 204, rfl⟩
abbrev main_v61 : Ref sig .tc := ⟨.hbm, 205, rfl⟩
abbrev main_v62 : Ref sig .tc := ⟨.hbm, 206, rfl⟩
abbrev main_v63 : Ref sig .tc := ⟨.hbm, 207, rfl⟩
abbrev main_call11_v0 : Ref sig .tc := ⟨.hbm, 208, rfl⟩
abbrev main_call11_v1 : Ref sig .tc := ⟨.hbm, 209, rfl⟩
abbrev main_call11_cst : Ref sig .tc := ⟨.hbm, 210, rfl⟩
abbrev main_call11_v2 : Ref sig .tc := ⟨.hbm, 211, rfl⟩
abbrev main_call11_v3 : Ref sig .tc := ⟨.hbm, 212, rfl⟩
abbrev main_call11_cst_0 : Ref sig .tc := ⟨.hbm, 213, rfl⟩
abbrev main_call11_v4 : Ref sig .tc := ⟨.hbm, 214, rfl⟩
abbrev main_call11_v5 : Ref sig .tc := ⟨.hbm, 215, rfl⟩
abbrev main_v64 : Ref sig .tc := ⟨.hbm, 216, rfl⟩
abbrev main_v65 : Ref sig .tc := ⟨.hbm, 217, rfl⟩
abbrev main_v66 : Ref sig .tc := ⟨.hbm, 218, rfl⟩
abbrev main_v67 : Ref sig .tc := ⟨.hbm, 219, rfl⟩
abbrev main_cst_3 : Ref sig .tc := ⟨.hbm, 220, rfl⟩
abbrev main_v68 : Ref sig .tc := ⟨.hbm, 221, rfl⟩
abbrev main_v69 : Ref sig .tc := ⟨.hbm, 222, rfl⟩
abbrev main_cst_4 : Ref sig .tc := ⟨.hbm, 223, rfl⟩
abbrev main_v70 : Ref sig .tc := ⟨.hbm, 224, rfl⟩
abbrev main_v71 : Ref sig .tc := ⟨.hbm, 225, rfl⟩
abbrev main_cst_5 : Ref sig .tc := ⟨.hbm, 226, rfl⟩
abbrev main_v72 : Ref sig .tc := ⟨.hbm, 227, rfl⟩
abbrev main_v73 : Ref sig .tc := ⟨.hbm, 228, rfl⟩
abbrev main_v74 : Ref sig .tc := ⟨.hbm, 229, rfl⟩
abbrev main_v75 : Ref sig .tc := ⟨.hbm, 230, rfl⟩
abbrev main_v76 : Ref sig .tc := ⟨.hbm, 231, rfl⟩
abbrev main_v77 : Ref sig .tc := ⟨.hbm, 232, rfl⟩
abbrev main_v78 : Ref sig .tc := ⟨.hbm, 233, rfl⟩
abbrev main_v79 : Ref sig .tc := ⟨.hbm, 234, rfl⟩
abbrev main_v80 : Ref sig .tc := ⟨.hbm, 235, rfl⟩
abbrev main_v81 : Ref sig .tc := ⟨.hbm, 236, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S16384x5632 : Shape := ⟨2, ![16384, 5632]⟩
abbrev S1x1x5632x2048 : Shape := ⟨4, ![1, 1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x1x2048x5632, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x1x2048x5632, .f32⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S1x1x5632x2048, .f32⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S3072x2048 : Shape := ⟨2, ![3072, 2048]⟩
abbrev S2048 : Shape := ⟨1, ![2048]⟩
abbrev S1024x2048 : Shape := ⟨2, ![1024, 2048]⟩
abbrev S2048x2048 : Shape := ⟨2, ![2048, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S3072x2048, .f32⟩
  | .hbm, ⟨3, _⟩ => ⟨S16384x2048, .f32⟩
  | .hbm, ⟨4, _⟩ => ⟨S2048, .f32⟩
  | .hbm, ⟨5, _⟩ => ⟨S1024x2048, .f32⟩
  | .hbm, ⟨6, _⟩ => ⟨S1024x2048, .bf16⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S1024x2048, .bf16⟩
  | .local _ .vmem, ⟨5, _⟩ => ⟨S2048x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S16384x2048 : Shape := ⟨2, ![16384, 2048]⟩
abbrev S3072x2048 : Shape := ⟨2, ![3072, 2048]⟩
abbrev S2048 : Shape := ⟨1, ![2048]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S3072x2048, .f32⟩
  | .hbm, ⟨3, _⟩ => ⟨S16384x2048, .f32⟩
  | .hbm, ⟨4, _⟩ => ⟨S2048, .f32⟩
  | .hbm, ⟨5, _⟩ => ⟨S16384x3072, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S2048x8192 : Shape := ⟨2, ![2048, 8192]⟩
abbrev S1x2048 : Shape := ⟨2, ![1, 2048]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S2048x8192, .bf16⟩
  | .hbm, ⟨4, _⟩ => ⟨S1x2048, .f32⟩
  | .hbm, ⟨5, _⟩ => ⟨S16384x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048 : Shape := ⟨1, ![2048]⟩
abbrev S2048x8192 : Shape := ⟨2, ![2048, 8192]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x7168 : Shape := ⟨2, ![2048, 7168]⟩
abbrev S1x2048 : Shape := ⟨2, ![1, 2048]⟩
abbrev S16384x7168 : Shape := ⟨2, ![16384, 7168]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7168, .f32⟩
  | .hbm, ⟨3, _⟩ => ⟨S2048x7168, .bf16⟩
  | .hbm, ⟨4, _⟩ => ⟨S1x2048, .f32⟩
  | .hbm, ⟨5, _⟩ => ⟨S16384x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048 : Shape := ⟨1, ![2048]⟩
abbrev S2048x7168 : Shape := ⟨2, ![2048, 7168]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7168 : Shape := ⟨2, ![16384, 7168]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7168, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7168, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S2048x7736 : Shape := ⟨2, ![2048, 7736]⟩
abbrev S2048x1024 : Shape := ⟨2, ![2048, 1024]⟩
abbrev S2048x1536 : Shape := ⟨2, ![2048, 1536]⟩
abbrev S2048x24 : Shape := ⟨2, ![2048, 24]⟩
abbrev S2048x2048 : Shape := ⟨2, ![2048, 2048]⟩
abbrev S2048x512 : Shape := ⟨2, ![2048, 512]⟩
abbrev S2048x32 : Shape := ⟨2, ![2048, 32]⟩
abbrev S2048x12 : Shape := ⟨2, ![2048, 12]⟩
abbrev S_ : Shape := ⟨0, ![]⟩
abbrev S2048x72 : Shape := ⟨2, ![2048, 72]⟩
abbrev S2048x128 : Shape := ⟨2, ![2048, 128]⟩
abbrev S2048x116 : Shape := ⟨2, ![2048, 116]⟩
abbrev S2048x768 : Shape := ⟨2, ![2048, 768]⟩
abbrev S2048x7168 : Shape := ⟨2, ![2048, 7168]⟩
abbrev S1x2048 : Shape := ⟨2, ![1, 2048]⟩
abbrev S16384x1536 : Shape := ⟨2, ![16384, 1536]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 28
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7736, .f32⟩
  | .hbm, ⟨3, _⟩ => ⟨S2048x1024, .f32⟩
  | .hbm, ⟨4, _⟩ => ⟨S2048x1536, .f32⟩
  | .hbm, ⟨5, _⟩ => ⟨S2048x24, .f32⟩
  | .hbm, ⟨6, _⟩ => ⟨S2048x2048, .f32⟩
  | .hbm, ⟨7, _⟩ => ⟨S2048x2048, .f32⟩
  | .hbm, ⟨8, _⟩ => ⟨S2048x512, .f32⟩
  | .hbm, ⟨9, _⟩ => ⟨S2048x512, .f32⟩
  | .hbm, ⟨10, _⟩ => ⟨S2048x32, .f32⟩
  | .hbm, ⟨11, _⟩ => ⟨S2048x12, .f32⟩
  | .hbm, ⟨12, _⟩ => ⟨S_, .f32⟩
  | .hbm, ⟨13, _⟩ => ⟨S2048x12, .f32⟩
  | .hbm, ⟨14, _⟩ => ⟨S_, .f32⟩
  | .hbm, ⟨15, _⟩ => ⟨S2048x72, .f32⟩
  | .hbm, ⟨16, _⟩ => ⟨S2048x128, .f32⟩
  | .hbm, ⟨17, _⟩ => ⟨S2048x12, .f32⟩
  | .hbm, ⟨18, _⟩ => ⟨S_, .f32⟩
  | .hbm, ⟨19, _⟩ => ⟨S2048x116, .f32⟩
  | .hbm, ⟨20, _⟩ => ⟨S2048x128, .f32⟩
  | .hbm, ⟨21, _⟩ => ⟨S_, .f32⟩
  | .hbm, ⟨22, _⟩ => ⟨S2048x768, .f32⟩
  | .hbm, ⟨23, _⟩ => ⟨S2048x7168, .f32⟩
  | .hbm, ⟨24, _⟩ => ⟨S2048x7168, .bf16⟩
  | .hbm, ⟨25, _⟩ => ⟨S2048x1536, .bf16⟩
  | .hbm, ⟨26, _⟩ => ⟨S1x2048, .f32⟩
  | .hbm, ⟨27, _⟩ => ⟨S16384x1536, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x2048 : Shape := ⟨2, ![16384, 2048]⟩
abbrev S2048 : Shape := ⟨1, ![2048]⟩
abbrev S2048x7736 : Shape := ⟨2, ![2048, 7736]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7736 : Shape := ⟨2, ![16384, 7736]⟩
abbrev S16384x1536 : Shape := ⟨2, ![16384, 1536]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7736, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7736, .f32⟩
  | .hbm, ⟨20, _⟩ => ⟨S16384x1536, .f32⟩
  | .hbm, ⟨21, _⟩ => ⟨S16384x1536, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel7Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S16384x5632 : Shape := ⟨2, ![16384, 5632]⟩
abbrev S1x1x5632x2048 : Shape := ⟨4, ![1, 1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x1x2048x5632, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x1x2048x5632, .f32⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S1x1x5632x2048, .f32⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel8.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel8Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S16384x5632 : Shape := ⟨2, ![16384, 5632]⟩
abbrev S1x1x5632x2048 : Shape := ⟨4, ![1, 1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x1x2048x5632, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x1x2048x5632, .f32⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S1x1x5632x2048, .f32⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel9.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel9Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference9Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S16384x5632 : Shape := ⟨2, ![16384, 5632]⟩
abbrev S1x1x5632x2048 : Shape := ⟨4, ![1, 1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x1x2048x5632, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x1x2048x5632, .f32⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S1x1x5632x2048, .f32⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel10.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel10Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference10Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S16384x5632 : Shape := ⟨2, ![16384, 5632]⟩
abbrev S1x1x5632x2048 : Shape := ⟨4, ![1, 1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x1x2048x5632, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x1x2048x5632, .f32⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S1x1x5632x2048, .f32⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel11.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  ![c2_i32.toNat, c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel11Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  ![c2_i32.toNat, c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference11Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S16384x5632 : Shape := ⟨2, ![16384, 5632]⟩
abbrev S1x1x5632x2048 : Shape := ⟨4, ![1, 1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x1x2048x5632, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x1x2048x5632, .f32⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S1x1x5632x2048, .f32⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel12.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel12Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference12Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S16384x5632 : Shape := ⟨2, ![16384, 5632]⟩
abbrev S1x1x5632x2048 : Shape := ⟨4, ![1, 1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x1x2048x5632, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x1x2048x5632, .f32⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S1x1x5632x2048, .f32⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel13.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x512x2048, .bf16⟩
  | .local _ .vmem, ⟨9, _⟩ => ⟨S1x1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference13Ideal.lean ====
abbrev S16384x2048 : Shape := ⟨2, ![16384, 2048]⟩
abbrev S2048 : Shape := ⟨1, ![2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S16384x5632 : Shape := ⟨2, ![16384, 5632]⟩
abbrev S1x1x5632x2048 : Shape := ⟨4, ![1, 1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x1x2048x5632, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x1x2048x5632, .f32⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S1x1x5632x2048, .f32⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proof.Ssd.RunA.lean ====
/- Launch set-up of the mixer's program with its mask constant named: the run of its body at the first chunk of a sequence, which clears the carried scratch.
   The text is the launch's own run, with the room its long proof term needs. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE A (`scf.if` 0 taken: points 0, 32), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) :
    Σ' (L18 : List (View.Piece (Elt F) S256x2048 .f32)), Σ' (LS0 : List (View.Piece (Elt F) S8x2048 .f32)), Σ' (LS1 : List (View.Piece (Elt F) S8x512 .f32)), Σ' (LS2 : List (View.Piece (Elt F) S8x512 .f32)), Σ' (LS3 : List (View.Piece (Elt F) S2048x128 .f32)), { LT4 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3) ∗ (∃ f, arg25.view.loc (c : Thread nD τ) ↦[arg25.view.set]{fullShare} arg25.view.writes (Elt F) f LT4)) -∗ K ⟨⟩))
          ⊢ wp frame (wpE (defs₀ (F := F)) Variants.none c none) E (cc0_ssd_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_ssd_mixer_eq_skeleton]; unfold cc0_ssd_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.Ssd.RunB.lean ====
/- Launch set-up of the mixer's program with its mask constant named: the run of its body at the later chunks of a sequence, which read the carried scratch.
   The text is the launch's own run, with the room its long proof term needs. -/
module

public import proofs.«01_k».proof.Proof.Ssd.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE B (`scf.if` 0 not taken: points 1, 2, … 63: 62 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) :
    Σ' (L18 : List (View.Piece (Elt F) S256x2048 .f32)), Σ' (LS0 : List (View.Piece (Elt F) S8x2048 .f32)), Σ' (LS1 : List (View.Piece (Elt F) S8x512 .f32)), Σ' (LS2 : List (View.Piece (Elt F) S8x512 .f32)), Σ' (LS3 : List (View.Piece (Elt F) S2048x128 .f32)), { LT4 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ owns (c : Thread nD τ) arg21 fullShare xs0 ∗ owns (c : Thread nD τ) arg22 fullShare xs1 ∗ owns (c : Thread nD τ) arg23 fullShare xs2 ∗ owns (c : Thread nD τ) arg24 fullShare xs3 ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3) ∗ (∃ f, arg25.view.loc (c : Thread nD τ) ↦[arg25.view.set]{fullShare} arg25.view.writes (Elt F) f LT4)) -∗ K ⟨⟩))
          ⊢ wp frame (wpE (defs₀ (F := F)) Variants.none c none) E (cc0_ssd_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_ssd_mixer_eq_skeleton]; unfold cc0_ssd_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg21.eq_unread hfs0; obtain rfl := harg22.eq_unread hfs1; obtain rfl := harg23.eq_unread hfs2; obtain rfl := harg24.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.Ssd.Frame.lean ====
/- Launch set-up of the mixer's program with its mask constant named: its points, the contents its runs leave, and its frame,
   over the two runs of `RunA` and `RunB`. -/
module

public import proofs.«01_k».proof.Proof.Ssd.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 18 tile its block (1 store of `S256x2048`, checked by the kernel's evaluation: Lib/Ring.lean `Piece.tiledL`, linear in the pieces, through a loop's `@[irreducible]` trip theorem too), so they cover it. -/
theorem cover0_A_18 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (y : S256x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).1 S256x2048.size (by sl_kernel_rfl) y

/-- What case A leaves in output 18's staging buffer: its pieces read back over junk. -/
def out0_A_18 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) : Vec F S256x2048 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).1)

/-- Case A's pieces for scratch `arg21`, which the kernel carries between points, cover it: 2 pieces of `S8x2048` tiling it (Lib/Ring.lean `Piece.tiledL`). -/
theorem scover0_A_0 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (y : S8x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.1 S8x2048.size (by sl_kernel_rfl) y

/-- What case A leaves in scratch `arg21`: its pieces read back over junk. -/
def sout0_A_0 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) : Vec F S8x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.1)

/-- Case A's pieces for scratch `arg22`, which the kernel carries between points, cover it: 2 pieces of `S8x512` tiling it (Lib/Ring.lean `Piece.tiledL`). -/
theorem scover0_A_1 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (y : S8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.2.1 S8x512.size (by sl_kernel_rfl) y

/-- What case A leaves in scratch `arg22`: its pieces read back over junk. -/
def sout0_A_1 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) : Vec F S8x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.2.1)

/-- Case A's pieces for scratch `arg23`, which the kernel carries between points, cover it: 2 pieces of `S8x512` tiling it (Lib/Ring.lean `Piece.tiledL`). -/
theorem scover0_A_2 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (y : S8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.2.2.1 S8x512.size (by sl_kernel_rfl) y

/-- What case A leaves in scratch `arg23`: its pieces read back over junk. -/
def sout0_A_2 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) : Vec F S8x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.2.2.1)

/-- Case A's pieces for scratch `arg24`, which the kernel carries between points, cover it: one of them a store of the WHOLE buffer (Lib/Ring.lean `sl_whole_mem`). -/
theorem scover0_A_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (y : S2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.2.2.2.1 (by sl_whole_mem) y

/-- What case A leaves in scratch `arg24`: its pieces read back over junk. -/
def sout0_A_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) : Vec F S2048x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17).2.2.2.2.1)

/-- Case B's pieces for output 18 tile its block (1 store of `S256x2048`, checked by the kernel's evaluation: Lib/Ring.lean `Piece.tiledL`, linear in the pieces, through a loop's `@[irreducible]` trip theorem too), so they cover it. -/
theorem cover0_B_18 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) (y : S256x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).1 S256x2048.size (by sl_kernel_rfl) y

/-- What case B leaves in output 18's staging buffer: its pieces read back over junk. -/
def out0_B_18 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) : Vec F S256x2048 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).1)

/-- Case B's pieces for scratch `arg21`, which the kernel carries between points, cover it: 1 piece of `S8x2048` tiling it (Lib/Ring.lean `Piece.tiledL`). -/
theorem scover0_B_0 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) (y : S8x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.1 S8x2048.size (by sl_kernel_rfl) y

/-- What case B leaves in scratch `arg21`: its pieces read back over junk. -/
def sout0_B_0 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) : Vec F S8x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.1)

/-- Case B's pieces for scratch `arg22`, which the kernel carries between points, cover it: 1 piece of `S8x512` tiling it (Lib/Ring.lean `Piece.tiledL`). -/
theorem scover0_B_1 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) (y : S8x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.2.1 S8x512.size (by sl_kernel_rfl) y

/-- What case B leaves in scratch `arg22`: its pieces read back over junk. -/
def sout0_B_1 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) : Vec F S8x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.2.1)

/-- Case B's pieces for scratch `arg23`, which the kernel carries between points, cover it: 1 piece of `S8x512` tiling it (Lib/Ring.lean `Piece.tiledL`). -/
theorem scover0_B_2 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) (y : S8x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.2.2.1 S8x512.size (by sl_kernel_rfl) y

/-- What case B leaves in scratch `arg23`: its pieces read back over junk. -/
def sout0_B_2 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) : Vec F S8x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.2.2.1)

/-- Case B's pieces for scratch `arg24`, which the kernel carries between points, cover it: 16 pieces of `S128x128` tiling it (Lib/Ring.lean `Piece.tiledL`). -/
theorem scover0_B_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) (y : S2048x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.2.2.2.1 S128x128.size (by sl_kernel_rfl) y

/-- What case B leaves in scratch `arg24`: its pieces read back over junk. -/
def sout0_B_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S4x2048 .f32) (harg7 : arg7.IsWhole) (arg8 : Memref sig .tc .vmem S4x512 .f32) (harg8 : arg8.IsWhole) (arg9 : Memref sig .tc .vmem S4x512 .f32) (harg9 : arg9.IsWhole) (arg10 : Memref sig .tc .vmem S1x2048 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S2048x32 .bf16) (harg19 : arg19.IsWhole) (arg20 : Memref sig .tc .vmem S256x2048 .f32) (harg20 : arg20.IsWhole) (arg21 : Memref sig .tc .vmem S8x2048 .f32) (harg21 : arg21.IsWhole) (arg22 : Memref sig .tc .vmem S8x512 .f32) (harg22 : arg22.IsWhole) (arg23 : Memref sig .tc .vmem S8x512 .f32) (harg23 : arg23.IsWhole) (arg24 : Memref sig .tc .vmem S2048x128 .f32) (harg24 : arg24.IsWhole) (arg25 : Memref sig .tc .vmem S256x2048 .f32) (harg25 : arg25.IsWhole) (hc0 : ¬cond0_0 i)
    (x0 : Vec F S256x2048 .f32) (x1 : Vec F S256x2048 .f32) (x2 : Vec F S256x512 .f32) (x3 : Vec F S256x512 .f32) (x4 : Vec F S256x128 .f32) (x5 : Vec F S4x2048 .f32) (x6 : Vec F S4x512 .f32) (x7 : Vec F S4x512 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S128x2048 .bf16) (x16 : Vec F S32x2048 .bf16) (x17 : Vec F S2048x32 .bf16) (xs0 : Vec F S8x2048 .f32) (xs1 : Vec F S8x512 .f32) (xs2 : Vec F S8x512 .f32) (xs3 : Vec F S2048x128 .f32) : Vec F S2048x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0 xs1 xs2 xs3).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2048 .f32 × Vec F S8x2048 .f32 × Vec F S8x512 .f32 × Vec F S8x512 .f32 × Vec F S2048x128 .f32
  | 0, hn => (out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩))
  | n + 1, hn =>
    if h0 : (n + 1) % 32 = 0 then
      (out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩))
    else
      (out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 32 = 0) :
    outsAt0 m c t.val t.isLt = (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨_ + 19, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases hz : t.val = 0
    · rw [PhiS_castSucc m c t, PhiS_zero m c _ _ hz, PhiA0_eq]
      rw [outsAt0_A m c t h0]
      unfold out0_A_18 sout0_A_0 sout0_A_1 sout0_A_2 sout0_A_3; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, ⟨%e18, H18⟩, ⟨%es0, HS0⟩, ⟨%es1, HS1⟩, ⟨%es2, HS2⟩, ⟨%es3, HS3⟩, ⟨%fT4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_18 sout0_A_0 sout0_A_1 sout0_A_2 sout0_A_3; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS0]; · iexists _; iexact HS0
      isplitl [HS1]; · iexists _; iexact HS1
      isplitl [HS2]; · iexists _; iexact HS2
      isplitl [HS3]; · iexists _; iexact HS3
      isplitl [HS4]; · iexact HS4
      iintro ⟨H0, H1, H2, H3, H4, H5, H6, H7, H8, H9, H10, H11, H12, H13, H14, H15, H16, H17, ⟨%e18, H18⟩, ⟨%es0, HS0⟩, ⟨%es1, HS1⟩, ⟨%es2, HS2⟩, ⟨%es3, HS3⟩, ⟨%fT4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_18 sout0_B_0 sout0_B_1 sout0_B_2 sout0_B_3; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, ⟨%e18, H18⟩, ⟨%es0, HS0⟩, ⟨%es1, HS1⟩, ⟨%es2, HS2⟩, ⟨%es3, HS3⟩, ⟨%fT4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.Ssd.Value.lean ====
/- Launch set-up of the mixer's program with its mask constant named: the contents of its buffers after each
   point, read from the runs of `RunA` and `RunB`. -/
module

public import proofs.«01_k».proof.Proof.Ssd.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 18's array: the run's contents for that window after the body (`Gen.outsAt0`: its component 0), read through the window's block. -/
theorem flushed18 (c : Dev nD) (t : Fin cfg0.N) :
    (dats m 0 c).flushed 18 t = (cfg0.win 18).cut (grid0.coords t) ((outsAt0 m c t.val t.isLt).1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — by the frame's rewriting lemma for the case. -/
theorem flushed18_A (c : Dev nD) (t : Fin cfg0.N) (h0 : t.val % 32 = 0) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed18, outsAt0_A m c t h0]

/-- … so at a point where case B runs, what its write-back would write is that case's NAMED TERM for the window (`Gen.out0_B_18`: the pieces
    its run found, read back) at the point's memrefs and input blocks, and for an output the case reads back what the point before left (`Gen.outsAt0` at `t - 1`) — by the frame's rewriting lemma for the case. -/
theorem flushed18_B (c : Dev nD) (t : Fin cfg0.N) (h0 : ¬t.val % 32 = 0) :
    (dats m 0 c).flushed 18 t = (cfg0.win 18).cut (grid0.coords t) (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed18, outsAt0_B m c t h0]

/-- The index map sends distinct grid points to distinct block indices (decided over the 64 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S16384x2048.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v43) = (dats m 0 c).arrAt 18 cfg0.N :=
  (h c).1 18

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v43) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_0 (c : Dev nD) (n : ℕ) (hb : n < cfg0.N) (acc : Vec F S8x2048 .f32) : Vec F S8x2048 .f32 :=
  if h0 : n % 32 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.1) 32 (fun n h => scAt0_0 m c n h (VS0_0.read (Elt F) VS0_0.junk)) (scAt0_0 m c)
    (fun n h hn => by
      have hN := lt_of_lt_of_eq h (show cfg0.N = 64 from N_0)
      by_cases h0 : n % 32 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 32 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_1 (c : Dev nD) (n : ℕ) (hb : n < cfg0.N) (acc : Vec F S8x512 .f32) : Vec F S8x512 .f32 :=
  if h0 : n % 32 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2

/-- WHAT CARRIED SCRATCH 1 HOLDS after point `t`: the fold of its run up to `t`, from the reset at the run's first point
    `32·(t / 32)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.1 = Pipeline.accAt (fun n h => scAt0_1 m c n h (VS0_1.read (Elt F) VS0_1.junk)) (scAt0_1 m c) (32 * (t.val / 32)) (t.val % 32)
      (by have h1 := t.isLt; have h2 := Nat.div_add_mod t.val 32; omega) :=
  Pipeline.eq_accAt_of_mod (fun n h => (outsAt0 m c n h).2.2.1) 32 (fun n h => scAt0_1 m c n h (VS0_1.read (Elt F) VS0_1.junk)) (scAt0_1 m c)
    (fun n h hn => by
      have hN := lt_of_lt_of_eq h (show cfg0.N = 64 from N_0)
      by_cases h0 : n % 32 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 64 from N_0)
      by_cases h0 : (n + 1) % 32 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_2 (c : Dev nD) (n : ℕ) (hb : n < cfg0.N) (acc : Vec F S8x512 .f32) : Vec F S8x512 .f32 :=
  if h0 : n % 32 = 0 then
    sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N))
  else
    sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2

/-- WHAT CARRIED SCRATCH 2 HOLDS after point `t`: the fold of its run up to `t`, from the reset at the run's first point
    `32·(t / 32)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.1 = Pipeline.accAt (fun n h => scAt0_2 m c n h (VS0_2.read (Elt F) VS0_2.junk)) (scAt0_2 m c) (32 * (t.val / 32)) (t.val % 32)
      (by have h1 := t.isLt; have h2 := Nat.div_add_mod t.val 32; omega) :=
  Pipeline.eq_accAt_of_mod (fun n h => (outsAt0 m c n h).2.2.2.1) 32 (fun n h => scAt0_2 m c n h (VS0_2.read (Elt F) VS0_2.junk)) (scAt0_2 m c)
    (fun n h hn => by
      have hN := lt_of_lt_of_eq h (show cfg0.N = 64 from N_0)
      by_cases h0 : n % 32 = 0
      all_goals first | (exfalso; omega) | (rw [outsAt0_A m c ⟨n, h⟩ h0]; dsimp only; unfold scAt0_2; rw [dif_pos h0] <;> try rfl) | (rw [outsAt0_B m c ⟨n, h⟩ h0]; dsimp only; unfold scAt0_2; rw [dif_neg h0] <;> try rfl))
    (fun n h hn => by
      have hN := lt_of_lt_of_eq h (show cfg0.N = 64 from N_0)
      by_cases h0 : (n + 1) % 32 = 0
      all_goals first | (exfalso; omega) | (rw [outsAt0_A m c ⟨n + 1, h⟩ h0]; dsimp only; unfold scAt0_2; rw [dif_pos h0] <;> try rfl) | (rw [outsAt0_B m c ⟨n + 1, h⟩ h0]; dsimp only; unfold scAt0_2; rw [dif_neg h0] <;> try rfl))
    (by decide) t.val t.isLt _

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_3 (c : Dev nD) (n : ℕ) (hb : n < cfg0.N) (acc : Vec F S2048x128 .f32) : Vec F S2048x128 .f32 :=
  if h0 : n % 32 = 0 then
    sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N))
  else
    sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc

/-- WHAT CARRIED SCRATCH 3 HOLDS after point `t`: the fold of its run up to `t`, from the reset at the run's first point
    `32·(t / 32)` (Lib/Pipeline/Value.lean `Pipeline.eq_accAt_of_mod`, by the frame's `outsAt0_κ`; without enumerating the points). -/
theorem soutsAt0_3_eq (c : Dev nD) (t : Fin cfg0.N) :
    (outsAt0 m c t.val t.isLt).2.2.2.2 = Pipeline.accAt (fun n h => scAt0_3 m c n h (VS0_3.read (Elt F) VS0_3.junk)) (scAt0_3 m c) (32 * (t.val / 32)) (t.val % 32)
      (by have h1 := t.isLt; have h2 := Nat.div_add_mod t.val 32; omega) :=
  Pipeline.eq_accAt_of_mod (fun n h => (outsAt0 m c n h).2.2.2.2) 32 (fun n h => scAt0_3 m c n h (VS0_3.read (Elt F) VS0_3.junk)) (scAt0_3 m c)
    (fun n h hn => by
      have hN := lt_of_lt_of_eq h (show cfg0.N = 64 from N_0)
      by_cases h0 : n % 32 = 0
      all_goals first | (exfalso; omega) | (rw [outsAt0_A m c ⟨n, h⟩ h0]; dsimp only; unfold scAt0_3; rw [dif_pos h0] <;> try rfl) | (rw [outsAt0_B m c ⟨n, h⟩ h0]; dsimp only; unfold scAt0_3; rw [dif_neg h0] <;> try rfl))
    (fun n h hn => by
      have hN := lt_of_lt_of_eq h (show cfg0.N = 64 from N_0)
      by_cases h0 : (n + 1) % 32 = 0
      all_goals first | (exfalso; omega) | (rw [outsAt0_A m c ⟨n + 1, h⟩ h0]; dsimp only; unfold scAt0_3; rw [dif_pos h0] <;> try rfl) | (rw [outsAt0_B m c ⟨n + 1, h⟩ h0]; dsimp only; unfold scAt0_3; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x2048 .f32 × Vec F S8x2048 .f32 × Vec F S8x512 .f32 × Vec F S8x512 .f32 × Vec F S2048x128 .f32 :=
  ((VO0_18.read (Elt F) VO0_18.junk, VS0_0.read (Elt F) VS0_0.junk, VS0_1.read (Elt F) VS0_1.junk, VS0_2.read (Elt F) VS0_2.junk, VS0_3.read (Elt F) VS0_3.junk) : Vec F S256x2048 .f32 × Vec F S8x2048 .f32 × Vec F S8x512 .f32 × Vec F S8x512 .f32 × Vec F S2048x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x2048 .f32 × Vec F S8x2048 .f32 × Vec F S8x512 .f32 × Vec F S8x512 .f32 × Vec F S2048x128 .f32) : Vec F S256x2048 .f32 × Vec F S8x2048 .f32 × Vec F S8x512 .f32 × Vec F S8x512 .f32 × Vec F S2048x128 .f32 :=
  if h0 : n % 32 = 0 then
    (out0_A_18 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)), sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)))
  else
    (out0_B_18 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc.2.1 acc.2.2.1 acc.2.2.2.1 acc.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc.2.1 acc.2.2.1 acc.2.2.2.1 acc.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc.2.1 acc.2.2.1 acc.2.2.2.1 acc.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc.2.1 acc.2.2.1 acc.2.2.2.1 acc.2.2.2.2, sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) acc.2.1 acc.2.2.1 acc.2.2.2.1 acc.2.2.2.2)

/-- `stAt0` at a point of case A: that case's contents. -/
theorem stAt0_A (c : Dev nD) (t : Fin cfg0.N) (acc : Vec F S256x2048 .f32 × Vec F S8x2048 .f32 × Vec F S8x512 .f32 × Vec F S8x512 .f32 × Vec F S2048x128 .f32) (h0 : t.val % 32 = 0) :
    stAt0 m c t.val t.isLt acc = (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) :=
  (dif_pos h0).trans rfl

/-- `stAt0` at a point of case B: that case's contents, over `acc`. -/
theorem stAt0_B (c : Dev nD) (t : Fin cfg0.N) (acc : Vec F S256x2048 .f32 × Vec F S8x2048 .f32 × Vec F S8x512 .f32 × Vec F S8x512 .f32 × Vec F S2048x128 .f32) (h0 : ¬t.val % 32 = 0) :
    stAt0 m c t.val t.isLt acc = (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) acc.2.1 acc.2.2.1 acc.2.2.2.1 acc.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) acc.2.1 acc.2.2.1 acc.2.2.2.1 acc.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) acc.2.1 acc.2.2.1 acc.2.2.2.1 acc.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) acc.2.1 acc.2.2.1 acc.2.2.2.1 acc.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) acc.2.1 acc.2.2.1 acc.2.2.2.1 acc.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 18 -/

/-- The block of the array that holds index `i`, numbered in the order the points write the blocks back (one per point),
    `i`'s place in it, and the point that writes it back. -/
abbrev run18Of (i : S16384x2048.Idx) : ℕ := 1 * ((i 0).val / 256 - 0) + 1 * ((i 1).val / 2048 - 0)
set_option backward.proofsInPublic true in
abbrev loc18Of (i : S16384x2048.Idx) : S256x2048.Idx := fun a => match a with
  | ⟨0, _⟩ => ⟨(i 0).val % 256, Nat.mod_lt _ (by decide)⟩
  | ⟨1, _⟩ => ⟨(i 1).val % 2048, Nat.mod_lt _ (by decide)⟩
abbrev pt18Of (i : S16384x2048.Idx) : ℕ := run18Of i

/-- WHAT THE ARRAY ENDS HOLDING at index `i` inside the box the flushing blocks fill: output 18's component of the carried
    state's fold at the point that writes `i`'s block back, at `i`'s place in the block. `G18` states the array's contents
    only inside the box. -/
def G18 (c : Dev nD) : Buf (Elt F) ((c : Thread nD τ).loc main_v43) := fun i =>
  if h : pt18Of i < cfg0.N then
    (Pipeline.accAt (fun n h => stAt0 m c n h junk0) (stAt0 m c) 0 (pt18Of i) (by omega)).1 (loc18Of i)
  else V m c (Pipeline.arrRef spec0 18) i

/-- The printed index map, decided over the grid: output window 18's block indices stay in the box, and the block number
    read off them is the point's (`t`). -/
theorem idx_facts18 : ∀ t : Fin cfg0.N, 0 ≤ win0_18.index t (0 : Fin 2) ∧ win0_18.index t (0 : Fin 2) ≤ 63
    ∧ 0 ≤ win0_18.index t (1 : Fin 2) ∧ win0_18.index t (1 : Fin 2) ≤ 0
    ∧ 1 * (win0_18.index t (0 : Fin 2) - 0) + 1 * (win0_18.index t (1 : Fin 2) - 0) = t.val :=
  (by decide +kernel : ∀ t : Fin grid0.N, _)

/-- Every block of the box is SOME flushing point's: `onto18Pt`, the point that writes back the block at place `q` of the box. -/
abbrev onto18Pt (q0 : Fin 64) (q1 : Fin 1) : Fin grid0.N :=
  ⟨1 * q0.val + 1 * q1.val, lt_of_lt_of_eq (by omega) N_0.symm⟩
theorem idx_onto18 : ∀ (q0 : Fin 64) (q1 : Fin 1), ∃ t : Fin cfg0.N, (cfg0.win 18).flush t = true ∧ win0_18.index t = ![q0.val + 0, q1.val + 0] :=
  fun q0 q1 => ⟨onto18Pt q0 q1, (by decide +kernel : ∀ (q0 : Fin 64) (q1 : Fin 1), win0_18.flush (onto18Pt q0 q1) = true ∧ win0_18.index (onto18Pt q0 q1) = ![q0.val + 0, q1.val + 0]) q0 q1⟩

/-- WHAT A FLUSHING POINT `t` WRITES BACK is block `t` of `G18`: output 18's component of the fold up to `t`. -/
theorem flushed18_eq (c : Dev nD) (t : Fin cfg0.N) (hf : (cfg0.win 18).flush t = true) :
    (dats m 0 c).flushed 18 t = ((cfg0.win 18).blk t).view.read (Elt F) (G18 m c) := by
  show (cfg0.win 18).cut (grid0.coords t) ((dats m 0 c).after 18 t) = _
  rw [after0_18, outsAt0_sweep]
  obtain ⟨e0, e1, e2⟩ := idx_facts18 t
  funext y
  have hy0 : (y 0).val < 256 := (y 0).isLt
  have hy1 : (y 1).val < 2048 := (y 1).isLt
  have hb0 : (((cfg0.win 18).blk t).view.emb y 0).val = win0_18.index t (0 : Fin 2) * 256 + 1 * (y 0).val := rfl
  have hb1 : (((cfg0.win 18).blk t).view.emb y 1).val = win0_18.index t (1 : Fin 2) * 2048 + 1 * (y 1).val := rfl
  have hr : run18Of (((cfg0.win 18).blk t).view.emb y) = t.val := by
    show 1 * ((((cfg0.win 18).blk t).view.emb y 0).val / 256 - 0) + 1 * ((((cfg0.win 18).blk t).view.emb y 1).val / 2048 - 0) = _
    rw [hb0, hb1]
    rw [show (win0_18.index t (0 : Fin 2) * 256 + 1 * (y 0).val) / 256 = win0_18.index t (0 : Fin 2) from by omega]; rw [show (win0_18.index t (1 : Fin 2) * 2048 + 1 * (y 1).val) / 2048 = win0_18.index t (1 : Fin 2) from by omega]
    omega
  have hl : loc18Of (((cfg0.win 18).blk t).view.emb y) = (cfg0.win 18).xinj (grid0.coords t) y := by
    funext a; apply Fin.ext
    match a with
    | ⟨0, _⟩ => show (((cfg0.win 18).blk t).view.emb y 0).val % 256 = (y 0).val; rw [hb0]; omega
    | ⟨1, _⟩ => show (((cfg0.win 18).blk t).view.emb y 1).val % 2048 = (y 1).val; rw [hb1]; omega
  have hp : pt18Of (((cfg0.win 18).blk t).view.emb y) = t.val := by
    exact hr
  show (Pipeline.accAt (fun n h => stAt0 m c n h junk0) (stAt0 m c) 0 t.val _).1 ((cfg0.win 18).xinj (grid0.coords t) y) = G18 m c (((cfg0.win 18).blk t).view.emb y)
  unfold G18
  rw [dif_pos (by rw [hp]; exact t.isLt), hl, fold0_congr m c _ _ _ _ hp.symm]

/-- An index of the array is in point `t`'s block iff each coordinate is in the block's range on its axis. -/
theorem mem_blk18 (t : Fin cfg0.N) (i : S16384x2048.Idx) :
    i ∈ ((cfg0.win 18).blk t).view.set ↔ ∀ a : Fin 2, win0_18.index t a * S256x2048.size a ≤ (i a).val ∧ (i a).val < win0_18.index t a * S256x2048.size a + S256x2048.size a := by
  show i ∈ ((View.whole main_v43).slice (win0_18.rect t)).set ↔ _
  rw [View.set_slice_whole, Rect.mem_set_unit]
  exact Iff.rfl

/-- THE COVERED INDICES: in some flushing point's block iff inside the box those blocks fill. -/
theorem covered_iff18 (i : S16384x2048.Idx) :
    (∃ t : Fin cfg0.N, (cfg0.win 18).flush t = true ∧ i ∈ ((cfg0.win 18).blk t).view.set) ↔ 0 ≤ (i 0).val ∧ (i 0).val < 16384 ∧ 0 ≤ (i 1).val ∧ (i 1).val < 2048 := by
  constructor
  · rintro ⟨t, -, hi⟩
    rw [mem_blk18] at hi
    have b0 : win0_18.index t (0 : Fin 2) * 256 ≤ (i 0).val ∧ (i 0).val < win0_18.index t (0 : Fin 2) * 256 + 256 := hi 0
    have b1 : win0_18.index t (1 : Fin 2) * 2048 ≤ (i 1).val ∧ (i 1).val < win0_18.index t (1 : Fin 2) * 2048 + 2048 := hi 1
    obtain ⟨e0, e1, e2⟩ := idx_facts18 t
    omega
  · intro h
    have hi0 : (i 0).val < 16384 := (i 0).isLt
    have hi1 : (i 1).val < 2048 := (i 1).isLt
    obtain ⟨t, hft, ht⟩ := idx_onto18 ⟨(i 0).val / 256 - 0, by omega⟩ ⟨(i 1).val / 2048 - 0, by omega⟩
    have q0 : win0_18.index t (0 : Fin 2) = (i 0).val / 256 - 0 + 0 := congrFun ht 0
    have q1 : win0_18.index t (1 : Fin 2) = (i 1).val / 2048 - 0 + 0 := congrFun ht 1
    refine ⟨t, hft, ?_⟩
    rw [mem_blk18]
    intro a
    match a with
    | ⟨0, _⟩ => show win0_18.index t (0 : Fin 2) * 256 ≤ (i 0).val ∧ (i 0).val < win0_18.index t (0 : Fin 2) * 256 + 256; omega
    | ⟨1, _⟩ => show win0_18.index t (1 : Fin 2) * 2048 ≤ (i 1).val ∧ (i 1).val < win0_18.index t (1 : Fin 2) * 2048 + 2048; omega

/-- THE ARRAY after the run: `G18` (the flushing blocks tile it). -/
theorem final18 (c : Dev nD) : (dats m 0 c).arrAt 18 cfg0.N = G18 m c :=
  (dats m 0 c).arrAt_eq_of_cover 18 _ (fun t hf => flushed18_eq m c t hf) (fun i => (covered_iff18 i).2 (by
    have h0 : (i 0).val < 16384 := (i 0).isLt; have h1 : (i 1).val < 2048 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v43) = G18 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post18 m r h c).trans (final18 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelIdeal.Value

end
-- ==== Proof.Ssd.StepRun.lean ====
/- Launch set-up of the mixer's reference: its run stated over the step of the scan, so that its result is read off
   the state after 32 steps. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v60_8) = s.main_v60_8
  f_9 : V0 (Proc.devRef .tc main_v60_9) = s.main_v60_9
  f_0 : V0 (Proc.devRef .tc main_v60_0) = s.main_v60_0
  f_1 : V0 (Proc.devRef .tc main_v60_1) = s.main_v60_1
  f_2 : V0 (Proc.devRef .tc main_v60_2) = s.main_v60_2
  f_3 : V0 (Proc.devRef .tc main_v60_3) = s.main_v60_3
  f_4 : V0 (Proc.devRef .tc main_v60_4) = s.main_v60_4
  f_6 : V0 (Proc.devRef .tc main_v60_6) = s.main_v60_6
  n_7 : V0 (Proc.devRef .tc main_v60_7) = constantI S_ 32 (BitVec.ofNat 32 j)
  k_5 : V0 (Proc.devRef .tc main_v60_5) = Cert.ReferenceIdeal.Step.K_main_v49 (F := F)

variable {V0 s j}

/-! One trip of the loop, operation by operation: where the valuation holds the state, the value of the trip's operation `n` is
   the `n`-th value of `step` (`al_n`). -/

set_option maxRecDepth 8192 in
theorem al_0 (h : Holds V0 s j) : (constantI S_ 32 0#32 : (Proc.devRef .tc main_while0b_call4_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call4_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call4_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call4_c_2 : DevRef τ sig).ty.Contents (Elt F)) = Cert.ReferenceIdeal.Step.b3 j s := by
  unfold Cert.ReferenceIdeal.Step.b3
  rfl
set_option maxRecDepth 8192 in
theorem al_4 (h : Holds V0 s j) : (constantI S_ 32 0#32 : (Proc.devRef .tc main_while0b_call4_c_3 : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x2x256x4x8x64 (V0 (Proc.devRef .tc main_v60_0)) (fun k => (((![V0 (Proc.devRef .tc main_v60_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S32x2x256x4x8x64_S1x2x256x4x8x64 : (Proc.devRef .tc main_while0b_call4_v0 : DevRef τ sig).ty.Contents (Elt F)) = Cert.ReferenceIdeal.Step.b5 j s := by
  unfold Cert.ReferenceIdeal.Step.b5
  rw [← al_0 h, ← al_1 h, ← al_2 h, ← al_3 h, ← al_4 h, h.f_0, h.n_7]
  try rfl
set_option maxRecDepth 8192 in
theorem al_6 (h : Holds V0 s j) : (res_main_while0b_v82 V0 : (Proc.devRef .tc main_while0b_v82 : DevRef τ sig).ty.Contents (Elt F)) = Cert.ReferenceIdeal.Step.b6 j s := by
  unfold res_main_while0b_v82 Cert.ReferenceIdeal.Step.b6
  rw [← al_5 h]
  try rfl
set_option maxRecDepth 8192 in
theorem al_7 (h : Holds V0 s j) : (constantI S_ 32 0#32 : (Proc.devRef .tc main_while0b_call5_c : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call5_c_0 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call5_c_1 : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call5_c_2 : DevRef τ sig).ty.Contents (Elt F)) = Cert.ReferenceIdeal.Step.b10 j s := by
  unfold Cert.ReferenceIdeal.Step.b10
  rfl
set_option maxRecDepth 8192 in
theorem al_11 (h : Holds V0 s j) : (Host.dynamicSlice S1x2x256x4x8 (V0 (Proc.devRef .tc main_v60_1)) (fun k => (((![V0 (Proc.devRef .tc main_v60_7), constantI S_ 32 0#32, constantI S_ 32 0#32, constantI S_ 32 0#32, constantI S_ 32 0#32] : Fin 5 → (⟨S_, .i32⟩ : BufTy).Contents (Elt F))) k (Shape.Idx.first h_S_)).toInt) sliceFits_S32x2x256x4x8_S1x2x256x4x8 : (Proc.devRef .tc main_while0b_call5_v0 : DevRef τ sig).ty.Contents (Elt F)) = Cert.ReferenceIdeal.Step.b11 j s := by
  unfold Cert.ReferenceIdeal.Step.b11
  rw [← al_7 h, ← al_8 h, ← al_9 h, ← al_10 h, h.f_1, h.n_7]
  try rfl
set_option maxRecDepth 8192 in
theorem al_12 (h : Holds V0 s j) : (res_main_while0b_v83 V0 : (Proc.devRef .tc main_while0b_v83 : DevRef τ sig).ty.Contents (Elt F)) = Cert.ReferenceIdeal.Step.b12 j s := by
  unfold res_main_while0b_v83 Cert.ReferenceIdeal.Step.b12
  rw [← al_11 h]
  try rfl
set_option maxRecDepth 8192 in
theorem al_13 (h : Holds V0 s j) : (constantI S_ 32 0#32 : (Proc.devRef .tc main_while0b_call6_c : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call6_c_0 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call6_c_1 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call6_c_2 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x2x256x4x128 (V0 (Proc.devRef .tc main_v60_2)) (fun k => (((![V0 (Proc.devRef .tc main_v60_7), constantI S_ 32 0#32, constantI S_ 32 0#32, constantI S_ 32 0#32, constantI S_ 32 0#32] : Fin 5 → (⟨S_, .i32⟩ : BufTy).Contents (Elt F))) k (Shape.Idx.first h_S_)).toInt) sliceFits_S32x2x256x4x128_S1x2x256x4x128 : (Proc.devRef .tc main_while0b_call6_v0 : DevRef τ sig).ty.Contents (Elt F)) = Cert.ReferenceIdeal.Step.b17 j s := by
  unfold Cert.ReferenceIdeal.Step.b17
  rw [← al_13 h, ← al_14 h, ← al_15 h, ← al_16 h, h.f_2, h.n_7]
  try rfl
set_option maxRecDepth 8192 in
theorem al_18 (h : Holds V0 s j) : (res_main_while0b_v84 V0 : (Proc.devRef .tc main_while0b_v84 : DevRef τ sig).ty.Contents (Elt F)) = Cert.ReferenceIdeal.Step.b18 j s := by
  unfold res_main_while0b_v84 Cert.ReferenceIdeal.Step.b18
  rw [← al_17 h]
  try rfl
set_option maxRecDepth 8192 in
theorem al_19 (h : Holds V0 s j) : (constantI S_ 32 0#32 : (Proc.devRef .tc main_while0b_call7_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call7_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call7_c_1 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call7_c_2 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x2x256x4x128 (V0 (Proc.devRef .tc main_v60_3)) (fun k => (((![V0 (Proc.devRef .tc main_v60_7), constantI S_ 32 0#32, constantI S_ 32 0#32, constantI S_ 32 0#32, constantI S_ 32 0#32] : Fin 5 → (⟨S_, .i32⟩ : BufTy).Contents (Elt F))) k (Shape.Idx.first h_S_)).toInt) sliceFits_S32x2x256x4x128_S1x2x256x4x128 : (Proc.devRef .tc main_while0b_call7_v0 : DevRef τ sig).ty.Contents (Elt F)) = Cert.ReferenceIdeal.Step.b23 j s := by
  unfold Cert.ReferenceIdeal.Step.b23
  rw [← al_19 h, ← al_20 h, ← al_21 h, ← al_22 h, h.f_3, h.n_7]
  try rfl
set_option maxRecDepth 8192 in
theorem al_24 (h : Holds V0 s j) : (res_main_while0b_v85 V0 : (Proc.devRef .tc main_while0b_v85 : DevRef τ sig).ty.Contents (Elt F)) = Cert.ReferenceIdeal.Step.b24 j s := by
  unfold res_main_while0b_v85 Cert.ReferenceIdeal.Step.b24
  rw [← al_23 h]
  try rfl
set_option maxRecDepth 8192 in
theorem al_25 (h : Holds V0 s j) : (broadcastInDim S1x1x4x8 ![2, 3] bcast_S4x8_S1x1x4x8_2_3 (V0 (Proc.devRef .tc main_v60_4)) : (Proc.devRef .tc main_while0b_v86 : DevRef τ sig).ty.Contents (Elt F)) = Cert.ReferenceIdeal.Step.b25 j s := by
  unfold Cert.ReferenceIdeal.Step.b25
  rw [h.f_4]
  try rfl
set_option maxRecDepth 8192 in
theorem al_26 (h : Holds V0 s j) : (broadcastInDim S2x256x4x8 ![0, 1, 2, 3] bcast_S1x1x4x8_S2x256x4x8_0_1_2_3 (broadcastInDim S1x1x4x8 ![2, 3] bcast_S4x8_S1x1x4x8_2_3 (V0 (Proc.devRef .tc main_v60_4))) : (Proc.devRef .tc main_while0b_v87 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (mulf (res_main_while0b_v83 V0) (broadcastInDim S2x256x4x8 ![0, 1, 2, 3] bcast_S1x1x4x8_S2x256x4x8_0_1_2_3 (broadcastInDim S1x1x4x8 ![2, 3] bcast_S4x8_S1x1x4x8_2_3 (V0 (Proc.devRef .tc main_v60_4)))) : (Proc.devRef .tc main_while0b_v88 : DevRef τ sig).ty.Contents (Elt F)) = Cert.ReferenceIdeal.Step.b27 j s := by
  unfold Cert.ReferenceIdeal.Step.b27
  rw [← al_12 h, ← al_26 h]
  try rfl
set_option maxRecDepth 8192 in
theorem al_28 (h : Holds V0 s j) : (constant S_ .f32 0x00000000#32 : (Proc.devRef .tc main_while0b_call8_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call8_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v89 V0 : (Proc.devRef .tc main_while0b_v89 : DevRef τ sig).ty.Contents (Elt F)) = Cert.ReferenceIdeal.Step.b30 j s := by
  unfold res_main_while0b_v89 Cert.ReferenceIdeal.Step.b30
  rw [← al_27 h, ← al_29 h]
  try rfl
set_option maxRecDepth 8192 in
theorem al_31 (h : Holds V0 s j) : (broadcastInDim S2x256x1x4x8 ![0, 1, 3, 4] bcast_S2x256x4x8_S2x256x1x4x8_0_1_3_4 (res_main_while0b_v89 V0) : (Proc.devRef .tc main_while0b_v90 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (broadcastInDim S2x1x256x4x8 ![0, 2, 3, 4] bcast_S2x256x4x8_S2x1x256x4x8_0_2_3_4 (res_main_while0b_v89 V0) : (Proc.devRef .tc main_while0b_v91 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0)) : (Proc.devRef .tc main_while0b_v92 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)) : (Proc.devRef .tc main_while0b_v93 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0))) : (Proc.devRef .tc main_while0b_v94 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (broadcastInDim S1x256x256x1x1 ![1, 2] bcast_S256x256_S1x256x256x1x1_1_2 (V0 (Proc.devRef .tc main_v60_5)) : (Proc.devRef .tc main_while0b_v95 : DevRef τ sig).ty.Contents (Elt F)) = Cert.ReferenceIdeal.Step.b36 j s := by
  unfold Cert.ReferenceIdeal.Step.b36
  rw [h.k_5]
  try rfl
set_option maxRecDepth 8192 in
theorem al_37 (h : Holds V0 s j) : (constant S_ .f32 0xFF800000#32 : (Proc.devRef .tc main_while0b_cst_15 : DevRef τ sig).ty.Contents (Elt F)) = Cert.ReferenceIdeal.Step.b37 j s := by
  unfold Cert.ReferenceIdeal.Step.b37
  rfl
set_option maxRecDepth 8192 in
theorem al_38 (h : Holds V0 s j) : (id (constant S_ .f32 0xFF800000#32) : (Proc.devRef .tc main_while0b_call9_v0 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5))) : (Proc.devRef .tc main_while0b_call9_v1 : DevRef τ sig).ty.Contents (Elt F)) = Cert.ReferenceIdeal.Step.b39 j s := by
  unfold Cert.ReferenceIdeal.Step.b39
  rw [← al_36 h]
  try rfl
set_option maxRecDepth 8192 in
theorem al_40 (h : Holds V0 s j) : (broadcastInDim S2x256x256x4x8 ![] bcast_S_S2x256x256x4x8 (id (constant S_ .f32 0xFF800000#32)) : (Proc.devRef .tc main_while0b_call9_v2 : DevRef τ sig).ty.Contents (Elt F)) = Cert.ReferenceIdeal.Step.b40 j s := by
  unfold Cert.ReferenceIdeal.Step.b40
  rw [← al_38 h]
  try rfl
set_option maxRecDepth 8192 in
theorem al_41 (h : Holds V0 s j) : (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32))) : (Proc.devRef .tc main_while0b_v96 : DevRef τ sig).ty.Contents (Elt F)) = Cert.ReferenceIdeal.Step.b41 j s := by
  unfold Cert.ReferenceIdeal.Step.b41
  rw [← al_39 h, ← al_35 h, ← al_40 h]
  try rfl
set_option maxRecDepth 8192 in
theorem al_42 (h : Holds V0 s j) : (Host.exp (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32)))) : (Proc.devRef .tc main_while0b_v97 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (broadcastInDim S2x256x4x8x1 ![0, 1, 2, 3] bcast_S2x256x4x8_S2x256x4x8x1_0_1_2_3 (res_main_while0b_v83 V0) : (Proc.devRef .tc main_while0b_v98 : DevRef τ sig).ty.Contents (Elt F)) = Cert.ReferenceIdeal.Step.b43 j s := by
  unfold Cert.ReferenceIdeal.Step.b43
  rw [← al_12 h]
  try rfl
set_option maxRecDepth 8192 in
theorem al_44 (h : Holds V0 s j) : (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (res_main_while0b_v83 V0)) : (Proc.devRef .tc main_while0b_v99 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (res_main_while0b_v100 V0 : (Proc.devRef .tc main_while0b_v100 : DevRef τ sig).ty.Contents (Elt F)) = Cert.ReferenceIdeal.Step.b45 j s := by
  unfold res_main_while0b_v100 Cert.ReferenceIdeal.Step.b45
  rw [← al_6 h, ← al_44 h]
  try rfl
set_option maxRecDepth 8192 in
theorem al_46 (h : Holds V0 s j) : (Host.dotGeneral dot_S2x256x4x128_S2x256x4x128_S2x4x256x256_3_3_1_1_02_02 none (res_main_while0b_v84 V0) (res_main_while0b_v85 V0) : (Proc.devRef .tc main_while0b_v101 : DevRef τ sig).ty.Contents (Elt F)) = Cert.ReferenceIdeal.Step.b46 j s := by
  unfold Cert.ReferenceIdeal.Step.b46
  rw [← al_18 h, ← al_24 h]
  try rfl
set_option maxRecDepth 8192 in
theorem al_47 (h : Holds V0 s j) : (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1 : (Proc.devRef .tc main_while0b_v102 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1) : (Proc.devRef .tc main_while0b_v103 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (broadcastInDim S2x256x256x4x8 ![0, 1, 2, 3, 4] bcast_S2x256x256x4x1_S2x256x256x4x8_0_1_2_3_4 (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1)) : (Proc.devRef .tc main_while0b_v104 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (mulf (broadcastInDim S2x256x256x4x8 ![0, 1, 2, 3, 4] bcast_S2x256x256x4x1_S2x256x256x4x8_0_1_2_3_4 (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1))) (Host.exp (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32))))) : (Proc.devRef .tc main_while0b_v105 : DevRef τ sig).ty.Contents (Elt F)) = Cert.ReferenceIdeal.Step.b50 j s := by
  unfold Cert.ReferenceIdeal.Step.b50
  rw [← al_49 h, ← al_42 h]
  try rfl
set_option maxRecDepth 8192 in
theorem al_51 (h : Holds V0 s j) : (Host.dotGeneral dot_S2x256x4x8x64_S2x256x256x4x8_S2x4x8x64x256_1_2_4_1_023_034 none (res_main_while0b_v100 V0) (mulf (broadcastInDim S2x256x256x4x8 ![0, 1, 2, 3, 4] bcast_S2x256x256x4x1_S2x256x256x4x8_0_1_2_3_4 (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1))) (Host.exp (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32)))))) : (Proc.devRef .tc main_while0b_v106 : DevRef τ sig).ty.Contents (Elt F)) = Cert.ReferenceIdeal.Step.b51 j s := by
  unfold Cert.ReferenceIdeal.Step.b51
  rw [← al_45 h, ← al_50 h]
  try rfl
set_option maxRecDepth 8192 in
theorem al_52 (h : Holds V0 s j) : (transpose S2x256x4x8x64 [0, 4, 1, 2, 3] (Host.dotGeneral dot_S2x256x4x8x64_S2x256x256x4x8_S2x4x8x64x256_1_2_4_1_023_034 none (res_main_while0b_v100 V0) (mulf (broadcastInDim S2x256x256x4x8 ![0, 1, 2, 3, 4] bcast_S2x256x256x4x1_S2x256x256x4x8_0_1_2_3_4 (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1))) (Host.exp (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32))))))) transposes_S2x4x8x64x256_S2x256x4x8x64_0_4_1_2_3 : (Proc.devRef .tc main_while0b_v107 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (Host.dotGeneral dot_S2x4x8x64x128_S2x256x4x128_S2x4x8x64x256_4_3_23_1_01_02 none (V0 (Proc.devRef .tc main_v60_8)) (res_main_while0b_v85 V0) : (Proc.devRef .tc main_while0b_v108 : DevRef τ sig).ty.Contents (Elt F)) = Cert.ReferenceIdeal.Step.b53 j s := by
  unfold Cert.ReferenceIdeal.Step.b53
  rw [← al_24 h, h.f_8]
  try rfl
set_option maxRecDepth 8192 in
theorem al_54 (h : Holds V0 s j) : (transpose S2x256x4x8x64 [0, 4, 1, 2, 3] (Host.dotGeneral dot_S2x4x8x64x128_S2x256x4x128_S2x4x8x64x256_4_3_23_1_01_02 none (V0 (Proc.devRef .tc main_v60_8)) (res_main_while0b_v85 V0)) transposes_S2x4x8x64x256_S2x256x4x8x64_0_4_1_2_3 : (Proc.devRef .tc main_while0b_v109 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (Host.exp (res_main_while0b_v89 V0) : (Proc.devRef .tc main_while0b_v110 : DevRef τ sig).ty.Contents (Elt F)) = Cert.ReferenceIdeal.Step.b55 j s := by
  unfold Cert.ReferenceIdeal.Step.b55
  rw [← al_30 h]
  try rfl
set_option maxRecDepth 8192 in
theorem al_56 (h : Holds V0 s j) : (broadcastInDim S2x256x4x8x1 ![0, 1, 2, 3] bcast_S2x256x4x8_S2x256x4x8x1_0_1_2_3 (Host.exp (res_main_while0b_v89 V0)) : (Proc.devRef .tc main_while0b_v111 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (res_main_while0b_v89 V0))) : (Proc.devRef .tc main_while0b_v112 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (mulf (transpose S2x256x4x8x64 [0, 4, 1, 2, 3] (Host.dotGeneral dot_S2x4x8x64x128_S2x256x4x128_S2x4x8x64x256_4_3_23_1_01_02 none (V0 (Proc.devRef .tc main_v60_8)) (res_main_while0b_v85 V0)) transposes_S2x4x8x64x256_S2x256x4x8x64_0_4_1_2_3) (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (res_main_while0b_v89 V0)))) : (Proc.devRef .tc main_while0b_v113 : DevRef τ sig).ty.Contents (Elt F)) = Cert.ReferenceIdeal.Step.b58 j s := by
  unfold Cert.ReferenceIdeal.Step.b58
  rw [← al_54 h, ← al_57 h]
  try rfl
set_option maxRecDepth 8192 in
theorem al_59 (h : Holds V0 s j) : (addf (transpose S2x256x4x8x64 [0, 4, 1, 2, 3] (Host.dotGeneral dot_S2x256x4x8x64_S2x256x256x4x8_S2x4x8x64x256_1_2_4_1_023_034 none (res_main_while0b_v100 V0) (mulf (broadcastInDim S2x256x256x4x8 ![0, 1, 2, 3, 4] bcast_S2x256x256x4x1_S2x256x256x4x8_0_1_2_3_4 (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1))) (Host.exp (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32))))))) transposes_S2x4x8x64x256_S2x256x4x8x64_0_4_1_2_3) (mulf (transpose S2x256x4x8x64 [0, 4, 1, 2, 3] (Host.dotGeneral dot_S2x4x8x64x128_S2x256x4x128_S2x4x8x64x256_4_3_23_1_01_02 none (V0 (Proc.devRef .tc main_v60_8)) (res_main_while0b_v85 V0)) transposes_S2x4x8x64x256_S2x256x4x8x64_0_4_1_2_3) (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (res_main_while0b_v89 V0))))) : (Proc.devRef .tc main_while0b_v114 : DevRef τ sig).ty.Contents (Elt F)) = Cert.ReferenceIdeal.Step.b59 j s := by
  unfold Cert.ReferenceIdeal.Step.b59
  rw [← al_52 h, ← al_58 h]
  try rfl
set_option maxRecDepth 8192 in
theorem al_60 (h : Holds V0 s j) : (extractStridedSlice S2x1x4x8 ![0, 255, 0, 0] (res_main_while0b_v89 V0) slices_S2x256x4x8_S2x1x4x8_0_255_0_0 : (Proc.devRef .tc main_while0b_v115 : DevRef τ sig).ty.Contents (Elt F)) = Cert.ReferenceIdeal.Step.b60 j s := by
  unfold Cert.ReferenceIdeal.Step.b60
  rw [← al_30 h]
  try rfl
set_option maxRecDepth 8192 in
theorem al_61 (h : Holds V0 s j) : (broadcastInDim S2x256x4x8 ![0, 1, 2, 3] bcast_S2x1x4x8_S2x256x4x8_0_1_2_3 (extractStridedSlice S2x1x4x8 ![0, 255, 0, 0] (res_main_while0b_v89 V0) slices_S2x256x4x8_S2x1x4x8_0_255_0_0) : (Proc.devRef .tc main_while0b_v116 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (subf (broadcastInDim S2x256x4x8 ![0, 1, 2, 3] bcast_S2x1x4x8_S2x256x4x8_0_1_2_3 (extractStridedSlice S2x1x4x8 ![0, 255, 0, 0] (res_main_while0b_v89 V0) slices_S2x256x4x8_S2x1x4x8_0_255_0_0)) (res_main_while0b_v89 V0) : (Proc.devRef .tc main_while0b_v117 : DevRef τ sig).ty.Contents (Elt F)) = Cert.ReferenceIdeal.Step.b62 j s := by
  unfold Cert.ReferenceIdeal.Step.b62
  rw [← al_61 h, ← al_30 h]
  try rfl
set_option maxRecDepth 8192 in
theorem al_63 (h : Holds V0 s j) : (Host.exp (subf (broadcastInDim S2x256x4x8 ![0, 1, 2, 3] bcast_S2x1x4x8_S2x256x4x8_0_1_2_3 (extractStridedSlice S2x1x4x8 ![0, 255, 0, 0] (res_main_while0b_v89 V0) slices_S2x256x4x8_S2x1x4x8_0_255_0_0)) (res_main_while0b_v89 V0)) : (Proc.devRef .tc main_while0b_v118 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (extractStridedSlice S2x1x4x8 ![0, 255, 0, 0] (res_main_while0b_v89 V0) slices_S2x256x4x8_S2x1x4x8_0_255_0_0 : (Proc.devRef .tc main_while0b_v119 : DevRef τ sig).ty.Contents (Elt F)) = Cert.ReferenceIdeal.Step.b64 j s := by
  unfold Cert.ReferenceIdeal.Step.b64
  rw [← al_30 h]
  try rfl
set_option maxRecDepth 8192 in
theorem al_65 (h : Holds V0 s j) : (shapeCast S2x4x8 (extractStridedSlice S2x1x4x8 ![0, 255, 0, 0] (res_main_while0b_v89 V0) slices_S2x256x4x8_S2x1x4x8_0_255_0_0) shapeCasts_S2x1x4x8_S2x4x8 : (Proc.devRef .tc main_while0b_v120 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (Host.exp (shapeCast S2x4x8 (extractStridedSlice S2x1x4x8 ![0, 255, 0, 0] (res_main_while0b_v89 V0) slices_S2x256x4x8_S2x1x4x8_0_255_0_0) shapeCasts_S2x1x4x8_S2x4x8) : (Proc.devRef .tc main_while0b_v121 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (broadcastInDim S2x4x8x1x1 ![0, 1, 2] bcast_S2x4x8_S2x4x8x1x1_0_1_2 (Host.exp (shapeCast S2x4x8 (extractStridedSlice S2x1x4x8 ![0, 255, 0, 0] (res_main_while0b_v89 V0) slices_S2x256x4x8_S2x1x4x8_0_255_0_0) shapeCasts_S2x1x4x8_S2x4x8)) : (Proc.devRef .tc main_while0b_v122 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (broadcastInDim S2x4x8x64x128 ![0, 1, 2, 3, 4] bcast_S2x4x8x1x1_S2x4x8x64x128_0_1_2_3_4 (broadcastInDim S2x4x8x1x1 ![0, 1, 2] bcast_S2x4x8_S2x4x8x1x1_0_1_2 (Host.exp (shapeCast S2x4x8 (extractStridedSlice S2x1x4x8 ![0, 255, 0, 0] (res_main_while0b_v89 V0) slices_S2x256x4x8_S2x1x4x8_0_255_0_0) shapeCasts_S2x1x4x8_S2x4x8))) : (Proc.devRef .tc main_while0b_v123 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (mulf (V0 (Proc.devRef .tc main_v60_8)) (broadcastInDim S2x4x8x64x128 ![0, 1, 2, 3, 4] bcast_S2x4x8x1x1_S2x4x8x64x128_0_1_2_3_4 (broadcastInDim S2x4x8x1x1 ![0, 1, 2] bcast_S2x4x8_S2x4x8x1x1_0_1_2 (Host.exp (shapeCast S2x4x8 (extractStridedSlice S2x1x4x8 ![0, 255, 0, 0] (res_main_while0b_v89 V0) slices_S2x256x4x8_S2x1x4x8_0_255_0_0) shapeCasts_S2x1x4x8_S2x4x8)))) : (Proc.devRef .tc main_while0b_v124 : DevRef τ sig).ty.Contents (Elt F)) = Cert.ReferenceIdeal.Step.b69 j s := by
  unfold Cert.ReferenceIdeal.Step.b69
  rw [← al_68 h, h.f_8]
  try rfl
set_option maxRecDepth 8192 in
theorem al_70 (h : Holds V0 s j) : (broadcastInDim S2x256x4x8x1 ![0, 1, 2, 3] bcast_S2x256x4x8_S2x256x4x8x1_0_1_2_3 (Host.exp (subf (broadcastInDim S2x256x4x8 ![0, 1, 2, 3] bcast_S2x1x4x8_S2x256x4x8_0_1_2_3 (extractStridedSlice S2x1x4x8 ![0, 255, 0, 0] (res_main_while0b_v89 V0) slices_S2x256x4x8_S2x1x4x8_0_255_0_0)) (res_main_while0b_v89 V0))) : (Proc.devRef .tc main_while0b_v125 : DevRef τ sig).ty.Contents (Elt F)) = Cert.ReferenceIdeal.Step.b70 j s := by
  unfold Cert.ReferenceIdeal.Step.b70
  rw [← al_63 h]
  try rfl
set_option maxRecDepth 8192 in
theorem al_71 (h : Holds V0 s j) : (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (subf (broadcastInDim S2x256x4x8 ![0, 1, 2, 3] bcast_S2x1x4x8_S2x256x4x8_0_1_2_3 (extractStridedSlice S2x1x4x8 ![0, 255, 0, 0] (res_main_while0b_v89 V0) slices_S2x256x4x8_S2x1x4x8_0_255_0_0)) (res_main_while0b_v89 V0)))) : (Proc.devRef .tc main_while0b_v126 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (mulf (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (subf (broadcastInDim S2x256x4x8 ![0, 1, 2, 3] bcast_S2x1x4x8_S2x256x4x8_0_1_2_3 (extractStridedSlice S2x1x4x8 ![0, 255, 0, 0] (res_main_while0b_v89 V0) slices_S2x256x4x8_S2x1x4x8_0_255_0_0)) (res_main_while0b_v89 V0))))) (res_main_while0b_v100 V0) : (Proc.devRef .tc main_while0b_v127 : DevRef τ sig).ty.Contents (Elt F)) = Cert.ReferenceIdeal.Step.b72 j s := by
  unfold Cert.ReferenceIdeal.Step.b72
  rw [← al_71 h, ← al_45 h]
  try rfl
set_option maxRecDepth 8192 in
theorem al_73 (h : Holds V0 s j) : (Host.dotGeneral dot_S2x256x4x8x64_S2x256x4x128_S2x4x8x64x128_1_1_34_3_02_02 none (mulf (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (subf (broadcastInDim S2x256x4x8 ![0, 1, 2, 3] bcast_S2x1x4x8_S2x256x4x8_0_1_2_3 (extractStridedSlice S2x1x4x8 ![0, 255, 0, 0] (res_main_while0b_v89 V0) slices_S2x256x4x8_S2x1x4x8_0_255_0_0)) (res_main_while0b_v89 V0))))) (res_main_while0b_v100 V0)) (res_main_while0b_v84 V0) : (Proc.devRef .tc main_while0b_v128 : DevRef τ sig).ty.Contents (Elt F)) = Cert.ReferenceIdeal.Step.b73 j s := by
  unfold Cert.ReferenceIdeal.Step.b73
  rw [← al_72 h, ← al_18 h]
  try rfl
set_option maxRecDepth 8192 in
theorem al_74 (h : Holds V0 s j) : (addf (mulf (V0 (Proc.devRef .tc main_v60_8)) (broadcastInDim S2x4x8x64x128 ![0, 1, 2, 3, 4] bcast_S2x4x8x1x1_S2x4x8x64x128_0_1_2_3_4 (broadcastInDim S2x4x8x1x1 ![0, 1, 2] bcast_S2x4x8_S2x4x8x1x1_0_1_2 (Host.exp (shapeCast S2x4x8 (extractStridedSlice S2x1x4x8 ![0, 255, 0, 0] (res_main_while0b_v89 V0) slices_S2x256x4x8_S2x1x4x8_0_255_0_0) shapeCasts_S2x1x4x8_S2x4x8))))) (Host.dotGeneral dot_S2x256x4x8x64_S2x256x4x128_S2x4x8x64x128_1_1_34_3_02_02 none (mulf (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (subf (broadcastInDim S2x256x4x8 ![0, 1, 2, 3] bcast_S2x1x4x8_S2x256x4x8_0_1_2_3 (extractStridedSlice S2x1x4x8 ![0, 255, 0, 0] (res_main_while0b_v89 V0) slices_S2x256x4x8_S2x1x4x8_0_255_0_0)) (res_main_while0b_v89 V0))))) (res_main_while0b_v100 V0)) (res_main_while0b_v84 V0)) : (Proc.devRef .tc main_while0b_v129 : DevRef τ sig).ty.Contents (Elt F)) = Cert.ReferenceIdeal.Step.b74 j s := by
  unfold Cert.ReferenceIdeal.Step.b74
  rw [← al_69 h, ← al_73 h]
  try rfl
set_option maxRecDepth 8192 in
theorem al_75 (h : Holds V0 s j) : (shapeCast S4x8x1 (V0 (Proc.devRef .tc main_v60_6)) shapeCasts_S32_S4x8x1 : (Proc.devRef .tc main_while0b_v130 : DevRef τ sig).ty.Contents (Elt F)) = Cert.ReferenceIdeal.Step.b75 j s := by
  unfold Cert.ReferenceIdeal.Step.b75
  rw [h.f_6]
  try rfl
set_option maxRecDepth 8192 in
theorem al_76 (h : Holds V0 s j) : (broadcastInDim S1x1x4x8x1 ![2, 3, 4] bcast_S4x8x1_S1x1x4x8x1_2_3_4 (shapeCast S4x8x1 (V0 (Proc.devRef .tc main_v60_6)) shapeCasts_S32_S4x8x1) : (Proc.devRef .tc main_while0b_v131 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (broadcastInDim S2x256x4x8x64 ![0, 1, 2, 3, 4] bcast_S1x1x4x8x1_S2x256x4x8x64_0_1_2_3_4 (broadcastInDim S1x1x4x8x1 ![2, 3, 4] bcast_S4x8x1_S1x1x4x8x1_2_3_4 (shapeCast S4x8x1 (V0 (Proc.devRef .tc main_v60_6)) shapeCasts_S32_S4x8x1)) : (Proc.devRef .tc main_while0b_v132 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (mulf (broadcastInDim S2x256x4x8x64 ![0, 1, 2, 3, 4] bcast_S1x1x4x8x1_S2x256x4x8x64_0_1_2_3_4 (broadcastInDim S1x1x4x8x1 ![2, 3, 4] bcast_S4x8x1_S1x1x4x8x1_2_3_4 (shapeCast S4x8x1 (V0 (Proc.devRef .tc main_v60_6)) shapeCasts_S32_S4x8x1))) (res_main_while0b_v82 V0) : (Proc.devRef .tc main_while0b_v133 : DevRef τ sig).ty.Contents (Elt F)) = Cert.ReferenceIdeal.Step.b78 j s := by
  unfold Cert.ReferenceIdeal.Step.b78
  rw [← al_77 h, ← al_6 h]
  try rfl
set_option maxRecDepth 8192 in
theorem al_79 (h : Holds V0 s j) : (addf (addf (transpose S2x256x4x8x64 [0, 4, 1, 2, 3] (Host.dotGeneral dot_S2x256x4x8x64_S2x256x256x4x8_S2x4x8x64x256_1_2_4_1_023_034 none (res_main_while0b_v100 V0) (mulf (broadcastInDim S2x256x256x4x8 ![0, 1, 2, 3, 4] bcast_S2x256x256x4x1_S2x256x256x4x8_0_1_2_3_4 (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1))) (Host.exp (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32))))))) transposes_S2x4x8x64x256_S2x256x4x8x64_0_4_1_2_3) (mulf (transpose S2x256x4x8x64 [0, 4, 1, 2, 3] (Host.dotGeneral dot_S2x4x8x64x128_S2x256x4x128_S2x4x8x64x256_4_3_23_1_01_02 none (V0 (Proc.devRef .tc main_v60_8)) (res_main_while0b_v85 V0)) transposes_S2x4x8x64x256_S2x256x4x8x64_0_4_1_2_3) (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (res_main_while0b_v89 V0)))))) (mulf (broadcastInDim S2x256x4x8x64 ![0, 1, 2, 3, 4] bcast_S1x1x4x8x1_S2x256x4x8x64_0_1_2_3_4 (broadcastInDim S1x1x4x8x1 ![2, 3, 4] bcast_S4x8x1_S1x1x4x8x1_2_3_4 (shapeCast S4x8x1 (V0 (Proc.devRef .tc main_v60_6)) shapeCasts_S32_S4x8x1))) (res_main_while0b_v82 V0)) : (Proc.devRef .tc main_while0b_v134 : DevRef τ sig).ty.Contents (Elt F)) = Cert.ReferenceIdeal.Step.b79 j s := by
  unfold Cert.ReferenceIdeal.Step.b79
  rw [← al_59 h, ← al_78 h]
  try rfl
set_option maxRecDepth 8192 in
theorem al_80 (h : Holds V0 s j) : (broadcastInDim S1x2x256x4x8x64 ![1, 2, 3, 4, 5] bcast_S2x256x4x8x64_S1x2x256x4x8x64_1_2_3_4_5 (addf (addf (transpose S2x256x4x8x64 [0, 4, 1, 2, 3] (Host.dotGeneral dot_S2x256x4x8x64_S2x256x256x4x8_S2x4x8x64x256_1_2_4_1_023_034 none (res_main_while0b_v100 V0) (mulf (broadcastInDim S2x256x256x4x8 ![0, 1, 2, 3, 4] bcast_S2x256x256x4x1_S2x256x256x4x8_0_1_2_3_4 (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1))) (Host.exp (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32))))))) transposes_S2x4x8x64x256_S2x256x4x8x64_0_4_1_2_3) (mulf (transpose S2x256x4x8x64 [0, 4, 1, 2, 3] (Host.dotGeneral dot_S2x4x8x64x128_S2x256x4x128_S2x4x8x64x256_4_3_23_1_01_02 none (V0 (Proc.devRef .tc main_v60_8)) (res_main_while0b_v85 V0)) transposes_S2x4x8x64x256_S2x256x4x8x64_0_4_1_2_3) (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (res_main_while0b_v89 V0)))))) (mulf (broadcastInDim S2x256x4x8x64 ![0, 1, 2, 3, 4] bcast_S1x1x4x8x1_S2x256x4x8x64_0_1_2_3_4 (broadcastInDim S1x1x4x8x1 ![2, 3, 4] bcast_S4x8x1_S1x1x4x8x1_2_3_4 (shapeCast S4x8x1 (V0 (Proc.devRef .tc main_v60_6)) shapeCasts_S32_S4x8x1))) (res_main_while0b_v82 V0))) : (Proc.devRef .tc main_while0b_call10_v0 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (constantI S_ 32 0#32 : (Proc.devRef .tc main_while0b_call10_c : DevRef τ sig).ty.Contents (Elt F)) = Cert.ReferenceIdeal.Step.b81 j s := by
  unfold Cert.ReferenceIdeal.Step.b81
  rfl
set_option maxRecDepth 8192 in
theorem al_82 (h : Holds V0 s j) : (constantI S_ 32 0#32 : (Proc.devRef .tc main_while0b_call10_c_0 : DevRef τ sig).ty.Contents (Elt F)) = Cert.ReferenceIdeal.Step.b82 j s := by
  unfold Cert.ReferenceIdeal.Step.b82
  rfl
set_option maxRecDepth 8192 in
theorem al_83 (h : Holds V0 s j) : (constantI S_ 32 0#32 : (Proc.devRef .tc main_while0b_call10_c_1 : DevRef τ sig).ty.Contents (Elt F)) = Cert.ReferenceIdeal.Step.b83 j s := by
  unfold Cert.ReferenceIdeal.Step.b83
  rfl
set_option maxRecDepth 8192 in
theorem al_84 (h : Holds V0 s j) : (constantI S_ 32 0#32 : (Proc.devRef .tc main_while0b_call10_c_2 : DevRef τ sig).ty.Contents (Elt F)) = Cert.ReferenceIdeal.Step.b84 j s := by
  unfold Cert.ReferenceIdeal.Step.b84
  rfl
set_option maxRecDepth 8192 in
theorem al_85 (h : Holds V0 s j) : (constantI S_ 32 0#32 : (Proc.devRef .tc main_while0b_call10_c_3 : DevRef τ sig).ty.Contents (Elt F)) = Cert.ReferenceIdeal.Step.b85 j s := by
  unfold Cert.ReferenceIdeal.Step.b85
  rfl
set_option maxRecDepth 8192 in
theorem al_86 (h : Holds V0 s j) : (Host.dynamicUpdateSlice (V0 (Proc.devRef .tc main_v60_9)) (broadcastInDim S1x2x256x4x8x64 ![1, 2, 3, 4, 5] bcast_S2x256x4x8x64_S1x2x256x4x8x64_1_2_3_4_5 (addf (addf (transpose S2x256x4x8x64 [0, 4, 1, 2, 3] (Host.dotGeneral dot_S2x256x4x8x64_S2x256x256x4x8_S2x4x8x64x256_1_2_4_1_023_034 none (res_main_while0b_v100 V0) (mulf (broadcastInDim S2x256x256x4x8 ![0, 1, 2, 3, 4] bcast_S2x256x256x4x1_S2x256x256x4x8_0_1_2_3_4 (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1))) (Host.exp (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32))))))) transposes_S2x4x8x64x256_S2x256x4x8x64_0_4_1_2_3) (mulf (transpose S2x256x4x8x64 [0, 4, 1, 2, 3] (Host.dotGeneral dot_S2x4x8x64x128_S2x256x4x128_S2x4x8x64x256_4_3_23_1_01_02 none (V0 (Proc.devRef .tc main_v60_8)) (res_main_while0b_v85 V0)) transposes_S2x4x8x64x256_S2x256x4x8x64_0_4_1_2_3) (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (res_main_while0b_v89 V0)))))) (mulf (broadcastInDim S2x256x4x8x64 ![0, 1, 2, 3, 4] bcast_S1x1x4x8x1_S2x256x4x8x64_0_1_2_3_4 (broadcastInDim S1x1x4x8x1 ![2, 3, 4] bcast_S4x8x1_S1x1x4x8x1_2_3_4 (shapeCast S4x8x1 (V0 (Proc.devRef .tc main_v60_6)) shapeCasts_S32_S4x8x1))) (res_main_while0b_v82 V0)))) (fun k => (((![V0 (Proc.devRef .tc main_v60_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S32x2x256x4x8x64_S1x2x256x4x8x64 : (Proc.devRef .tc main_while0b_v135 : DevRef τ sig).ty.Contents (Elt F)) = Cert.ReferenceIdeal.Step.b86 j s := by
  unfold Cert.ReferenceIdeal.Step.b86
  rw [← al_80 h, ← al_81 h, ← al_82 h, ← al_83 h, ← al_84 h, ← al_85 h, h.f_9, h.n_7]
  try rfl

/-! One trip's step of the carried values is `step`, field by field; a counter steps to the next number. -/

theorem step_8 (h : Holds V0 s j) : step_main_v60_8 V0 = (step j s).main_v60_8 := by
  unfold step_main_v60_8 Cert.ReferenceIdeal.Step.step
  show id (addf (mulf (V0 (Proc.devRef .tc main_v60_8)) (broadcastInDim S2x4x8x64x128 ![0, 1, 2, 3, 4] bcast_S2x4x8x1x1_S2x4x8x64x128_0_1_2_3_4 (broadcastInDim S2x4x8x1x1 ![0, 1, 2] bcast_S2x4x8_S2x4x8x1x1_0_1_2 (Host.exp (shapeCast S2x4x8 (extractStridedSlice S2x1x4x8 ![0, 255, 0, 0] (res_main_while0b_v89 V0) slices_S2x256x4x8_S2x1x4x8_0_255_0_0) shapeCasts_S2x1x4x8_S2x4x8))))) (Host.dotGeneral dot_S2x256x4x8x64_S2x256x4x128_S2x4x8x64x128_1_1_34_3_02_02 none (mulf (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (subf (broadcastInDim S2x256x4x8 ![0, 1, 2, 3] bcast_S2x1x4x8_S2x256x4x8_0_1_2_3 (extractStridedSlice S2x1x4x8 ![0, 255, 0, 0] (res_main_while0b_v89 V0) slices_S2x256x4x8_S2x1x4x8_0_255_0_0)) (res_main_while0b_v89 V0))))) (res_main_while0b_v100 V0)) (res_main_while0b_v84 V0))) = _
  rw [al_74 h]
  try rfl
set_option maxRecDepth 65536 in
theorem step_9 (h : Holds V0 s j) : step_main_v60_9 V0 = (step j s).main_v60_9 := by
  unfold step_main_v60_9 Cert.ReferenceIdeal.Step.step
  show id (Host.dynamicUpdateSlice (V0 (Proc.devRef .tc main_v60_9)) (broadcastInDim S1x2x256x4x8x64 ![1, 2, 3, 4, 5] bcast_S2x256x4x8x64_S1x2x256x4x8x64_1_2_3_4_5 (addf (addf (transpose S2x256x4x8x64 [0, 4, 1, 2, 3] (Host.dotGeneral dot_S2x256x4x8x64_S2x256x256x4x8_S2x4x8x64x256_1_2_4_1_023_034 none (res_main_while0b_v100 V0) (mulf (broadcastInDim S2x256x256x4x8 ![0, 1, 2, 3, 4] bcast_S2x256x256x4x1_S2x256x256x4x8_0_1_2_3_4 (broadcastInDim S2x256x256x4x1 ![0, 1, 2, 3] bcast_S2x256x256x4_S2x256x256x4x1_0_1_2_3 (transpose S2x256x256x4 [0, 3, 2, 1] (Host.dotGeneral dot_S2x256x4x128_S2x256x4x128_S2x4x256x256_3_3_1_1_02_02 none (res_main_while0b_v84 V0) (res_main_while0b_v85 V0)) transposes_S2x4x256x256_S2x256x256x4_0_3_2_1))) (Host.exp (select (broadcastInDim S2x256x256x4x8 ![0, 1, 2, 3, 4] bcast_S1x256x256x1x1_S2x256x256x4x8_0_1_2_3_4 (broadcastInDim S1x256x256x1x1 ![1, 2] bcast_S256x256_S1x256x256x1x1_1_2 (V0 (Proc.devRef .tc main_v60_5)))) (subf (broadcastInDim S2x256x256x4x8 ![0, 1, 2, 3, 4] bcast_S2x256x1x4x8_S2x256x256x4x8_0_1_2_3_4 (broadcastInDim S2x256x1x4x8 ![0, 1, 3, 4] bcast_S2x256x4x8_S2x256x1x4x8_0_1_3_4 (res_main_while0b_v89 V0))) (broadcastInDim S2x256x256x4x8 ![0, 1, 2, 3, 4] bcast_S2x1x256x4x8_S2x256x256x4x8_0_1_2_3_4 (broadcastInDim S2x1x256x4x8 ![0, 2, 3, 4] bcast_S2x256x4x8_S2x1x256x4x8_0_2_3_4 (res_main_while0b_v89 V0)))) (broadcastInDim S2x256x256x4x8 ![] bcast_S_S2x256x256x4x8 (id (constant S_ .f32 0xFF800000#32))))))) transposes_S2x4x8x64x256_S2x256x4x8x64_0_4_1_2_3) (mulf (transpose S2x256x4x8x64 [0, 4, 1, 2, 3] (Host.dotGeneral dot_S2x4x8x64x128_S2x256x4x128_S2x4x8x64x256_4_3_23_1_01_02 none (V0 (Proc.devRef .tc main_v60_8)) (res_main_while0b_v85 V0)) transposes_S2x4x8x64x256_S2x256x4x8x64_0_4_1_2_3) (broadcastInDim S2x256x4x8x64 ![0, 1, 2, 3, 4] bcast_S2x256x4x8x1_S2x256x4x8x64_0_1_2_3_4 (broadcastInDim S2x256x4x8x1 ![0, 1, 2, 3] bcast_S2x256x4x8_S2x256x4x8x1_0_1_2_3 (Host.exp (res_main_while0b_v89 V0)))))) (mulf (broadcastInDim S2x256x4x8x64 ![0, 1, 2, 3, 4] bcast_S1x1x4x8x1_S2x256x4x8x64_0_1_2_3_4 (broadcastInDim S1x1x4x8x1 ![2, 3, 4] bcast_S4x8x1_S1x1x4x8x1_2_3_4 (shapeCast S4x8x1 (V0 (Proc.devRef .tc main_v60_6)) shapeCasts_S32_S4x8x1))) (res_main_while0b_v82 V0)))) (fun k => (((![V0 (Proc.devRef .tc main_v60_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S32x2x256x4x8x64_S1x2x256x4x8x64) = _
  exact al_86 h
theorem step_7 (h : Holds V0 s j) : step_main_v60_7 V0 = constantI S_ 32 (BitVec.ofNat 32 (j + 1)) := by
  unfold step_main_v60_7
  rw [h.n_7]
  funext i
  show BitVec.ofNat 32 j + 1#32 = BitVec.ofNat 32 (j + 1)
  simp only [BitVec.ofNat_add]

set_option maxRecDepth 8192 in
theorem out_main_v81_holds (h : Holds V0 s j) {x_main_arg0 : (⟨S16384x2048, .f32⟩ : BufTy).Contents (Elt F)} (h_main_arg0 : V0 (Proc.devRef .tc main_arg0) = x_main_arg0) {x_main_arg8 : (⟨S2048, .f32⟩ : BufTy).Contents (Elt F)} (h_main_arg8 : V0 (Proc.devRef .tc main_arg8) = x_main_arg8) : out_main_v81 V0 = Cert.ReferenceIdeal.Step.R_main_v81 s x_main_arg0 x_main_arg8 := by
  unfold out_main_v81 Cert.ReferenceIdeal.Step.R_main_v81
  rw [h.f_9, h_main_arg0, h_main_arg8]
  try rfl

/-- One trip keeps the valuation holding: `step` of the state, the same set-up values, the next number. -/
theorem holds_step (h : Holds V0 s j) : Holds (STEP V0) (step j s) (j + 1) where
  f_8 := (STEP_main_v60_8 V0).trans (step_8 h)
  f_9 := (STEP_main_v60_9 V0).trans (step_9 h)
  n_7 := (STEP_main_v60_7 V0).trans (step_7 h)
  k_5 := (STEP_main_v60_5 V0).trans h.k_5
  f_0 := (STEP_main_v60_0 V0).trans h.f_0
  f_1 := (STEP_main_v60_1 V0).trans h.f_1
  f_2 := (STEP_main_v60_2 V0).trans h.f_2
  f_3 := (STEP_main_v60_3 V0).trans h.f_3
  f_4 := (STEP_main_v60_4 V0).trans h.f_4
  f_6 := (STEP_main_v60_6 V0).trans h.f_6

/-- The state the first trip starts from, of the memory the run starts from. -/
abbrev initState (m : (ℓ : Loc nD τ sig) → Buf (Elt F) ℓ) (c : Dev nD) : State F :=
  init (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v81) = Cert.ReferenceIdeal.Step.R_main_v81 (it c 32) (m ((c.tc : Thread nD τ).loc main_arg0)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 32
    ⟨(h c).1.trans (out_main_v81_holds hk (iter_main_arg0 m c 32) (iter_main_arg8 m c 32)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.StepRun

end
-- ==== Proof.SsdSpec.lean ====
/- The mixer's mathematics, in numbers: the causal convolution of a lane, the step sizes, the decay, the state that a
   sequence carries from chunk to chunk, and what one chunk gives out. The reference (Proof/SsdRef.lean) and the kernel
   (Proof/SsdPay.lean) are both read into these. -/
module

public import Idealize.ShloMosaic.Lib.Pointwise

@[expose] public section

noncomputable section

namespace Cert.Proof.Ssd

open Idealize.ShloMosaic

/-- The running sum of 256 numbers. -/
def cum (f : Fin 256 → EReal) (t : Fin 256) : EReal := ∑ s : Fin 256, if s.val ≤ t.val then f s else 0

/-- The softplus of a number. -/
def sp (x : EReal) : EReal := max x 0 + Ideal.log (1 + Ideal.exp (-(max x (-x))))

/-- The SiLU of a number. -/
def silu (x : EReal) : EReal := x * Ideal.logistic x

/-- The number `s` steps before place `n` of a sequence, zero before its start. -/
def tap (u : ℕ → EReal) (s n : ℕ) : EReal := if s ≤ n then u (n - s) else 0

/-- One lane's causal convolution over four places, with its bias, through SiLU. -/
def conv (u : ℕ → EReal) (w : Fin 4 → EReal) (b : EReal) (n : ℕ) : EReal :=
  silu (tap u 3 n * w 0 + tap u 2 n * w 1 + tap u 1 n * w 2 + tap u 0 n * w 3 + b)

/-- The head of a lane. -/
def hd (l : Fin 2048) : Fin 32 := ⟨l.val / 64, by omega⟩

/-- The lane of `B` that state column `n` of lane `l` reads. -/
def bl (l : Fin 2048) (n : Fin 128) : Fin 3072 := ⟨2048 + (l.val / 512 * 128 + n.val), by omega⟩

/-- The lane of `C` that state column `n` of lane `l` reads. -/
def cl (l : Fin 2048) (n : Fin 128) : Fin 3072 := ⟨2560 + (l.val / 512 * 128 + n.val), by omega⟩

/-- The lane of `x`. -/
def xl (l : Fin 2048) : Fin 3072 := ⟨l.val, by omega⟩

section Args

variable (xbc : (⟨2, ![16384, 3072]⟩ : Shape).Idx → EReal) (dt : (⟨2, ![16384, 32]⟩ : Shape).Idx → EReal)
  (cw : (⟨2, ![4, 3072]⟩ : Shape).Idx → EReal) (cb : (⟨1, ![3072]⟩ : Shape).Idx → EReal)
  (db al ds : (⟨1, ![32]⟩ : Shape).Idx → EReal)

/-- Lane `l` of sequence `b`, by place. -/
def sq (b : Fin 2) (l : Fin 3072) (n : ℕ) : EReal := if h : n < 8192 then xbc (ix2 ⟨b.val * 8192 + n, by omega⟩ l) else 0

/-- The convolved lane `l` of sequence `b` at place `n`. -/
def U (b : Fin 2) (l : Fin 3072) (n : ℕ) : EReal := conv (sq xbc b l) (fun k => cw (ix2 k l)) (cb (ix1 l)) n

/-- Head `h`'s step size at place `n` of sequence `b`. -/
def dts (b : Fin 2) (h : Fin 32) (n : ℕ) : EReal :=
  if hn : n < 8192 then sp (dt (ix2 ⟨b.val * 8192 + n, by omega⟩ h) + db (ix1 h)) else 0

/-- Head `h`'s decay rate. -/
def aa (h : Fin 32) : EReal := -Ideal.exp (al (ix1 h))

/-- Head `h`'s accumulated decay inside chunk `c`. -/
def A (b : Fin 2) (h : Fin 32) (c : ℕ) (t : Fin 256) : EReal := cum (fun s => dts dt db b h (c * 256 + s.val) * aa al h) t

/-- Lane `l`'s state before chunk `c`. -/
def St (b : Fin 2) (l : Fin 2048) : ℕ → Fin 128 → EReal
  | 0 => fun _ => 0
  | c + 1 => fun n => St b l c n * Ideal.exp (A dt db al b (hd l) c 255)
      + ∑ s : Fin 256, Ideal.exp (A dt db al b (hd l) c 255 - A dt db al b (hd l) c s)
          * (U xbc cw cb b (xl l) (c * 256 + s.val) * dts dt db b (hd l) (c * 256 + s.val))
          * U xbc cw cb b (bl l n) (c * 256 + s.val)

/-- What chunk `c` gives out at place `t` of lane `l`, before the gate. -/
def Y (b : Fin 2) (l : Fin 2048) (c : ℕ) (t : Fin 256) : EReal :=
  (∑ s : Fin 256, U xbc cw cb b (xl l) (c * 256 + s.val) * dts dt db b (hd l) (c * 256 + s.val)
      * ((∑ n : Fin 128, U xbc cw cb b (bl l n) (c * 256 + s.val) * U xbc cw cb b (cl l n) (c * 256 + t.val))
        * Ideal.exp (if s.val ≤ t.val then A dt db al b (hd l) c t - A dt db al b (hd l) c s else ⊥)))
    + (∑ n : Fin 128, St xbc dt cw cb db al b l c n * U xbc cw cb b (cl l n) (c * 256 + t.val))
      * Ideal.exp (A dt db al b (hd l) c t)
    + ds (ix1 (hd l)) * U xbc cw cb b (xl l) (c * 256 + t.val)

end Args

/-- One lane of a group of 512, through the group's RMS norm, times its gain. -/
def grp (y : Fin 512 → EReal) (g : EReal) (q : Fin 512) : EReal :=
  y q * Ideal.rsqrt (Ideal.div (∑ k, y k * y k) (Ideal.ofBits FTy.f32 0x44000000#32) + Ideal.ofBits FTy.f32 0x358637BD#32) * g

/-- Lane `q` of group `g`. -/
def gl (g : Fin 4) (q : Fin 512) : Fin 2048 := ⟨g.val * 512 + q.val, by omega⟩

end Cert.Proof.Ssd

end
-- ==== Proof.SsdPair.lean ====
module

public import proofs.«01_k».proof.Proof.Gen.KernelIdeal.Skeleton
public import proofs.«01_k».proof.Proof.SsdSpec
public import Idealize.ShloMosaic.Lib.Pointwise
public import Idealize.ShloMosaic.Lib.Pipeline.ValueKit
public import Idealize.ShloMosaic.Lib.WordCmp

@[expose] public section

set_option maxRecDepth 16384
set_option maxHeartbeats 1000000

noncomputable section

namespace Cert.Proof.Ssd

open Idealize.ShloMosaic Idealize.ShloMosaic.TcCoe Idealize.SL.Sem
open Cert.KernelIdeal Cert.KernelIdeal.Gen

/-- A choice by the causal mask's bit. -/
theorem sel_sle {α : Type} (s t : Fin 256) (a b : α) :
    Scalar.select (IntOp.cmpi .sle (BitVec.ofNat 32 s.val) (BitVec.ofNat 32 t.val)) a b = if s.val ≤ t.val then a else b := by
  have h : (BitVec.ofNat 32 s.val).sle (BitVec.ofNat 32 t.val) = decide (s.val ≤ t.val) := by
    rw [BitVec.sle, WordCmp.toInt_ofNat_of_lt (by omega), WordCmp.toInt_ofNat_of_lt (by omega)]
    simp
  by_cases hh : s.val ≤ t.val <;> simp [Scalar.select, IntOp.cmpi, h, hh]

/-- A choice by a lane's half. -/
theorem sel_slt {α : Type} (q : Fin 128) (a b : α) :
    Scalar.select (IntOp.cmpi .slt (BitVec.ofNat 32 q.val) 64#32) a b = if q.val < 64 then a else b := by
  have h : (BitVec.ofNat 32 q.val).slt 64#32 = decide (q.val < 64) := by
    rw [BitVec.slt, WordCmp.toInt_ofNat_of_lt (by omega)]
    have : (64#32 : BitVec 32).toInt = 64 := by decide
    rw [this]
    simp
  by_cases hh : q.val < 64 <;> simp [Scalar.select, IntOp.cmpi, h, hh]

section Pair

variable (bm cm : Vec Ideal S256x512 .f32) (xs dt ac xd ea xe : Vec Ideal S256x2048 .f32) (act : Vec Ideal S32x256 .f32)
  (sd : Vec Ideal S2048x128 .f32) (sp : Vec Ideal S128x128 .f32)
  (er : Vec Ideal S32x2048 .bf16) (s1 s2 s3 : Vec Ideal S256x2048 .bf16)

/-- The kernel's output of heads `2 i` and `2 i + 1` (group `g`): row `t`, lane `q` of the pair's 128 lanes. -/
def ypair (g : Fin 4) (i : Fin 16) (t : Fin 256) (q : Fin 128) : EReal :=
  (if q.val < 64 then
      ∑ s : Fin 256, (∑ n : Fin 128, cm (ix2 t ⟨g.val * 128 + n.val, by omega⟩) * bm (ix2 s ⟨g.val * 128 + n.val, by omega⟩))
        * Ideal.exp (if s.val ≤ t.val then ac (ix2 t ⟨i.val * 128, by omega⟩) - act (ix2 ⟨i.val * 2, by omega⟩ s) else ⊥)
        * xd (ix2 s ⟨i.val * 128 + q.val, by omega⟩)
    else
      ∑ s : Fin 256, (∑ n : Fin 128, cm (ix2 t ⟨g.val * 128 + n.val, by omega⟩) * bm (ix2 s ⟨g.val * 128 + n.val, by omega⟩))
        * Ideal.exp (if s.val ≤ t.val then ac (ix2 t ⟨i.val * 128 + 64, by omega⟩) - act (ix2 ⟨i.val * 2 + 1, by omega⟩ s) else ⊥)
        * xd (ix2 s ⟨i.val * 128 + q.val, by omega⟩))
    + (∑ n : Fin 128, cm (ix2 t ⟨g.val * 128 + n.val, by omega⟩) * sp (ix2 q n)) * ea (ix2 t ⟨i.val * 128 + q.val, by omega⟩)

/-- The kernel's next state of heads `2 i` and `2 i + 1`: row `q` of the pair's 128, column `n`. -/
def spair (g : Fin 4) (i : Fin 16) (q n : Fin 128) : EReal :=
  sp (ix2 q n) * sd (ix2 ⟨i.val * 128 + q.val, by omega⟩ n)
    + ∑ s : Fin 256, xe (ix2 s ⟨i.val * 128 + q.val, by omega⟩) * bm (ix2 s ⟨g.val * 128 + n.val, by omega⟩)

/-- The mask's fill value. -/
theorem mask_bot : (Named.named κ "mask" 0xF149F2CA#32 : Ideal .f32) = (⊥ : EReal) := IdealRules.named_const.ideal_named_scalar _ _ _ _ rfl

/-- The output store of pair 0. -/
theorem y0_at (t : Fin 256) (q : Fin 128) :
    k0_pay48 k0_pay29 ac (k0_pay36 er s1 s2 s3) ea (iota Kind.tc S256x128 32 [1] iota_S256x128_d1_w32) (k0_pay43 bm cm) (k0_pay44 cm) (k0_pay46 xs dt) (k0_pay47 bm cm k0_pay29 ac er s1 s2 s3) sp (ix2 t q) = ypair bm cm ac (k0_pay37 (F := Ideal) xs dt) ea (k0_pay36 (F := Ideal) er s1 s2 s3) sp 0 0 t q := by
  unfold_payloads
  pointwise [ypair]
  simp only [sel_sle, sel_slt, mask_bot]

/-- The state store of pair 0. -/
theorem s0_at (q n : Fin 128) :
    k0_pay49 xe sd (k0_pay45 bm) sp (ix2 q n) = spair bm xe sd sp 0 0 q n := by
  unfold_payloads
  pointwise [spair]

/-- The output store of pair 1. -/
theorem y1_at (t : Fin 256) (q : Fin 128) :
    k0_pay52 k0_pay29 ac act ea (iota Kind.tc S256x128 32 [1] iota_S256x128_d1_w32) (k0_pay43 bm cm) (k0_pay44 cm) (k0_pay50 xd) (k0_pay51 k0_pay29 ac act (k0_pay43 bm cm)) sp (ix2 t q) = ypair bm cm ac xd ea act sp 0 1 t q := by
  unfold_payloads
  pointwise [ypair]
  simp only [sel_sle, sel_slt, mask_bot]

/-- The state store of pair 1. -/
theorem s1_at (q n : Fin 128) :
    k0_pay53 xe sd (k0_pay45 bm) sp (ix2 q n) = spair bm xe sd sp 0 1 q n := by
  unfold_payloads
  pointwise [spair]

/-- The output store of pair 2. -/
theorem y2_at (t : Fin 256) (q : Fin 128) :
    k0_pay56 k0_pay29 ac act ea (iota Kind.tc S256x128 32 [1] iota_S256x128_d1_w32) (k0_pay43 bm cm) (k0_pay44 cm) (k0_pay54 xd) (k0_pay55 k0_pay29 ac act (k0_pay43 bm cm)) sp (ix2 t q) = ypair bm cm ac xd ea act sp 0 2 t q := by
  unfold_payloads
  pointwise [ypair]
  simp only [sel_sle, sel_slt, mask_bot]

/-- The state store of pair 2. -/
theorem s2_at (q n : Fin 128) :
    k0_pay57 xe sd (k0_pay45 bm) sp (ix2 q n) = spair bm xe sd sp 0 2 q n := by
  unfold_payloads
  pointwise [spair]

/-- The output store of pair 3. -/
theorem y3_at (t : Fin 256) (q : Fin 128) :
    k0_pay60 k0_pay29 ac act ea (iota Kind.tc S256x128 32 [1] iota_S256x128_d1_w32) (k0_pay43 bm cm) (k0_pay44 cm) (k0_pay58 xd) (k0_pay59 k0_pay29 ac act (k0_pay43 bm cm)) sp (ix2 t q) = ypair bm cm ac xd ea act sp 0 3 t q := by
  unfold_payloads
  pointwise [ypair]
  simp only [sel_sle, sel_slt, mask_bot]

/-- The state store of pair 3. -/
theorem s3_at (q n : Fin 128) :
    k0_pay61 xe sd (k0_pay45 bm) sp (ix2 q n) = spair bm xe sd sp 0 3 q n := by
  unfold_payloads
  pointwise [spair]

/-- The output store of pair 4. -/
theorem y4_at (t : Fin 256) (q : Fin 128) :
    k0_pay70 k0_pay29 ac act ea (iota Kind.tc S256x128 32 [1] iota_S256x128_d1_w32) (k0_pay64 bm cm) (k0_pay65 cm) (k0_pay67 xd) (k0_pay68 act) (k0_pay69 ac) sp (ix2 t q) = ypair bm cm ac xd ea act sp 1 4 t q := by
  unfold_payloads
  pointwise [ypair]
  simp only [sel_sle, sel_slt, mask_bot]

/-- The state store of pair 4. -/
theorem s4_at (q n : Fin 128) :
    k0_pay71 xe sd (k0_pay66 bm) sp (ix2 q n) = spair bm xe sd sp 1 4 q n := by
  unfold_payloads
  pointwise [spair]

/-- The output store of pair 5. -/
theorem y5_at (t : Fin 256) (q : Fin 128) :
    k0_pay75 k0_pay29 ac act ea (iota Kind.tc S256x128 32 [1] iota_S256x128_d1_w32) (k0_pay64 bm cm) (k0_pay65 cm) (k0_pay72 xd) (k0_pay73 act) (k0_pay74 ac) sp (ix2 t q) = ypair bm cm ac xd ea act sp 1 5 t q := by
  unfold_payloads
  pointwise [ypair]
  simp only [sel_sle, sel_slt, mask_bot]

/-- The state store of pair 5. -/
theorem s5_at (q n : Fin 128) :
    k0_pay76 xe sd (k0_pay66 bm) sp (ix2 q n) = spair bm xe sd sp 1 5 q n := by
  unfold_payloads
  pointwise [spair]

/-- The output store of pair 6. -/
theorem y6_at (t : Fin 256) (q : Fin 128) :
    k0_pay80 k0_pay29 ac act ea (iota Kind.tc S256x128 32 [1] iota_S256x128_d1_w32) (k0_pay64 bm cm) (k0_pay65 cm) (k0_pay77 xd) (k0_pay78 act) (k0_pay79 ac) sp (ix2 t q) = ypair bm cm ac xd ea act sp 1 6 t q := by
  unfold_payloads
  pointwise [ypair]
  simp only [sel_sle, sel_slt, mask_bot]

/-- The state store of pair 6. -/
theorem s6_at (q n : Fin 128) :
    k0_pay81 xe sd (k0_pay66 bm) sp (ix2 q n) = spair bm xe sd sp 1 6 q n := by
  unfold_payloads
  pointwise [spair]

/-- The output store of pair 7. -/
theorem y7_at (t : Fin 256) (q : Fin 128) :
    k0_pay85 k0_pay29 ac act ea (iota Kind.tc S256x128 32 [1] iota_S256x128_d1_w32) (k0_pay64 bm cm) (k0_pay65 cm) (k0_pay82 xd) (k0_pay83 act) (k0_pay84 ac) sp (ix2 t q) = ypair bm cm ac xd ea act sp 1 7 t q := by
  unfold_payloads
  pointwise [ypair]
  simp only [sel_sle, sel_slt, mask_bot]

/-- The state store of pair 7. -/
theorem s7_at (q n : Fin 128) :
    k0_pay86 xe sd (k0_pay66 bm) sp (ix2 q n) = spair bm xe sd sp 1 7 q n := by
  unfold_payloads
  pointwise [spair]

/-- The output store of pair 8. -/
theorem y8_at (t : Fin 256) (q : Fin 128) :
    k0_pay94 k0_pay29 ac act xd ea (iota Kind.tc S256x128 32 [1] iota_S256x128_d1_w32) (k0_pay87 cm) (k0_pay89 cm) (k0_pay90 bm) (constant S256x256 .f32 0#32) sp (ix2 t q) = ypair bm cm ac xd ea act sp 2 8 t q := by
  unfold_payloads
  pointwise [ypair]
  simp only [sel_sle, sel_slt, mask_bot]

/-- The state store of pair 8. -/
theorem s8_at (q n : Fin 128) :
    k0_pay96 (k0_pay95 xe sd (k0_pay88 bm) sp) (ix2 q n) = spair bm xe sd sp 2 8 q n := by
  unfold_payloads
  pointwise [spair]

/-- The output store of pair 9. -/
theorem y9_at (t : Fin 256) (q : Fin 128) :
    k0_pay97 k0_pay29 ac act xd ea (iota Kind.tc S256x128 32 [1] iota_S256x128_d1_w32) (k0_pay91 (k0_pay89 cm) (k0_pay90 bm) (constant S256x256 .f32 0#32)) (k0_pay92 (k0_pay87 cm)) sp (ix2 t q) = ypair bm cm ac xd ea act sp 2 9 t q := by
  unfold_payloads
  pointwise [ypair]
  simp only [sel_sle, sel_slt, mask_bot]

/-- The state store of pair 9. -/
theorem s9_at (q n : Fin 128) :
    k0_pay99 (k0_pay98 xe sd (k0_pay93 (k0_pay88 bm)) sp) (ix2 q n) = spair bm xe sd sp 2 9 q n := by
  unfold_payloads
  pointwise [spair]

/-- The output store of pair 10. -/
theorem y10_at (t : Fin 256) (q : Fin 128) :
    k0_pay100 k0_pay29 ac act xd ea (iota Kind.tc S256x128 32 [1] iota_S256x128_d1_w32) (k0_pay91 (k0_pay89 cm) (k0_pay90 bm) (constant S256x256 .f32 0#32)) (k0_pay92 (k0_pay87 cm)) sp (ix2 t q) = ypair bm cm ac xd ea act sp 2 10 t q := by
  unfold_payloads
  pointwise [ypair]
  simp only [sel_sle, sel_slt, mask_bot]

/-- The state store of pair 10. -/
theorem s10_at (q n : Fin 128) :
    k0_pay102 (k0_pay101 xe sd (k0_pay93 (k0_pay88 bm)) sp) (ix2 q n) = spair bm xe sd sp 2 10 q n := by
  unfold_payloads
  pointwise [spair]

/-- The output store of pair 11. -/
theorem y11_at (t : Fin 256) (q : Fin 128) :
    k0_pay103 k0_pay29 ac act xd ea (iota Kind.tc S256x128 32 [1] iota_S256x128_d1_w32) (k0_pay91 (k0_pay89 cm) (k0_pay90 bm) (constant S256x256 .f32 0#32)) (k0_pay92 (k0_pay87 cm)) sp (ix2 t q) = ypair bm cm ac xd ea act sp 2 11 t q := by
  unfold_payloads
  pointwise [ypair]
  simp only [sel_sle, sel_slt, mask_bot]

/-- The state store of pair 11. -/
theorem s11_at (q n : Fin 128) :
    k0_pay105 (k0_pay104 xe sd (k0_pay93 (k0_pay88 bm)) sp) (ix2 q n) = spair bm xe sd sp 2 11 q n := by
  unfold_payloads
  pointwise [spair]

/-- The output store of pair 12. -/
theorem y12_at (t : Fin 256) (q : Fin 128) :
    k0_pay111 bm cm k0_pay29 ac act xd ea (iota Kind.tc S256x128 32 [1] iota_S256x128_d1_w32) sp (ix2 t q) = ypair bm cm ac xd ea act sp 3 12 t q := by
  unfold_payloads
  pointwise [ypair]
  simp only [sel_sle, sel_slt, mask_bot]

/-- The state store of pair 12. -/
theorem s12_at (q n : Fin 128) :
    k0_pay113 sd (k0_pay110 bm) sp (k0_pay112 xe) (ix2 q n) = spair bm xe sd sp 3 12 q n := by
  unfold_payloads
  pointwise [spair]

/-- The output store of pair 13. -/
theorem y13_at (t : Fin 256) (q : Fin 128) :
    k0_pay114 k0_pay29 ac act xd ea (iota Kind.tc S256x128 32 [1] iota_S256x128_d1_w32) (k0_pay108 bm cm) (k0_pay109 cm) sp (ix2 t q) = ypair bm cm ac xd ea act sp 3 13 t q := by
  unfold_payloads
  pointwise [ypair]
  simp only [sel_sle, sel_slt, mask_bot]

/-- The state store of pair 13. -/
theorem s13_at (q n : Fin 128) :
    k0_pay116 sd (k0_pay110 bm) sp (k0_pay115 xe) (ix2 q n) = spair bm xe sd sp 3 13 q n := by
  unfold_payloads
  pointwise [spair]

/-- The output store of pair 14. -/
theorem y14_at (t : Fin 256) (q : Fin 128) :
    k0_pay117 k0_pay29 ac act xd ea (iota Kind.tc S256x128 32 [1] iota_S256x128_d1_w32) (k0_pay108 bm cm) (k0_pay109 cm) sp (ix2 t q) = ypair bm cm ac xd ea act sp 3 14 t q := by
  unfold_payloads
  pointwise [ypair]
  simp only [sel_sle, sel_slt, mask_bot]

/-- The state store of pair 14. -/
theorem s14_at (q n : Fin 128) :
    k0_pay119 sd (k0_pay110 bm) sp (k0_pay118 xe) (ix2 q n) = spair bm xe sd sp 3 14 q n := by
  unfold_payloads
  pointwise [spair]

/-- The output store of pair 15. -/
theorem y15_at (t : Fin 256) (q : Fin 128) :
    k0_pay120 k0_pay29 ac act xd ea (iota Kind.tc S256x128 32 [1] iota_S256x128_d1_w32) (k0_pay108 bm cm) (k0_pay109 cm) sp (ix2 t q) = ypair bm cm ac xd ea act sp 3 15 t q := by
  unfold_payloads
  pointwise [ypair]
  simp only [sel_sle, sel_slt, mask_bot]

/-- The state store of pair 15. -/
theorem s15_at (q n : Fin 128) :
    k0_pay122 sd (k0_pay110 bm) sp (k0_pay121 xe) (ix2 q n) = spair bm xe sd sp 3 15 q n := by
  unfold_payloads
  pointwise [spair]

end Pair

end Cert.Proof.Ssd
-- ==== Proof.SsdConv.lean ====
module

public import proofs.«01_k».proof.Proof.Gen.KernelIdeal.Skeleton
public import proofs.«01_k».proof.Proof.SsdSpec
public import Idealize.ShloMosaic.Lib.Pointwise
public import Idealize.ShloMosaic.Lib.Pipeline.ValueKit
public import Idealize.ShloMosaic.Lib.WordCmp

@[expose] public section

set_option maxRecDepth 16384
set_option maxHeartbeats 1000000

noncomputable section

namespace Cert.Proof.Ssd

open Idealize.ShloMosaic Idealize.ShloMosaic.TcCoe Idealize.SL.Sem
open Cert.KernelIdeal Cert.KernelIdeal.Gen

/-- Row `t` of a chunk moved down by `s` rows, the rows before the chunk taken from the last of the eight carried ones. -/
def shf (C : Fin 8 → EReal) (x : Fin 256 → EReal) (s : ℕ) (t : Fin 256) : EReal :=
  if h : s ≤ t.val then x ⟨t.val - s, by omega⟩ else C ⟨(t.val + 8 - s) % 8, Nat.mod_lt _ (by omega)⟩

/-- A chunk's convolution through SiLU, from the chunk, the carried rows, the taps and the bias. -/
def cnv (C : Fin 8 → EReal) (x : Fin 256 → EReal) (w : Fin 4 → EReal) (b : EReal) (t : Fin 256) : EReal :=
  silu (x t * w 3 + b + shf C x 1 t * w 2 + shf C x 2 t * w 1 + shf C x 3 t * w 0)

/-- The kernel's choice between the turned carry and the turned chunk is the moved chunk. -/
theorem pick_shf (C : Fin 8 → EReal) (x : Fin 256 → EReal) (s : ℕ) (hs : s < 8) (t : Fin 256) :
    (if h : t.val < 8 then Scalar.select (IntOp.cmpi .slt (BitVec.ofNat 32 t.val) (BitVec.ofNat 32 s)) (C ⟨(t.val + 8 - s) % 8, Nat.mod_lt _ (by omega)⟩)
        (x ⟨(t.val + 256 - s) % 256, Nat.mod_lt _ (by omega)⟩) else x ⟨(8 + (t.val - 8) + 256 - s) % 256, Nat.mod_lt _ (by omega)⟩) = shf C x s t := by
  have hc : (BitVec.ofNat 32 t.val).slt (BitVec.ofNat 32 s) = decide (t.val < s) := by
    rw [BitVec.slt, WordCmp.toInt_ofNat_of_lt (by omega), WordCmp.toInt_ofNat_of_lt (by omega)]
    simp
  unfold shf
  by_cases h : t.val < 8
  · rw [dif_pos h]
    by_cases h2 : s ≤ t.val
    · rw [dif_pos h2]
      have h3 : ¬ t.val < s := by omega
      simp only [Scalar.select, IntOp.cmpi, hc, h3]
      exact congrArg x (Fin.ext (by show (t.val + 256 - s) % 256 = t.val - s; omega))
    · rw [dif_neg h2]
      have h3 : t.val < s := by omega
      simp only [Scalar.select, IntOp.cmpi, hc, h3]
      rfl
  · rw [dif_neg h, dif_pos (show s ≤ t.val by omega)]
    exact congrArg x (Fin.ext (by show (8 + (t.val - 8) + 256 - s) % 256 = t.val - s; omega))

/-- A chunk's convolution is the sequence's at the chunk's places. -/
theorem cnv_eq (u : ℕ → EReal) (C : Fin 8 → EReal) (x : Fin 256 → EReal) (w : Fin 4 → EReal) (b : EReal) (c : ℕ) (t : Fin 256)
    (hx : ∀ a, x a = u (c * 256 + a.val)) (hC : ∀ a, C a = if c = 0 then 0 else u (c * 256 - 8 + a.val)) :
    cnv C x w b t = conv u w b (c * 256 + t.val) := by
  have hs : ∀ s, s < 8 → shf C x s t = tap u s (c * 256 + t.val) := fun s h8 => by
    unfold shf tap
    by_cases h : s ≤ t.val
    · rw [dif_pos h, if_pos (by omega), hx]
      exact congrArg u (by show c * 256 + (t.val - s) = _; omega)
    · rw [dif_neg h, hC]
      by_cases h0 : c = 0
      · rw [if_pos h0, if_neg (by omega)]
      · rw [if_neg h0, if_pos (by omega)]
        exact congrArg u (by show c * 256 - 8 + (t.val + 8 - s) % 8 = _; omega)
  have h0 : x t = tap u 0 (c * 256 + t.val) := by rw [hx]; unfold tap; rw [if_pos (by omega)]; rfl
  unfold cnv conv
  rw [hs 1 (by omega), hs 2 (by omega), hs 3 (by omega), h0]
  refine congrArg silu ?_
  generalize tap u 0 _ * w 3 = a3
  generalize tap u 1 _ * w 2 = a2
  generalize tap u 2 _ * w 1 = a1
  generalize tap u 3 _ * w 0 = a0
  abel

section X
variable (X : Vec Ideal S256x2048 .f32) (C : Vec Ideal S8x2048 .f32) (W : Vec Ideal S4x2048 .f32) (bi : Vec Ideal S1x2048 .f32)

/-- The kernel's convolved `x` columns of one chunk, from the chunk, the carried rows, the taps and the bias. -/
def convX : FVec Ideal S256x2048 .f32 :=
  k0_pay12 (iota Kind.tc S8x1 32 [0] iota_S8x1_d0_w32) (k0_pay6 X) C
    (k0_pay7 X C (View.ld W (Rect.unit ![3, 0] ![1, 2048] inb_S4x2048_S1x2048_3_0)) bi
      (View.ld W (Rect.unit ![2, 0] ![1, 2048] inb_S4x2048_S1x2048_2_0)))
    (k0_pay9 X C) (k0_pay10 X) (View.ld W (Rect.unit ![1, 0] ![1, 2048] inb_S4x2048_S1x2048_1_0))
    (View.ld W (Rect.unit ![0, 0] ![1, 2048] inb_S4x2048_S1x2048_0_0))

/-- Entry by entry they are the chunk's convolution. -/
theorem convX_at (t : Fin 256) (l : Fin 2048) :
    convX X C W bi (ix2 t l) = cnv (fun a => C (ix2 a l)) (fun a => X (ix2 a l)) (fun k => W (ix2 k l)) (bi (ix2 0 l)) t := by
  unfold convX cnv silu
  unfold_payloads
  pointwise []
  rw [← pick_shf _ _ 1 (by omega) t, ← pick_shf _ _ 2 (by omega) t, ← pick_shf _ _ 3 (by omega) t]

end X

section B
variable (X : Vec Ideal S256x512 .f32) (C : Vec Ideal S8x512 .f32) (W : Vec Ideal S4x512 .f32) (bi : Vec Ideal S1x512 .f32)

/-- The kernel's convolved `B` columns of one chunk, from the chunk, the carried rows, the taps and the bias. -/
def convB : FVec Ideal S256x512 .f32 :=
  k0_pay20 (k0_pay17 (iota Kind.tc S8x1 32 [0] iota_S8x1_d0_w32) (k0_pay13 X) C
    (k0_pay14 X (View.ld W (Rect.unit ![3, 0] ![1, 512] inb_S4x512_S1x512_3_0)) bi) (k0_pay15 X) (k0_pay16 C)
      (View.ld W (Rect.unit ![2, 0] ![1, 512] inb_S4x512_S1x512_2_0)) (View.ld W (Rect.unit ![1, 0] ![1, 512] inb_S4x512_S1x512_1_0))
    (View.ld W (Rect.unit ![0, 0] ![1, 512] inb_S4x512_S1x512_0_0)))

/-- Entry by entry they are the chunk's convolution. -/
theorem convB_at (t : Fin 256) (l : Fin 512) :
    convB X C W bi (ix2 t l) = cnv (fun a => C (ix2 a l)) (fun a => X (ix2 a l)) (fun k => W (ix2 k l)) (bi (ix2 0 l)) t := by
  unfold convB cnv silu
  unfold_payloads
  pointwise []
  rw [← pick_shf _ _ 1 (by omega) t, ← pick_shf _ _ 2 (by omega) t, ← pick_shf _ _ 3 (by omega) t]

end B

section C
variable (X : Vec Ideal S256x512 .f32) (C : Vec Ideal S8x512 .f32) (W : Vec Ideal S4x512 .f32) (bi : Vec Ideal S1x512 .f32)

/-- The kernel's convolved `C` columns of one chunk, from the chunk, the carried rows, the taps and the bias. -/
def convC : FVec Ideal S256x512 .f32 :=
  k0_pay25 (iota Kind.tc S8x1 32 [0] iota_S8x1_d0_w32) (k0_pay21 X) C
    (k0_pay22 (iota Kind.tc S8x1 32 [0] iota_S8x1_d0_w32) X C (View.ld W (Rect.unit ![3, 0] ![1, 512] inb_S4x512_S1x512_3_0)) bi
      (View.ld W (Rect.unit ![2, 0] ![1, 512] inb_S4x512_S1x512_2_0)))
    (k0_pay23 (iota Kind.tc S8x1 32 [0] iota_S8x1_d0_w32) X C) (View.ld W (Rect.unit ![1, 0] ![1, 512] inb_S4x512_S1x512_1_0))
    (View.ld W (Rect.unit ![0, 0] ![1, 512] inb_S4x512_S1x512_0_0))

/-- Entry by entry they are the chunk's convolution. -/
theorem convC_at (t : Fin 256) (l : Fin 512) :
    convC X C W bi (ix2 t l) = cnv (fun a => C (ix2 a l)) (fun a => X (ix2 a l)) (fun k => W (ix2 k l)) (bi (ix2 0 l)) t := by
  unfold convC cnv silu
  unfold_payloads
  pointwise []
  rw [← pick_shf _ _ 1 (by omega) t, ← pick_shf _ _ 2 (by omega) t, ← pick_shf _ _ 3 (by omega) t]

end C

/-- The rows carried to the next chunk are the last eight. -/
theorem tailX_at (X : Vec Ideal S256x2048 .f32) (a : Fin 8) (l : Fin 2048) :
    k0_pay11 (k0_pay6 X) (ix2 a l) = X (ix2 ⟨248 + a.val, by omega⟩ l) := by
  pointwise [k0_pay11, k0_pay6]

/-- The same of `B`. -/
theorem tailB_at (X : Vec Ideal S256x512 .f32) (a : Fin 8) (l : Fin 512) :
    k0_pay19 (k0_pay18 (k0_pay13 X)) (ix2 a l) = X (ix2 ⟨248 + a.val, by omega⟩ l) := by
  pointwise [k0_pay19, k0_pay18, k0_pay13]

/-- The same of `C`. -/
theorem tailC_at (X : Vec Ideal S256x512 .f32) (a : Fin 8) (l : Fin 512) :
    k0_pay24 (k0_pay21 X) (ix2 a l) = X (ix2 ⟨248 + a.val, by omega⟩ l) := by
  pointwise [k0_pay24, k0_pay21]

end Cert.Proof.Ssd
-- ==== Proof.SsdDec.lean ====
module

public import proofs.«01_k».proof.Proof.Gen.KernelIdeal.Skeleton
public import proofs.«01_k».proof.Proof.SsdSpec
public import proofs.«01_k».proof.Proof.SsdPair
public import Idealize.ShloMosaic.Lib.Pointwise
public import Idealize.ShloMosaic.Lib.Pipeline.ValueKit
public import Idealize.ShloMosaic.Lib.WordCmp

@[expose] public section

set_option maxRecDepth 16384
set_option maxHeartbeats 1000000

noncomputable section

namespace Cert.Proof.Ssd

open Idealize.ShloMosaic Idealize.ShloMosaic.TcCoe Idealize.SL.Sem
open Cert.KernelIdeal Cert.KernelIdeal.Gen

/-- A number below infinity is the sum of the three parts a three-way split leaves of it. -/
theorem split3 (b : EReal) (h : b ≠ ⊤) : b + (b - b) + (b - b - (b - b)) = b := by
  induction b with
  | bot => simp
  | top => exact absurd rfl h
  | coe r => rw [← EReal.coe_sub, sub_self, ← EReal.coe_sub, sub_self]; simp

/-- A sum against one column of a 0/1 table is the entry the column names. -/
theorem pick_right {n : ℕ} (f e : Fin n → EReal) (k : Fin n) (he : ∀ x, e x = if x = k then 1 else 0) : ∑ x, f x * e x = f k := by
  simp [he]

/-- The same with the table on the left. -/
theorem pick_left {n : ℕ} (f e : Fin n → EReal) (k : Fin n) (he : ∀ x, e x = if x = k then 1 else 0) : ∑ x, e x * f x = f k := by
  simp [he]

/-- The softplus is not negative. -/
theorem sp_nonneg (x : EReal) : 0 ≤ sp x := by
  have hl : ∀ y : EReal, 1 ≤ y → 0 ≤ Ideal.log y := fun y hy => by
    induction y with
    | bot => exact absurd hy (not_le.mpr (EReal.bot_lt_coe 1))
    | top => exact le_top
    | coe r =>
      have h1 : (1 : ℝ) ≤ r := by exact_mod_cast hy
      show (0 : EReal) ≤ if r ≤ 0 then ⊥ else (Real.log r : EReal)
      rw [if_neg (by linarith)]
      exact_mod_cast Real.log_nonneg h1
  have he : ∀ y : EReal, 0 ≤ Ideal.exp y := fun y => by
    induction y with
    | bot => exact le_refl _
    | top => exact le_top
    | coe r => show (0 : EReal) ≤ (Real.exp r : EReal); exact_mod_cast (Real.exp_pos r).le
  exact add_nonneg (le_max_right _ _) (hl _ (le_add_of_nonneg_right (he _)))

/-- An exponential is not negative. -/
theorem exp_nonneg' (y : EReal) : 0 ≤ Ideal.exp y := by
  induction y with
  | bot => exact le_refl _
  | top => exact le_top
  | coe r => show (0 : EReal) ≤ (Real.exp r : EReal); exact_mod_cast (Real.exp_pos r).le

/-- A step size times a decay rate is not positive. -/
theorem step_nonpos (x y : EReal) : sp x * -Ideal.exp y ≤ 0 := by
  rw [mul_neg]
  have h := mul_nonneg (sp_nonneg x) (exp_nonneg' y)
  exact EReal.neg_le_zero.mpr h

/-- A running sum of numbers that are not positive is not positive. -/
theorem cum_nonpos (f : Fin 256 → EReal) (h : ∀ s, f s ≤ 0) (t : Fin 256) : cum f t ≤ 0 :=
  Finset.sum_nonpos fun s _ => by split <;> simp [h s]

/-- A number at most 0 is not +∞. -/
theorem ne_top_of_nonpos {x : EReal} (h : x ≤ 0) : x ≠ ⊤ := fun e => by rw [e] at h; exact absurd h (by simp)

section D
variable (G : Vec Ideal S256x128 .f32) (E : Vec Ideal S128x2048 .bf16) (db al : Vec Ideal S1x2048 .f32)
  (er : Vec Ideal S32x2048 .bf16) (ec : Vec Ideal S2048x32 .bf16) (v : FVec Ideal S256x2048 .f32)

/-- The spread of the per-head columns over the lanes: lane `l` gets the column the table names. -/
theorem raw_at (t : Fin 256) (l : Fin 2048) (k : Fin 128) (hE : ∀ x, E (ix2 x l) = if x = k then 1 else 0)
    (hG : G (ix2 t k) ≠ ⊤) : k0_pay26 G E (ix2 t l) = G (ix2 t k) := by
  pointwise [k0_pay26]
  rw [pick_right (fun x => G (ix2 t x)) _ k hE, pick_right (fun x => G (ix2 t x) - G (ix2 t x)) _ k hE,
    pick_right (fun x => G (ix2 t x) - G (ix2 t x) - (G (ix2 t x) - G (ix2 t x))) _ k hE]
  exact split3 _ hG

/-- The step sizes. -/
theorem dtk_at (t : Fin 256) (l : Fin 2048) : k0_pay28 v (k0_pay27 db) (ix2 t l) = sp (v (ix2 t l) + db (ix2 0 l)) := by
  pointwise [k0_pay28, k0_pay27, sp]
  rw [zero_sub]
  rfl

/-- The accumulated decay: the running sum of the step sizes times the decay rate. -/
theorem ac_at (t : Fin 256) (l : Fin 2048) :
    k0_pay30 v (k0_pay27 db) al (ix2 t l) = cum (fun s => sp (v (ix2 s l) + db (ix2 0 l)) * -Ideal.exp (al (ix2 0 l))) t := by
  pointwise [k0_pay30, k0_pay29, dtk_at]
  simp only [sel_sle, zero_sub]
  rw [← Finset.sum_add_distrib, ← Finset.sum_add_distrib]
  refine Finset.sum_congr rfl fun s _ => ?_
  by_cases h : s.val ≤ t.val
  · simp only [if_pos h]
    exact split3 _ (ne_top_of_nonpos (step_nonpos _ _))
  · simp only [if_neg h, add_zero]

/-- It is not positive. -/
theorem ac_nonpos (t : Fin 256) (l : Fin 2048) : k0_pay30 v (k0_pay27 db) al (ix2 t l) ≤ 0 := by
  rw [ac_at]
  exact cum_nonpos _ (fun s => step_nonpos _ _) t

/-- The accumulated decay turned: row `h`, column `t` is the decay of the lane the table names for head `h`. -/
theorem act_at (h : Fin 32) (t : Fin 256) (k : Fin 2048) (hE : ∀ x, er (ix2 h x) = if x = k then 1 else 0) :
    k0_pay36 (k0_pay31 er) (k0_pay32 v (k0_pay27 db) al) (k0_pay34 v (k0_pay27 db) al) (k0_pay35 v (k0_pay27 db) al) (ix2 h t)
      = k0_pay30 v (k0_pay27 db) al (ix2 t k) := by
  have hn := ac_nonpos db al v t k
  unfold k0_pay32 k0_pay35 k0_pay34 k0_pay33 k0_pay32
  generalize k0_pay30 v (k0_pay27 db) al = a at hn ⊢
  pointwise [k0_pay36, k0_pay31]
  rw [pick_left (fun x => a (ix2 t x)) _ k hE, pick_left (fun x => a (ix2 t x) - a (ix2 t x)) _ k hE,
    pick_left (fun x => a (ix2 t x) - a (ix2 t x) - (a (ix2 t x) - a (ix2 t x))) _ k hE]
  exact split3 _ (ne_top_of_nonpos hn)

/-- The state's decay over the chunk: row `l` is the exponential of the turned decay's last column, at the head the table names. -/
theorem sd_at (s1 s2 s3 : FVec Ideal S256x2048 .bf16) (l : Fin 2048) (n : Fin 128) (k : Fin 32) (hE : ∀ x, ec (ix2 l x) = if x = k then 1 else 0)
    (hn : k0_pay36 (k0_pay31 er) s1 s2 s3 (ix2 k 255) ≤ 0) :
    k0_pay40 (k0_pay31 er) s1 s2 s3 ec (ix2 l n) = Ideal.exp (k0_pay36 (k0_pay31 er) s1 s2 s3 (ix2 k 255)) := by
  generalize hT : k0_pay36 (k0_pay31 er) s1 s2 s3 = a at hn ⊢
  pointwise [k0_pay40, hT]
  rw [pick_left (fun x => a (ix2 x 255)) _ k hE, pick_left (fun x => a (ix2 x 255) - a (ix2 x 255)) _ k hE,
    pick_left (fun x => a (ix2 x 255) - a (ix2 x 255) - (a (ix2 x 255) - a (ix2 x 255))) _ k hE]
  rw [split3 _ (ne_top_of_nonpos hn)]

/-- The step sizes times the convolved `x`, decayed to the chunk's end. -/
theorem xe_at (xs dt ac : FVec Ideal S256x2048 .f32) (t : Fin 256) (l : Fin 2048) :
    k0_pay38 xs dt ac (ix2 t l) = xs (ix2 t l) * dt (ix2 t l) * Ideal.exp (ac (ix2 255 l) - ac (ix2 t l)) := by
  pointwise [k0_pay38, k0_pay37]

/-- The step sizes times the convolved `x`. -/
theorem xd_at (xs dt : FVec Ideal S256x2048 .f32) (t : Fin 256) (l : Fin 2048) :
    k0_pay37 xs dt (ix2 t l) = xs (ix2 t l) * dt (ix2 t l) := by
  pointwise [k0_pay37]

/-- The decay from the chunk's start. -/
theorem ea_at (ac : FVec Ideal S256x2048 .f32) (t : Fin 256) (l : Fin 2048) : k0_pay39 ac (ix2 t l) = Ideal.exp (ac (ix2 t l)) := by
  pointwise [k0_pay39]

end D

section Fin
variable (xs ys z : Vec Ideal S256x2048 .f32) (ds ng : Vec Ideal S1x2048 .f32)

/-- The gated output. -/
theorem gate_at (t : Fin 256) (l : Fin 2048) :
    k0_pay123 xs ys ds z (ix2 t l) = (ys (ix2 t l) + ds (ix2 0 l) * xs (ix2 t l)) * silu (z (ix2 t l)) := by
  pointwise [k0_pay123, silu]

/-- The last payload is the group norm of the gated output. -/
theorem out_at' (t : Fin 256) (g : Fin 4) (q : Fin 512) :
    k0_pay1 (k0_pay123 xs ys ds z) (k0_pay124 xs ys ds z) (k0_pay125 xs ys ds z) (k0_pay126 xs ys ds z) (k0_pay127 xs ys ds z) ng (ix2 t (gl g q))
      = grp (fun k => k0_pay123 xs ys ds z (ix2 t (gl g k))) (ng (ix2 0 (gl g q))) q := by
  fin_cases g
  · pointwise [k0_pay1, k0_pay124, k0_pay125, k0_pay126, k0_pay127, grp, gl]
  · pointwise [k0_pay1, k0_pay124, k0_pay125, k0_pay126, k0_pay127, grp, gl]
  · pointwise [k0_pay1, k0_pay124, k0_pay125, k0_pay126, k0_pay127, grp, gl]
    refine congrArg (· * _) ((dif_neg (by omega)).trans ((dif_neg (by omega)).trans ((dif_pos (by omega)).trans ?_)))
    exact congrArg (fun k => k0_pay123 xs ys ds z (ix2 t k) * _) (Fin.ext (by show 1024 + (1024 + q.val - 512 - 512) = 1024 + q.val; omega))
  · pointwise [k0_pay1, k0_pay124, k0_pay125, k0_pay126, k0_pay127, grp, gl]
    refine congrArg (· * _) ((dif_neg (by omega)).trans ((dif_neg (by omega)).trans ((dif_neg (by omega)).trans ?_)))
    exact congrArg (fun k => k0_pay123 xs ys ds z (ix2 t k) * _) (Fin.ext (by show 1536 + (1536 + q.val - 512 - 512 - 512) = 1536 + q.val; omega))

end Fin

end Cert.Proof.Ssd
-- ==== Proof.SsdStep.lean ====
module

public import proofs.«01_k».proof.Proof.SsdSpec
public import proofs.«01_k».proof.Proof.SsdPair
public import proofs.«01_k».proof.Proof.SsdConv
public import proofs.«01_k».proof.Proof.SsdDec
public import Idealize.ShloMosaic.Lib.Pointwise
public import Idealize.ShloMosaic.Lib.Pipeline.ValueKit

/-!
One chunk of the SSD mixer: from what the windows hold at a grid point, the values of the kernel's intermediate arrays, of its output and of
its next state, in the words of `SsdSpec`.
-/

@[expose] public section

set_option maxRecDepth 16384
set_option maxHeartbeats 1000000

noncomputable section

namespace Cert.Proof.Ssd

open Idealize.ShloMosaic Idealize.ShloMosaic.TcCoe Idealize.SL.Sem
open Cert.KernelIdeal Cert.KernelIdeal.Gen

/-- What the windows and the carried rows hold at chunk `c` of sequence `b`. -/
structure Holds (xbc : (⟨2, ![16384, 3072]⟩ : Shape).Idx → EReal) (dt : (⟨2, ![16384, 32]⟩ : Shape).Idx → EReal)
    (cw : (⟨2, ![4, 3072]⟩ : Shape).Idx → EReal) (cb : (⟨1, ![3072]⟩ : Shape).Idx → EReal)
    (db al : (⟨1, ![32]⟩ : Shape).Idx → EReal) (b : Fin 2) (c : ℕ)
    (X : Vec Ideal S256x2048 .f32) (B C : Vec Ideal S256x512 .f32) (G : Vec Ideal S256x128 .f32)
    (Wx : Vec Ideal S4x2048 .f32) (Wb Wc : Vec Ideal S4x512 .f32) (bx : Vec Ideal S1x2048 .f32) (bb bc : Vec Ideal S1x512 .f32)
    (dbv alv : Vec Ideal S1x2048 .f32) (E : Vec Ideal S128x2048 .bf16) (er : Vec Ideal S32x2048 .bf16) (ec : Vec Ideal S2048x32 .bf16)
    (C0 : Vec Ideal S8x2048 .f32) (C1 C2 : Vec Ideal S8x512 .f32) : Prop where
  hc : c < 32
  hX : ∀ (a : Fin 256) (l : Fin 2048), X (ix2 a l) = sq xbc b (xl l) (c * 256 + a.val)
  hB : ∀ (a : Fin 256) (l : Fin 512), B (ix2 a l) = sq xbc b ⟨2048 + l.val, by omega⟩ (c * 256 + a.val)
  hC : ∀ (a : Fin 256) (l : Fin 512), C (ix2 a l) = sq xbc b ⟨2560 + l.val, by omega⟩ (c * 256 + a.val)
  hG : ∀ (a : Fin 256) (h : Fin 32), G (ix2 a ⟨24 + h.val, by omega⟩) = dt (ix2 ⟨b.val * 8192 + (c * 256 + a.val), by omega⟩ h)
  hT : ∀ (a : Fin 256) (h : Fin 32), dt (ix2 ⟨b.val * 8192 + (c * 256 + a.val), by omega⟩ h) ≠ ⊤
  hWx : ∀ (k : Fin 4) (l : Fin 2048), Wx (ix2 k l) = cw (ix2 k (xl l))
  hWb : ∀ (k : Fin 4) (l : Fin 512), Wb (ix2 k l) = cw (ix2 k ⟨2048 + l.val, by omega⟩)
  hWc : ∀ (k : Fin 4) (l : Fin 512), Wc (ix2 k l) = cw (ix2 k ⟨2560 + l.val, by omega⟩)
  hbx : ∀ l : Fin 2048, bx (ix2 0 l) = cb (ix1 (xl l))
  hbb : ∀ l : Fin 512, bb (ix2 0 l) = cb (ix1 ⟨2048 + l.val, by omega⟩)
  hbc : ∀ l : Fin 512, bc (ix2 0 l) = cb (ix1 ⟨2560 + l.val, by omega⟩)
  hdb : ∀ l : Fin 2048, dbv (ix2 0 l) = db (ix1 (hd l))
  hal : ∀ l : Fin 2048, alv (ix2 0 l) = al (ix1 (hd l))
  hE : ∀ (x : Fin 128) (l : Fin 2048), E (ix2 x l) = if x.val = 24 + l.val / 64 then (1 : EReal) else 0
  her : ∀ (h : Fin 32) (l : Fin 2048), er (ix2 h l) = if l.val = 64 * h.val then (1 : EReal) else 0
  hec : ∀ (l : Fin 2048) (h : Fin 32), ec (ix2 l h) = if h.val = l.val / 64 then (1 : EReal) else 0
  hC0 : ∀ (a : Fin 8) (l : Fin 2048), C0 (ix2 a l) = if c = 0 then 0 else sq xbc b (xl l) (c * 256 - 8 + a.val)
  hC1 : ∀ (a : Fin 8) (l : Fin 512), C1 (ix2 a l) = if c = 0 then 0 else sq xbc b ⟨2048 + l.val, by omega⟩ (c * 256 - 8 + a.val)
  hC2 : ∀ (a : Fin 8) (l : Fin 512), C2 (ix2 a l) = if c = 0 then 0 else sq xbc b ⟨2560 + l.val, by omega⟩ (c * 256 - 8 + a.val)

section Step

variable {xbc : (⟨2, ![16384, 3072]⟩ : Shape).Idx → EReal} {dt : (⟨2, ![16384, 32]⟩ : Shape).Idx → EReal}
    {cw : (⟨2, ![4, 3072]⟩ : Shape).Idx → EReal} {cb : (⟨1, ![3072]⟩ : Shape).Idx → EReal}
    {db al : (⟨1, ![32]⟩ : Shape).Idx → EReal} {b : Fin 2} {c : ℕ}
    {X : Vec Ideal S256x2048 .f32} {B C : Vec Ideal S256x512 .f32} {G : Vec Ideal S256x128 .f32}
    {Wx : Vec Ideal S4x2048 .f32} {Wb Wc : Vec Ideal S4x512 .f32} {bx : Vec Ideal S1x2048 .f32} {bb bc : Vec Ideal S1x512 .f32}
    {dbv alv : Vec Ideal S1x2048 .f32} {E : Vec Ideal S128x2048 .bf16} {er : Vec Ideal S32x2048 .bf16} {ec : Vec Ideal S2048x32 .bf16}
    {C0 : Vec Ideal S8x2048 .f32} {C1 C2 : Vec Ideal S8x512 .f32}
    (H : Holds xbc dt cw cb db al b c X B C G Wx Wb Wc bx bb bc dbv alv E er ec C0 C1 C2)

include H

/-- The convolved `x`. -/
theorem xs_val (t : Fin 256) (l : Fin 2048) : convX X C0 Wx bx (ix2 t l) = U xbc cw cb b (xl l) (c * 256 + t.val) := by
  rw [convX_at, cnv_eq (sq xbc b (xl l)) _ _ _ _ c t (fun a => H.hX a l) (fun a => H.hC0 a l), H.hbx]
  simp only [H.hWx]
  rfl

/-- The convolved `B`. -/
theorem bm_val (t : Fin 256) (l : Fin 512) : convB B C1 Wb bb (ix2 t l) = U xbc cw cb b ⟨2048 + l.val, by omega⟩ (c * 256 + t.val) := by
  rw [convB_at, cnv_eq (sq xbc b ⟨2048 + l.val, by omega⟩) _ _ _ _ c t (fun a => H.hB a l) (fun a => H.hC1 a l), H.hbb]
  simp only [H.hWb]
  rfl

/-- The convolved `C`. -/
theorem cm_val (t : Fin 256) (l : Fin 512) : convC C C2 Wc bc (ix2 t l) = U xbc cw cb b ⟨2560 + l.val, by omega⟩ (c * 256 + t.val) := by
  rw [convC_at, cnv_eq (sq xbc b ⟨2560 + l.val, by omega⟩) _ _ _ _ c t (fun a => H.hC a l) (fun a => H.hC2 a l), H.hbc]
  simp only [H.hWc]
  rfl

/-- The spread raw step sizes. -/
theorem raw_val (t : Fin 256) (l : Fin 2048) : k0_pay26 G E (ix2 t l) = dt (ix2 ⟨b.val * 8192 + (c * 256 + t.val), by have := H.hc; omega⟩ (hd l)) := by
  have h := H.hG t (hd l)
  refine (raw_at G E t l ⟨24 + (hd l).val, by omega⟩ (fun x => (H.hE x l).trans (if_congr (Fin.ext_iff (b := (⟨24 + (hd l).val, by omega⟩ : Fin 128))).symm rfl rfl)) ?_).trans h
  rw [h]
  exact H.hT t (hd l)

/-- The step sizes. -/
theorem dt_val (t : Fin 256) (l : Fin 2048) : k0_pay28 (k0_pay26 G E) (k0_pay27 dbv) (ix2 t l) = dts dt db b (hd l) (c * 256 + t.val) := by
  have := H.hc
  rw [dtk_at, raw_val H, H.hdb]
  unfold dts
  rw [dif_pos (by omega)]

/-- The accumulated decay. -/
theorem ac_val (t : Fin 256) (l : Fin 2048) : k0_pay30 (k0_pay26 G E) (k0_pay27 dbv) alv (ix2 t l) = A dt db al b (hd l) c t := by
  have := H.hc
  rw [ac_at]
  unfold A aa dts
  refine congrArg (fun f => cum f t) (funext fun s => ?_)
  rw [raw_val H, H.hdb, H.hal, dif_pos (by omega)]

/-- The accumulated decay turned. -/
theorem act_val (h : Fin 32) (t : Fin 256) :
    k0_pay36 (k0_pay31 er) (k0_pay32 (k0_pay26 G E) (k0_pay27 dbv) alv) (k0_pay34 (k0_pay26 G E) (k0_pay27 dbv) alv) (k0_pay35 (k0_pay26 G E) (k0_pay27 dbv) alv) (ix2 h t)
      = A dt db al b h c t := by
  rw [act_at dbv alv er _ h t ⟨64 * h.val, by omega⟩ (fun x => (H.her h x).trans (if_congr (Fin.ext_iff (b := (⟨64 * h.val, by omega⟩ : Fin 2048))).symm rfl rfl)), ac_val H]
  congr 1
  exact Fin.ext (by show 64 * h.val / 64 = h.val; omega)

/-- The decay of a whole chunk, by lane. -/
theorem sd_val (l : Fin 2048) (n : Fin 128) :
    k0_pay40 (k0_pay31 er) (k0_pay32 (k0_pay26 G E) (k0_pay27 dbv) alv) (k0_pay34 (k0_pay26 G E) (k0_pay27 dbv) alv) (k0_pay35 (k0_pay26 G E) (k0_pay27 dbv) alv) ec (ix2 l n)
      = Ideal.exp (A dt db al b (hd l) c 255) := by
  rw [sd_at er ec _ _ _ l n (hd l) (fun x => (H.hec l x).trans (if_congr (Fin.ext_iff (b := hd l)).symm rfl rfl)) ?_, act_val H]
  rw [act_at dbv alv er _ (hd l) 255 ⟨64 * (hd l).val, by omega⟩ (fun x => (H.her (hd l) x).trans (if_congr (Fin.ext_iff (b := (⟨64 * (hd l).val, by omega⟩ : Fin 2048))).symm rfl rfl))]
  exact ac_nonpos _ _ _ _ _

/-- A pair's output block: the sum over the chunk and the part of the carried state. -/
theorem ypair_val (sp : Vec Ideal S128x128 .f32) (g : Fin 4) (i : Fin 16) (hg : g.val = i.val / 4) (t : Fin 256) (q : Fin 128) (l : Fin 2048)
    (hl : l.val = i.val * 128 + q.val) (hs : ∀ n, sp (ix2 q n) = St xbc dt cw cb db al b l c n) :
    ypair (convB B C1 Wb bb) (convC C C2 Wc bc) (k0_pay30 (k0_pay26 G E) (k0_pay27 dbv) alv)
      (k0_pay37 (F := Ideal) (convX X C0 Wx bx) (k0_pay28 (k0_pay26 G E) (k0_pay27 dbv))) (k0_pay39 (k0_pay30 (k0_pay26 G E) (k0_pay27 dbv) alv))
      (k0_pay36 (F := Ideal) (k0_pay31 er) (k0_pay32 (k0_pay26 G E) (k0_pay27 dbv) alv) (k0_pay34 (k0_pay26 G E) (k0_pay27 dbv) alv) (k0_pay35 (k0_pay26 G E) (k0_pay27 dbv) alv))
      sp g i t q
    = (∑ s : Fin 256, U xbc cw cb b (xl l) (c * 256 + s.val) * dts dt db b (hd l) (c * 256 + s.val)
      * ((∑ n : Fin 128, U xbc cw cb b (bl l n) (c * 256 + s.val) * U xbc cw cb b (cl l n) (c * 256 + t.val))
        * Ideal.exp (if s.val ≤ t.val then A dt db al b (hd l) c t - A dt db al b (hd l) c s else ⊥)))
    + (∑ n : Fin 128, St xbc dt cw cb db al b l c n * U xbc cw cb b (cl l n) (c * 256 + t.val))
      * Ideal.exp (A dt db al b (hd l) c t) := by
  have hlt : i.val * 128 + q.val < 2048 := by clear hl hg; omega
  have hgt : i.val / 4 < 4 := by clear hl hg hlt; omega
  obtain rfl : l = ⟨i.val * 128 + q.val, hlt⟩ := Fin.ext hl
  obtain rfl : g = ⟨i.val / 4, hgt⟩ := Fin.ext hg
  have hb : ∀ n : Fin 128, (⟨2048 + (i.val / 4 * 128 + n.val), by omega⟩ : Fin 3072) = bl ⟨i.val * 128 + q.val, by omega⟩ n := fun n =>
    Fin.ext (by show 2048 + (i.val / 4 * 128 + n.val) = 2048 + ((i.val * 128 + q.val) / 512 * 128 + n.val); omega)
  have hcl : ∀ n : Fin 128, (⟨2560 + (i.val / 4 * 128 + n.val), by omega⟩ : Fin 3072) = cl ⟨i.val * 128 + q.val, by omega⟩ n := fun n =>
    Fin.ext (by show 2560 + (i.val / 4 * 128 + n.val) = 2560 + ((i.val * 128 + q.val) / 512 * 128 + n.val); omega)
  unfold ypair
  simp only [bm_val H, cm_val H, ac_val H, act_val H, ea_at, xd_at, xs_val H, dt_val H, hs, hb, hcl]
  refine congrArg₂ (· + ·) ?_ (congrArg (· * _) (Finset.sum_congr rfl fun n _ => mul_comm _ _))
  split
  · next hq =>
    have e1 : hd ⟨i.val * 128, by omega⟩ = hd ⟨i.val * 128 + q.val, by omega⟩ := Fin.ext (by show i.val * 128 / 64 = (i.val * 128 + q.val) / 64; omega)
    have e2 : (⟨i.val * 2, by omega⟩ : Fin 32) = hd ⟨i.val * 128 + q.val, by omega⟩ := Fin.ext (by show i.val * 2 = (i.val * 128 + q.val) / 64; omega)
    rw [e1, e2]
    refine Finset.sum_congr rfl fun s _ => ?_
    rw [mul_comm]
    refine congrArg (_ * ·) (congrArg (· * _) (Finset.sum_congr rfl fun n _ => mul_comm _ _))
  · next hq =>
    have e1 : hd ⟨i.val * 128 + 64, by omega⟩ = hd ⟨i.val * 128 + q.val, by omega⟩ := Fin.ext (by show (i.val * 128 + 64) / 64 = (i.val * 128 + q.val) / 64; omega)
    have e2 : (⟨i.val * 2 + 1, by omega⟩ : Fin 32) = hd ⟨i.val * 128 + q.val, by omega⟩ := Fin.ext (by show i.val * 2 + 1 = (i.val * 128 + q.val) / 64; omega)
    rw [e1, e2]
    refine Finset.sum_congr rfl fun s _ => ?_
    rw [mul_comm]
    refine congrArg (_ * ·) (congrArg (· * _) (Finset.sum_congr rfl fun n _ => mul_comm _ _))

/-- A pair's next state. -/
theorem spair_val (sp : Vec Ideal S128x128 .f32) (g : Fin 4) (i : Fin 16) (hg : g.val = i.val / 4) (q n : Fin 128) (l : Fin 2048)
    (hl : l.val = i.val * 128 + q.val) (hs : sp (ix2 q n) = St xbc dt cw cb db al b l c n) :
    spair (convB B C1 Wb bb) (k0_pay38 (F := Ideal) (convX X C0 Wx bx) (k0_pay28 (k0_pay26 G E) (k0_pay27 dbv)) (k0_pay30 (k0_pay26 G E) (k0_pay27 dbv) alv))
      (k0_pay40 (F := Ideal) (k0_pay31 er) (k0_pay32 (k0_pay26 G E) (k0_pay27 dbv) alv) (k0_pay34 (k0_pay26 G E) (k0_pay27 dbv) alv) (k0_pay35 (k0_pay26 G E) (k0_pay27 dbv) alv) ec)
      sp g i q n = St xbc dt cw cb db al b l (c + 1) n := by
  have hlt : i.val * 128 + q.val < 2048 := by clear hl hg; omega
  have hgt : i.val / 4 < 4 := by clear hl hg hlt; omega
  obtain rfl : l = ⟨i.val * 128 + q.val, hlt⟩ := Fin.ext hl
  obtain rfl : g = ⟨i.val / 4, hgt⟩ := Fin.ext hg
  have hb : ∀ n : Fin 128, (⟨2048 + (i.val / 4 * 128 + n.val), by omega⟩ : Fin 3072) = bl ⟨i.val * 128 + q.val, by omega⟩ n := fun n =>
    Fin.ext (by show 2048 + (i.val / 4 * 128 + n.val) = 2048 + ((i.val * 128 + q.val) / 512 * 128 + n.val); omega)
  unfold spair
  simp only [bm_val H, sd_val H, xe_at, ac_val H, xs_val H, dt_val H, hs, hb]
  rw [St]
  refine congrArg₂ (· + ·) rfl (Finset.sum_congr rfl fun s _ => ?_)
  exact congrArg (· * _) (mul_comm _ _)

/-- The carried rows a chunk leaves are the last eight of its own. -/
theorem tail_val (a : Fin 8) : (∀ l, k0_pay11 (k0_pay6 X) (ix2 a l) = if c + 1 = 0 then 0 else sq xbc b (xl l) ((c + 1) * 256 - 8 + a.val))
    ∧ (∀ l : Fin 512, k0_pay19 (k0_pay18 (k0_pay13 B)) (ix2 a l) = if c + 1 = 0 then 0 else sq xbc b ⟨2048 + l.val, by omega⟩ ((c + 1) * 256 - 8 + a.val))
    ∧ (∀ l : Fin 512, k0_pay24 (k0_pay21 C) (ix2 a l) = if c + 1 = 0 then 0 else sq xbc b ⟨2560 + l.val, by omega⟩ ((c + 1) * 256 - 8 + a.val)) := by
  have e : c * 256 + (248 + a.val) = (c + 1) * 256 - 8 + a.val := by omega
  refine ⟨fun l => ?_, fun l => ?_, fun l => ?_⟩
  · rw [tailX_at, H.hX, if_neg (by omega), ← e]
  · rw [tailB_at, H.hB, if_neg (by omega), ← e]
  · rw [tailC_at, H.hC, if_neg (by omega), ← e]

end Step

end Cert.Proof.Ssd

end
-- ==== Proof.SsdBlk.lean ====
module

public import proofs.«01_k».proof.Proof.Ssd.Frame
public import proofs.«01_k».proof.Proof.SsdSpec
public import Idealize.ShloMosaic.Lib.Pointwise
public import Idealize.ShloMosaic.Lib.Pipeline.ValueKit
public import Idealize.ShloMosaic.Lib.Pipeline.ReadBack
public import Idealize.ShloMosaic.Lib.WordCmp
public import Idealize.ShloMosaic.Lib.StableHlo.ReadAt
public import Idealize.ShloMosaic.Lib.Tactic.WordOmega

@[expose] public section

set_option maxRecDepth 16384
set_option maxHeartbeats 1000000

noncomputable section

namespace Cert.Proof.Ssd

open Idealize.ShloMosaic Idealize.ShloMosaic.TcCoe Idealize.SL.Sem
open Cert.KernelIdeal Cert.KernelIdeal.Gen
variable (m : (ℓ : Loc nD τ sig) → Buf (Elt Ideal) ℓ) (ρ : Dev nD → PrngReg)

/-- The windows' block indices at a grid point. -/
theorem idx : ∀ t : Fin cfg0.N, win0_0.index t = ![t.val, 1] ∧ win0_1.index t = ![t.val, 2] ∧ win0_2.index t = ![t.val, 12]
    ∧ win0_3.index t = ![t.val, 13] ∧ win0_4.index t = ![t.val, 8] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![t.val, 0] :=
  (by decide +kernel : ∀ t : Fin grid0.N, _)

/-- Window 2 holds 256 rows of the input vectors' lanes of the wide array. -/
theorem blk2_V (c : Dev nD) (t : Fin cfg0.N) (a : Fin 256) (l : Fin 512) (ht : t.val < 64) :
    iblk m c 2 t (ix2 a l) = V m c main_v2 (ix2 ⟨t.val * 256 + a.val, by omega⟩ ⟨6144 + l.val, by omega⟩) := by
  blk_ext [iblk, idx t]

/-- Window 3 holds 256 rows of the output vectors' lanes of the wide array. -/
theorem blk3_V (c : Dev nD) (t : Fin cfg0.N) (a : Fin 256) (l : Fin 512) (ht : t.val < 64) :
    iblk m c 3 t (ix2 a l) = V m c main_v2 (ix2 ⟨t.val * 256 + a.val, by omega⟩ ⟨6656 + l.val, by omega⟩) := by
  blk_ext [iblk, idx t]

/-- Window 4 holds 256 rows of the block that holds the step sizes of the wide array. -/
theorem blk4_V (c : Dev nD) (t : Fin cfg0.N) (a : Fin 256) (l : Fin 128) (ht : t.val < 64) :
    iblk m c 4 t (ix2 a l) = V m c main_v2 (ix2 ⟨t.val * 256 + a.val, by omega⟩ ⟨1024 + l.val, by omega⟩) := by
  blk_ext [iblk, idx t]

/-- Window 5 holds the taps of the heads' lanes, at every point the whole array. -/
theorem blk5_V (c : Dev nD) (t : Fin cfg0.N) (a : Fin 4) (l : Fin 2048) (ht : t.val < 64) :
    iblk m c 5 t (ix2 a l) = V m c main_v3 (ix2 a l) := by
  blk_ext [iblk, idx t]

/-- Window 6 holds the taps of the input vectors' lanes, at every point the whole array. -/
theorem blk6_V (c : Dev nD) (t : Fin cfg0.N) (a : Fin 4) (l : Fin 512) (ht : t.val < 64) :
    iblk m c 6 t (ix2 a l) = V m c main_v4 (ix2 a l) := by
  blk_ext [iblk, idx t]

/-- Window 7 holds the taps of the output vectors' lanes, at every point the whole array. -/
theorem blk7_V (c : Dev nD) (t : Fin cfg0.N) (a : Fin 4) (l : Fin 512) (ht : t.val < 64) :
    iblk m c 7 t (ix2 a l) = V m c main_v5 (ix2 a l) := by
  blk_ext [iblk, idx t]

/-- Window 8 holds the convolution's bias of the heads' lanes, at every point the whole array. -/
theorem blk8_V (c : Dev nD) (t : Fin cfg0.N) (a : Fin 1) (l : Fin 2048) (ht : t.val < 64) :
    iblk m c 8 t (ix2 a l) = V m c main_v7 (ix2 a l) := by
  blk_ext [iblk, idx t]

/-- Window 9 holds the convolution's bias of the input vectors' lanes, at every point the whole array. -/
theorem blk9_V (c : Dev nD) (t : Fin cfg0.N) (a : Fin 1) (l : Fin 512) (ht : t.val < 64) :
    iblk m c 9 t (ix2 a l) = V m c main_v9 (ix2 a l) := by
  blk_ext [iblk, idx t]

/-- Window 10 holds the convolution's bias of the output vectors' lanes, at every point the whole array. -/
theorem blk10_V (c : Dev nD) (t : Fin cfg0.N) (a : Fin 1) (l : Fin 512) (ht : t.val < 64) :
    iblk m c 10 t (ix2 a l) = V m c main_v11 (ix2 a l) := by
  blk_ext [iblk, idx t]

/-- Window 11 holds a whole row of per-lane values at every point. -/
theorem blk11_V (c : Dev nD) (t : Fin cfg0.N) (a : Fin 1) (l : Fin 2048) (ht : t.val < 64) :
    iblk m c 11 t (ix2 a l) = V m c main_v32 (ix2 a l) := by
  blk_ext [iblk, idx t]

/-- Window 12 holds a whole row of per-lane values at every point. -/
theorem blk12_V (c : Dev nD) (t : Fin cfg0.N) (a : Fin 1) (l : Fin 2048) (ht : t.val < 64) :
    iblk m c 12 t (ix2 a l) = V m c main_v35 (ix2 a l) := by
  blk_ext [iblk, idx t]

/-- Window 13 holds a whole row of per-lane values at every point. -/
theorem blk13_V (c : Dev nD) (t : Fin cfg0.N) (a : Fin 1) (l : Fin 2048) (ht : t.val < 64) :
    iblk m c 13 t (ix2 a l) = V m c main_v38 (ix2 a l) := by
  blk_ext [iblk, idx t]

/-- Window 14 holds a whole row of per-lane values at every point. -/
theorem blk14_V (c : Dev nD) (t : Fin cfg0.N) (a : Fin 1) (l : Fin 2048) (ht : t.val < 64) :
    iblk m c 14 t (ix2 a l) = V m c main_v39 (ix2 a l) := by
  blk_ext [iblk, idx t]

/-- Window 15 holds the table that spreads the step sizes over the lanes, at every point the whole array. -/
theorem blk15_V (c : Dev nD) (t : Fin cfg0.N) (a : Fin 128) (l : Fin 2048) (ht : t.val < 64) :
    iblk m c 15 t (ix2 a l) = V m c main_v40 (ix2 a l) := by
  blk_ext [iblk, idx t]

/-- Window 16 holds the table of each head's first lane, at every point the whole array. -/
theorem blk16_V (c : Dev nD) (t : Fin cfg0.N) (a : Fin 32) (l : Fin 2048) (ht : t.val < 64) :
    iblk m c 16 t (ix2 a l) = V m c main_v41 (ix2 a l) := by
  blk_ext [iblk, idx t]

/-- Window 17 holds the table of each lane's head, at every point the whole array. -/
theorem blk17_V (c : Dev nD) (t : Fin cfg0.N) (a : Fin 2048) (l : Fin 32) (ht : t.val < 64) :
    iblk m c 17 t (ix2 a l) = V m c main_v42 (ix2 a l) := by
  blk_ext [iblk, idx t]

/-- Window 0 holds 256 rows of the gate's lanes of the wide array. -/
theorem blk0_V (c : Dev nD) (t : Fin cfg0.N) (a : Fin 256) (l : Fin 2048) (ht : t.val < 64) :
    X0_0 m c t (ix2 a l) = V m c main_v2 (ix2 ⟨t.val * 256 + a.val, by omega⟩ ⟨2048 + l.val, by omega⟩) := by
  unfold X0_0 Pipeline.Window.fill
  rw [dif_pos (moved0_0 t _)]
  blk_ext [iblk, idx t]

/-- Window 1 holds 256 rows of the heads' lanes of the wide array. -/
theorem blk1_V (c : Dev nD) (t : Fin cfg0.N) (a : Fin 256) (l : Fin 2048) (ht : t.val < 64) :
    X0_1 m c t (ix2 a l) = V m c main_v2 (ix2 ⟨t.val * 256 + a.val, by omega⟩ ⟨4096 + l.val, by omega⟩) := by
  unfold X0_1 Pipeline.Window.fill
  rw [dif_pos (moved0_1 t _)]
  blk_ext [iblk, idx t]

/-- The wide array's lanes from 2048 are the gate. -/
theorem v2_z (c : Dev nD) (r : Fin 16384) (l : Fin 2048) :
    V m c main_v2 (ix2 r ⟨2048 + l.val, by omega⟩) = m ((c : Thread nD τ).loc main_arg0) (ix2 r l) := by
  unfold V
  after_reads_at
  repeat (first | rw [dif_pos (by omega)] | rw [dif_neg (by omega)])
  exact congrArg (m _) (by congr 1 <;> (apply Fin.ext; simp only []; omega))

/-- The wide array's lanes from 4096 are the lanes to convolve. -/
theorem v2_xbc (c : Dev nD) (r : Fin 16384) (l : Fin 3072) :
    V m c main_v2 (ix2 r ⟨4096 + l.val, by omega⟩) = m ((c : Thread nD τ).loc main_arg1) (ix2 r l) := by
  unfold V
  after_reads_at
  repeat (first | rw [dif_pos (by omega)] | rw [dif_neg (by omega)])
  exact congrArg (fun k : Fin 3072 => m ((c : Thread nD τ).loc main_arg1) (ix2 r k)) (Fin.ext (by show 4096 + l.val - 1048 - 32 - 968 - 2048 = l.val; omega))

/-- The wide array's lanes from 1048 are the step sizes. -/
theorem v2_dt (c : Dev nD) (r : Fin 16384) (h : Fin 32) :
    V m c main_v2 (ix2 r ⟨1024 + (24 + h.val), by omega⟩) = m ((c : Thread nD τ).loc main_arg2) (ix2 r h) := by
  unfold V
  after_reads_at
  repeat (first | rw [dif_pos (by omega)] | rw [dif_neg (by omega)])
  exact congrArg (m _) (by congr 1 <;> (apply Fin.ext; simp only []; omega))

/-- The taps' first 2048 lanes. -/
theorem v3_at (c : Dev nD) (k : Fin 4) (l : Fin 2048) :
    V m c main_v3 (ix2 k l) = m ((c : Thread nD τ).loc main_arg3) (ix2 k ⟨l.val, by omega⟩) := by
  unfold V
  after_reads_at

/-- The taps' lanes from 2048. -/
theorem v4_at (c : Dev nD) (k : Fin 4) (l : Fin 512) :
    V m c main_v4 (ix2 k l) = m ((c : Thread nD τ).loc main_arg3) (ix2 k ⟨2048 + l.val, by omega⟩) := by
  unfold V
  after_reads_at

/-- The taps' lanes from 2560. -/
theorem v5_at (c : Dev nD) (k : Fin 4) (l : Fin 512) :
    V m c main_v5 (ix2 k l) = m ((c : Thread nD τ).loc main_arg3) (ix2 k ⟨2560 + l.val, by omega⟩) := by
  unfold V
  after_reads_at

/-- The bias's first 2048 lanes. -/
theorem v7_at (c : Dev nD) (l : Fin 2048) :
    V m c main_v7 (ix2 0 l) = m ((c : Thread nD τ).loc main_arg4) (ix1 ⟨l.val, by omega⟩) := by
  unfold V
  after_reads_at

/-- The bias's lanes from 2048. -/
theorem v9_at (c : Dev nD) (l : Fin 512) :
    V m c main_v9 (ix2 0 l) = m ((c : Thread nD τ).loc main_arg4) (ix1 ⟨2048 + l.val, by omega⟩) := by
  unfold V
  after_reads_at

/-- The bias's lanes from 2560. -/
theorem v11_at (c : Dev nD) (l : Fin 512) :
    V m c main_v11 (ix2 0 l) = m ((c : Thread nD τ).loc main_arg4) (ix1 ⟨2560 + l.val, by omega⟩) := by
  unfold V
  after_reads_at

/-- The step sizes' bias, spread over the lanes of its head. -/
theorem v32_at (c : Dev nD) (l : Fin 2048) :
    V m c main_v32 (ix2 0 l) = m ((c : Thread nD τ).loc main_arg5) (ix1 (hd l)) := by
  unfold V
  after_reads_at
  rfl

/-- The decay's logarithm, spread over the lanes of its head. -/
theorem v35_at (c : Dev nD) (l : Fin 2048) :
    V m c main_v35 (ix2 0 l) = m ((c : Thread nD τ).loc main_arg6) (ix1 (hd l)) := by
  unfold V
  after_reads_at
  rfl

/-- The skip's factor, spread over the lanes of its head. -/
theorem v38_at (c : Dev nD) (l : Fin 2048) :
    V m c main_v38 (ix2 0 l) = m ((c : Thread nD τ).loc main_arg7) (ix1 (hd l)) := by
  unfold V
  after_reads_at
  rfl

/-- The norm's gains. -/
theorem v39_at (c : Dev nD) (l : Fin 2048) :
    V m c main_v39 (ix2 0 l) = m ((c : Thread nD τ).loc main_arg8) (ix1 l) := by
  unfold V
  after_reads_at

end Cert.Proof.Ssd
-- ==== Proof.SsdTab.lean ====
module

public import proofs.«01_k».proof.Proof.Ssd.Frame
public import proofs.«01_k».proof.Proof.SsdSpec
public import Idealize.ShloMosaic.Lib.Pointwise
public import Idealize.ShloMosaic.Lib.Pipeline.ValueKit
public import Idealize.ShloMosaic.Lib.Pipeline.ReadBack
public import Idealize.ShloMosaic.Lib.WordCmp
public import Idealize.ShloMosaic.Lib.StableHlo.ReadAt
public import Idealize.ShloMosaic.Lib.Tactic.WordOmega

@[expose] public section

set_option maxRecDepth 16384
set_option maxHeartbeats 1000000

noncomputable section

namespace Cert.Proof.Ssd

open Idealize.ShloMosaic Idealize.ShloMosaic.TcCoe Idealize.SL.Sem
open Cert.KernelIdeal Cert.KernelIdeal.Gen
variable (m : (ℓ : Loc nD τ sig) → Buf (Elt Ideal) ℓ) (ρ : Dev nD → PrngReg)

/-- The printed word chain of a floor division by 64, at a lane number: the quotient. -/
theorem fdiv64 : ∀ l : Fin 2048, (Scalar.select
            (IntOp.andi
              (IntOp.cmpi CmpIPredicate.ne
                (if BitVec.ofNat 32 l.val = 0 then (0 : BitVec 32) else if (BitVec.ofNat 32 l.val).msb = true then -1 else 1)
                (if id (constantI S_ 32 64#32) ix0 = 0 then (0 : BitVec 32)
                else if BitVec.msb (id (constantI S_ 32 64#32) ix0) = true then -1 else 1))
              (IntOp.cmpi CmpIPredicate.ne
                (IntOp.remsi ArithUnit.host (BitVec.ofNat 32 l.val) (id (constantI S_ 32 64#32) ix0)) 0#32))
            (IntOp.subi (IntOp.divsi ArithUnit.host (BitVec.ofNat 32 l.val) (id (constantI S_ 32 64#32) ix0)) 1#32)
            (IntOp.divsi ArithUnit.host (BitVec.ofNat 32 l.val) (id (constantI S_ 32 64#32) ix0))) = BitVec.ofNat 32 (l.val / 64) := by
  decide +kernel

/-- Comparing a lane of 128 with 24 plus a head's number, as the tables do. -/
theorem eq24 : ∀ (x : Fin 128) (q : Fin 32), IntOp.cmpi CmpIPredicate.eq (BitVec.ofNat 32 x.val) (IntOp.addi (24#32) (BitVec.ofNat 32 q.val))
    = if x.val = 24 + q.val then 1#1 else 0#1 := by
  decide +kernel

/-- Comparing two heads' numbers. -/
theorem eq0 : ∀ (x : Fin 32) (q : Fin 32), IntOp.cmpi CmpIPredicate.eq (BitVec.ofNat 32 x.val) (BitVec.ofNat 32 q.val)
    = if x.val = q.val then 1#1 else 0#1 := by
  decide +kernel

/-- Comparing a lane with a head's first lane. -/
theorem eqrow : ∀ (l : Fin 2048) (h : Fin 32), IntOp.cmpi CmpIPredicate.eq (BitVec.ofNat 32 l.val) (IntOp.muli (64#32) (BitVec.ofNat 32 h.val))
    = if l.val = 64 * h.val then 1#1 else 0#1 := by
  decide +kernel

/-- Selecting by a comparison's bit is `if`. -/
theorem sel_if (p : Prop) [Decidable p] (u v : EReal) : Scalar.select (if p then 1#1 else 0#1) u v = if p then u else v := by
  by_cases h : p
  · rw [if_pos h, if_pos h]; rfl
  · rw [if_neg h, if_neg h]; rfl

/-- The table that spreads the step sizes: 1 where lane 24 plus the head meets a lane of the head. -/
theorem v40_at (c : Dev nD) (x : Fin 128) (l : Fin 2048) :
    V m c main_v40 (ix2 x l) = if x.val = 24 + l.val / 64 then (1 : EReal) else 0 := by
  unfold V
  after_reads_at
  refine (congrArg (fun w => Scalar.select (IntOp.cmpi CmpIPredicate.eq (BitVec.ofNat 32 x.val) (IntOp.addi (24#32) w)) (1 : EReal) 0) (fdiv64 l)).trans ?_
  show Scalar.select (IntOp.cmpi CmpIPredicate.eq (BitVec.ofNat 32 x.val) (IntOp.addi (24#32) (BitVec.ofNat 32 (l.val / 64)))) (1 : EReal) 0 = _
  rw [eq24 x ⟨l.val / 64, by omega⟩]
  exact sel_if _ _ _

/-- The table of first lanes: 1 where the lane is the head's first. -/
theorem v41_at (c : Dev nD) (h : Fin 32) (l : Fin 2048) :
    V m c main_v41 (ix2 h l) = if l.val = 64 * h.val then (1 : EReal) else 0 := by
  unfold V
  after_reads_at
  rw [eqrow l h]
  exact sel_if _ _ _

/-- The table of heads: 1 where the lane is the head's. -/
theorem v42_at (c : Dev nD) (l : Fin 2048) (h : Fin 32) :
    V m c main_v42 (ix2 l h) = if h.val = l.val / 64 then (1 : EReal) else 0 := by
  unfold V
  after_reads_at
  refine (congrArg (fun w => Scalar.select (IntOp.cmpi CmpIPredicate.eq (BitVec.ofNat 32 h.val) w) (1 : EReal) 0) (fdiv64 l)).trans ?_
  show Scalar.select (IntOp.cmpi CmpIPredicate.eq (BitVec.ofNat 32 h.val) (BitVec.ofNat 32 (l.val / 64))) (1 : EReal) 0 = _
  rw [eq0 h ⟨l.val / 64, by omega⟩]
  exact sel_if _ _ _

end Cert.Proof.Ssd
-- ==== Proof.SsdHold.lean ====
module

public import proofs.«01_k».proof.Proof.SsdStep
public import proofs.«01_k».proof.Proof.SsdBlk
public import proofs.«01_k».proof.Proof.SsdTab

/-!
What the windows of the mixer's call hold at a grid point, gathered into the one statement that the chunk's arithmetic starts from.
-/

@[expose] public section

set_option maxRecDepth 16384
set_option maxHeartbeats 1000000

noncomputable section

namespace Cert.Proof.Ssd

open Idealize.ShloMosaic Idealize.ShloMosaic.TcCoe Idealize.SL.Sem
open Cert.KernelIdeal Cert.KernelIdeal.Gen

section Windows

variable (m : (ℓ : Loc nD τ sig) → Buf (Elt Ideal) ℓ) (c : Dev nD)

/-- The gate's array. -/
abbrev az : (⟨2, ![16384, 2048]⟩ : Shape).Idx → EReal := m ((c : Thread nD τ).loc main_arg0)
/-- The array of the convolved lanes. -/
abbrev ax : (⟨2, ![16384, 3072]⟩ : Shape).Idx → EReal := m ((c : Thread nD τ).loc main_arg1)
/-- The array of the step sizes. -/
abbrev at' : (⟨2, ![16384, 32]⟩ : Shape).Idx → EReal := m ((c : Thread nD τ).loc main_arg2)
/-- The convolution's weights. -/
abbrev aw : (⟨2, ![4, 3072]⟩ : Shape).Idx → EReal := m ((c : Thread nD τ).loc main_arg3)
/-- The convolution's biases. -/
abbrev ab : (⟨1, ![3072]⟩ : Shape).Idx → EReal := m ((c : Thread nD τ).loc main_arg4)
/-- The step sizes' biases. -/
abbrev ad : (⟨1, ![32]⟩ : Shape).Idx → EReal := m ((c : Thread nD τ).loc main_arg5)
/-- The decay rates' logarithms. -/
abbrev al' : (⟨1, ![32]⟩ : Shape).Idx → EReal := m ((c : Thread nD τ).loc main_arg6)
/-- The skip's gains. -/
abbrev as' : (⟨1, ![32]⟩ : Shape).Idx → EReal := m ((c : Thread nD τ).loc main_arg7)
/-- The norm's gains. -/
abbrev an : (⟨1, ![2048]⟩ : Shape).Idx → EReal := m ((c : Thread nD τ).loc main_arg8)

variable (p : Fin cfg0.N) (b : Fin 2) (k : ℕ) (hk : k < 32) (hp : p.val = b.val * 32 + k)
include hk hp

/-- A lane of the convolved array at a row of the point's block. -/
theorem row_sq (a : Fin 256) (l : Fin 3072) (j : Fin 16384) (hj : j.val = p.val * 256 + a.val) :
    m ((c : Thread nD τ).loc main_arg1) (ix2 j l) = sq (ax m c) b l (k * 256 + a.val) := by
  unfold sq
  rw [dif_pos (by omega)]
  exact congrArg (fun j => ax m c (ix2 j l)) (Fin.ext (by show j.val = b.val * 8192 + (k * 256 + a.val); omega))

/-- At point `p`, chunk `k` of sequence `b`, the windows hold what the chunk's arithmetic starts from, if the carried rows are the eight
    before the chunk. -/
theorem holds (hT : ∀ i, at' m c i ≠ ⊤) (C0 : Vec Ideal S8x2048 .f32) (C1 C2 : Vec Ideal S8x512 .f32)
    (h0 : ∀ (a : Fin 8) (l : Fin 2048), C0 (ix2 a l) = if k = 0 then 0 else sq (ax m c) b (xl l) (k * 256 - 8 + a.val))
    (h1 : ∀ (a : Fin 8) (l : Fin 512), C1 (ix2 a l) = if k = 0 then 0 else sq (ax m c) b ⟨2048 + l.val, by omega⟩ (k * 256 - 8 + a.val))
    (h2 : ∀ (a : Fin 8) (l : Fin 512), C2 (ix2 a l) = if k = 0 then 0 else sq (ax m c) b ⟨2560 + l.val, by omega⟩ (k * 256 - 8 + a.val)) :
    Holds (ax m c) (at' m c) (aw m c) (ab m c) (ad m c) (al' m c) b k (X0_1 m c p) (iblk m c 2 p) (iblk m c 3 p) (iblk m c 4 p)
      (iblk m c 5 p) (iblk m c 6 p) (iblk m c 7 p) (iblk m c 8 p) (iblk m c 9 p) (iblk m c 10 p) (iblk m c 11 p) (iblk m c 12 p)
      (iblk m c 15 p) (iblk m c 16 p) (iblk m c 17 p) C0 C1 C2 := by
  have ht : p.val < 64 := by have := b.isLt; omega
  exact {
    hc := hk
    hX := fun a l => (blk1_V m c p a l ht).trans ((v2_xbc m c _ (xl l)).trans (row_sq m c p b k hk hp a (xl l) _ rfl))
    hB := fun a l => (blk2_V m c p a l ht).trans
      ((congrArg (fun j => V m c main_v2 (ix2 _ j)) (Fin.ext (by show 6144 + l.val = 4096 + (2048 + l.val); omega))).trans
        ((v2_xbc m c _ ⟨2048 + l.val, by omega⟩).trans (row_sq m c p b k hk hp a _ _ rfl)))
    hC := fun a l => (blk3_V m c p a l ht).trans
      ((congrArg (fun j => V m c main_v2 (ix2 _ j)) (Fin.ext (by show 6656 + l.val = 4096 + (2560 + l.val); omega))).trans
        ((v2_xbc m c _ ⟨2560 + l.val, by omega⟩).trans (row_sq m c p b k hk hp a _ _ rfl)))
    hG := fun a h => (blk4_V m c p a ⟨24 + h.val, by omega⟩ ht).trans ((v2_dt m c _ h).trans
      (congrArg (fun j => at' m c (ix2 j h)) (Fin.ext (by show p.val * 256 + a.val = b.val * 8192 + (k * 256 + a.val); omega))))
    hT := fun a h => hT _
    hWx := fun k l => (blk5_V m c p k l ht).trans (v3_at m c k l)
    hWb := fun k l => (blk6_V m c p k l ht).trans (v4_at m c k l)
    hWc := fun k l => (blk7_V m c p k l ht).trans (v5_at m c k l)
    hbx := fun l => (blk8_V m c p 0 l ht).trans (v7_at m c l)
    hbb := fun l => (blk9_V m c p 0 l ht).trans (v9_at m c l)
    hbc := fun l => (blk10_V m c p 0 l ht).trans (v11_at m c l)
    hdb := fun l => (blk11_V m c p 0 l ht).trans (v32_at m c l)
    hal := fun l => (blk12_V m c p 0 l ht).trans (v35_at m c l)
    hE := fun x l => (blk15_V m c p x l ht).trans (v40_at m c x l)
    her := fun h l => (blk16_V m c p h l ht).trans (v41_at m c h l)
    hec := fun l h => (blk17_V m c p l h ht).trans (v42_at m c l h)
    hC0 := h0
    hC1 := h1
    hC2 := h2 }

end Windows

end Cert.Proof.Ssd

end
-- ==== Proof.SsdPtB.lean ====
module

public import proofs.«01_k».proof.Proof.Ssd.Frame
public import proofs.«01_k».proof.Proof.SsdStep
public import Idealize.ShloMosaic.Lib.Pointwise
public import Idealize.ShloMosaic.Lib.Pipeline.ValueKit
public import Idealize.ShloMosaic.Lib.Pipeline.ReadBack

/-!
What a grid point of the SSD mixer's kernel leaves: its output block, read back from the sixteen pieces it stored, its next state, likewise, and
the rows it carries.
-/

@[expose] public section

set_option maxRecDepth 16384
set_option maxHeartbeats 2000000

noncomputable section

namespace Cert.Proof.Ssd

open Idealize.ShloMosaic Idealize.ShloMosaic.TcCoe Idealize.SL.Sem
open Cert.KernelIdeal Cert.KernelIdeal.Gen

/-- A block of 128 rows on top of a list of stores: the read is the block's inside it and the rest's outside. -/
theorem canon_rows (o : ℕ) (inb : ∀ a, (![o, 0] : Fin 2 → ℕ) a + (![128, 128] : Fin 2 → ℕ) a ≤ S2048x128.size a) (ho : o + 128 ≤ 2048)
    (w : (Rect.unit (s := S2048x128) ![o, 0] ![128, 128] inb).shape.Idx → Elt Ideal .f32) (L : List (View.Piece (Elt Ideal) S2048x128 .f32))
    (G : Fin 2048 → Fin 128 → EReal) (r : Fin 2048) (k : Fin 128)
    (h1 : ∀ q n : Fin 128, w (ix2 q n) = G ⟨o + q.val, by omega⟩ n)
    (h2 : ¬ (o ≤ r.val ∧ r.val < o + 128) → View.canon L (ix2 r k) = G r k) :
    View.canon ((⟨Rect.unit ![o, 0] ![128, 128] inb, w⟩ : View.Piece (Elt Ideal) S2048x128 .f32) :: L) (ix2 r k) = G r k := by
  by_cases hm : o ≤ r.val ∧ r.val < o + 128
  · have e : (ix2 r k : S2048x128.Idx) = (Rect.unit (s := S2048x128) ![o, 0] ![128, 128] inb).emb (ix2 ⟨r.val - o, by omega⟩ k) := by
      refine funext fun a => Fin.ext ?_
      match a with
      | ⟨0, _⟩ => show r.val = o + 1 * (r.val - o); omega
      | ⟨1, _⟩ => show k.val = 0 + 1 * k.val; omega
    rw [e, View.canon_cons_emb, h1]
    exact congrArg (G · k) (Fin.ext (by show o + (r.val - o) = r.val; omega))
  · rw [View.canon_cons_of_not_mem _ _ ?_]
    · exact h2 hm
    · intro hx
      exact hm (Rect.mem_set_unit.mp (show _ ∈ (Rect.unit (s := S2048x128) ![o, 0] ![128, 128] inb).set from hx) 0)

/-- The same of a block of 128 lanes of the output scratch. -/
theorem canon_cols (o : ℕ) (inb : ∀ a, (![0, o] : Fin 2 → ℕ) a + (![256, 128] : Fin 2 → ℕ) a ≤ S256x2048.size a) (ho : o + 128 ≤ 2048)
    (w : (Rect.unit (s := S256x2048) ![0, o] ![256, 128] inb).shape.Idx → Elt Ideal .f32) (L : List (View.Piece (Elt Ideal) S256x2048 .f32))
    (G : Fin 256 → Fin 2048 → EReal) (r : Fin 256) (k : Fin 2048)
    (h1 : ∀ (t : Fin 256) (q : Fin 128), w (ix2 t q) = G t ⟨o + q.val, by omega⟩)
    (h2 : ¬ (o ≤ k.val ∧ k.val < o + 128) → View.canon L (ix2 r k) = G r k) :
    View.canon ((⟨Rect.unit ![0, o] ![256, 128] inb, w⟩ : View.Piece (Elt Ideal) S256x2048 .f32) :: L) (ix2 r k) = G r k := by
  by_cases hm : o ≤ k.val ∧ k.val < o + 128
  · have e : (ix2 r k : S256x2048.Idx) = (Rect.unit (s := S256x2048) ![0, o] ![256, 128] inb).emb (ix2 r ⟨k.val - o, by omega⟩) := by
      refine funext fun a => Fin.ext ?_
      match a with
      | ⟨0, _⟩ => show r.val = 0 + 1 * r.val; omega
      | ⟨1, _⟩ => show k.val = o + 1 * (k.val - o); omega
    rw [e, View.canon_cons_emb, h1]
    exact congrArg (G r) (Fin.ext (by show o + (k.val - o) = k.val; omega))
  · rw [View.canon_cons_of_not_mem _ _ ?_]
    · exact h2 hm
    · intro hx
      exact hm (Rect.mem_set_unit.mp (show _ ∈ (Rect.unit (s := S256x2048) ![0, o] ![256, 128] inb).set from hx) 1)

/-- Sixteen blocks of rows over the state scratch: read together. -/
theorem s_read (G : Fin 2048 → Fin 128 → EReal) (L : List (View.Piece (Elt Ideal) S2048x128 .f32))
    (w0 : (Rect.unit (s := S2048x128) ![0, 0] ![128, 128] inb_S2048x128_S128x128_0_0).shape.Idx → Elt Ideal .f32)
    (w1 : (Rect.unit (s := S2048x128) ![128, 0] ![128, 128] inb_S2048x128_S128x128_128_0).shape.Idx → Elt Ideal .f32)
    (w2 : (Rect.unit (s := S2048x128) ![256, 0] ![128, 128] inb_S2048x128_S128x128_256_0).shape.Idx → Elt Ideal .f32)
    (w3 : (Rect.unit (s := S2048x128) ![384, 0] ![128, 128] inb_S2048x128_S128x128_384_0).shape.Idx → Elt Ideal .f32)
    (w4 : (Rect.unit (s := S2048x128) ![512, 0] ![128, 128] inb_S2048x128_S128x128_512_0).shape.Idx → Elt Ideal .f32)
    (w5 : (Rect.unit (s := S2048x128) ![640, 0] ![128, 128] inb_S2048x128_S128x128_640_0).shape.Idx → Elt Ideal .f32)
    (w6 : (Rect.unit (s := S2048x128) ![768, 0] ![128, 128] inb_S2048x128_S128x128_768_0).shape.Idx → Elt Ideal .f32)
    (w7 : (Rect.unit (s := S2048x128) ![896, 0] ![128, 128] inb_S2048x128_S128x128_896_0).shape.Idx → Elt Ideal .f32)
    (w8 : (Rect.unit (s := S2048x128) ![1024, 0] ![128, 128] inb_S2048x128_S128x128_1024_0).shape.Idx → Elt Ideal .f32)
    (w9 : (Rect.unit (s := S2048x128) ![1152, 0] ![128, 128] inb_S2048x128_S128x128_1152_0).shape.Idx → Elt Ideal .f32)
    (w10 : (Rect.unit (s := S2048x128) ![1280, 0] ![128, 128] inb_S2048x128_S128x128_1280_0).shape.Idx → Elt Ideal .f32)
    (w11 : (Rect.unit (s := S2048x128) ![1408, 0] ![128, 128] inb_S2048x128_S128x128_1408_0).shape.Idx → Elt Ideal .f32)
    (w12 : (Rect.unit (s := S2048x128) ![1536, 0] ![128, 128] inb_S2048x128_S128x128_1536_0).shape.Idx → Elt Ideal .f32)
    (w13 : (Rect.unit (s := S2048x128) ![1664, 0] ![128, 128] inb_S2048x128_S128x128_1664_0).shape.Idx → Elt Ideal .f32)
    (w14 : (Rect.unit (s := S2048x128) ![1792, 0] ![128, 128] inb_S2048x128_S128x128_1792_0).shape.Idx → Elt Ideal .f32)
    (w15 : (Rect.unit (s := S2048x128) ![1920, 0] ![128, 128] inb_S2048x128_S128x128_1920_0).shape.Idx → Elt Ideal .f32)

    (h0 : ∀ q n : Fin 128, w0 (ix2 q n) = G ⟨0 + q.val, by omega⟩ n)
    (h1 : ∀ q n : Fin 128, w1 (ix2 q n) = G ⟨128 + q.val, by omega⟩ n)
    (h2 : ∀ q n : Fin 128, w2 (ix2 q n) = G ⟨256 + q.val, by omega⟩ n)
    (h3 : ∀ q n : Fin 128, w3 (ix2 q n) = G ⟨384 + q.val, by omega⟩ n)
    (h4 : ∀ q n : Fin 128, w4 (ix2 q n) = G ⟨512 + q.val, by omega⟩ n)
    (h5 : ∀ q n : Fin 128, w5 (ix2 q n) = G ⟨640 + q.val, by omega⟩ n)
    (h6 : ∀ q n : Fin 128, w6 (ix2 q n) = G ⟨768 + q.val, by omega⟩ n)
    (h7 : ∀ q n : Fin 128, w7 (ix2 q n) = G ⟨896 + q.val, by omega⟩ n)
    (h8 : ∀ q n : Fin 128, w8 (ix2 q n) = G ⟨1024 + q.val, by omega⟩ n)
    (h9 : ∀ q n : Fin 128, w9 (ix2 q n) = G ⟨1152 + q.val, by omega⟩ n)
    (h10 : ∀ q n : Fin 128, w10 (ix2 q n) = G ⟨1280 + q.val, by omega⟩ n)
    (h11 : ∀ q n : Fin 128, w11 (ix2 q n) = G ⟨1408 + q.val, by omega⟩ n)
    (h12 : ∀ q n : Fin 128, w12 (ix2 q n) = G ⟨1536 + q.val, by omega⟩ n)
    (h13 : ∀ q n : Fin 128, w13 (ix2 q n) = G ⟨1664 + q.val, by omega⟩ n)
    (h14 : ∀ q n : Fin 128, w14 (ix2 q n) = G ⟨1792 + q.val, by omega⟩ n)
    (h15 : ∀ q n : Fin 128, w15 (ix2 q n) = G ⟨1920 + q.val, by omega⟩ n)
    (r : Fin 2048) (k : Fin 128) :
    View.canon (⟨Rect.unit ![1920, 0] ![128, 128] inb_S2048x128_S128x128_1920_0, w15⟩ :: ⟨Rect.unit ![1792, 0] ![128, 128] inb_S2048x128_S128x128_1792_0, w14⟩ :: ⟨Rect.unit ![1664, 0] ![128, 128] inb_S2048x128_S128x128_1664_0, w13⟩ :: ⟨Rect.unit ![1536, 0] ![128, 128] inb_S2048x128_S128x128_1536_0, w12⟩ :: ⟨Rect.unit ![1408, 0] ![128, 128] inb_S2048x128_S128x128_1408_0, w11⟩ :: ⟨Rect.unit ![1280, 0] ![128, 128] inb_S2048x128_S128x128_1280_0, w10⟩ :: ⟨Rect.unit ![1152, 0] ![128, 128] inb_S2048x128_S128x128_1152_0, w9⟩ :: ⟨Rect.unit ![1024, 0] ![128, 128] inb_S2048x128_S128x128_1024_0, w8⟩ :: ⟨Rect.unit ![896, 0] ![128, 128] inb_S2048x128_S128x128_896_0, w7⟩ :: ⟨Rect.unit ![768, 0] ![128, 128] inb_S2048x128_S128x128_768_0, w6⟩ :: ⟨Rect.unit ![640, 0] ![128, 128] inb_S2048x128_S128x128_640_0, w5⟩ :: ⟨Rect.unit ![512, 0] ![128, 128] inb_S2048x128_S128x128_512_0, w4⟩ :: ⟨Rect.unit ![384, 0] ![128, 128] inb_S2048x128_S128x128_384_0, w3⟩ :: ⟨Rect.unit ![256, 0] ![128, 128] inb_S2048x128_S128x128_256_0, w2⟩ :: ⟨Rect.unit ![128, 0] ![128, 128] inb_S2048x128_S128x128_128_0, w1⟩ :: ⟨Rect.unit ![0, 0] ![128, 128] inb_S2048x128_S128x128_0_0, w0⟩ :: L) (ix2 r k) = G r k := by
  refine canon_rows 1920 _ (by omega) w15 _ G r k h15 fun e15 => ?_
  refine canon_rows 1792 _ (by omega) w14 _ G r k h14 fun e14 => ?_
  refine canon_rows 1664 _ (by omega) w13 _ G r k h13 fun e13 => ?_
  refine canon_rows 1536 _ (by omega) w12 _ G r k h12 fun e12 => ?_
  refine canon_rows 1408 _ (by omega) w11 _ G r k h11 fun e11 => ?_
  refine canon_rows 1280 _ (by omega) w10 _ G r k h10 fun e10 => ?_
  refine canon_rows 1152 _ (by omega) w9 _ G r k h9 fun e9 => ?_
  refine canon_rows 1024 _ (by omega) w8 _ G r k h8 fun e8 => ?_
  refine canon_rows 896 _ (by omega) w7 _ G r k h7 fun e7 => ?_
  refine canon_rows 768 _ (by omega) w6 _ G r k h6 fun e6 => ?_
  refine canon_rows 640 _ (by omega) w5 _ G r k h5 fun e5 => ?_
  refine canon_rows 512 _ (by omega) w4 _ G r k h4 fun e4 => ?_
  refine canon_rows 384 _ (by omega) w3 _ G r k h3 fun e3 => ?_
  refine canon_rows 256 _ (by omega) w2 _ G r k h2 fun e2 => ?_
  refine canon_rows 128 _ (by omega) w1 _ G r k h1 fun e1 => ?_
  refine canon_rows 0 _ (by omega) w0 _ G r k h0 fun e0 => ?_
  exfalso
  omega

/-- Sixteen blocks of lanes over the output scratch: read together through the whole of it. -/
theorem y_read (G : Fin 256 → Fin 2048 → EReal)
    (w0 : (Rect.unit (s := S256x2048) ![0, 0] ![256, 128] inb_S256x2048_S256x128_0_0).shape.Idx → Elt Ideal .f32)
    (w1 : (Rect.unit (s := S256x2048) ![0, 128] ![256, 128] inb_S256x2048_S256x128_0_128).shape.Idx → Elt Ideal .f32)
    (w2 : (Rect.unit (s := S256x2048) ![0, 256] ![256, 128] inb_S256x2048_S256x128_0_256).shape.Idx → Elt Ideal .f32)
    (w3 : (Rect.unit (s := S256x2048) ![0, 384] ![256, 128] inb_S256x2048_S256x128_0_384).shape.Idx → Elt Ideal .f32)
    (w4 : (Rect.unit (s := S256x2048) ![0, 512] ![256, 128] inb_S256x2048_S256x128_0_512).shape.Idx → Elt Ideal .f32)
    (w5 : (Rect.unit (s := S256x2048) ![0, 640] ![256, 128] inb_S256x2048_S256x128_0_640).shape.Idx → Elt Ideal .f32)
    (w6 : (Rect.unit (s := S256x2048) ![0, 768] ![256, 128] inb_S256x2048_S256x128_0_768).shape.Idx → Elt Ideal .f32)
    (w7 : (Rect.unit (s := S256x2048) ![0, 896] ![256, 128] inb_S256x2048_S256x128_0_896).shape.Idx → Elt Ideal .f32)
    (w8 : (Rect.unit (s := S256x2048) ![0, 1024] ![256, 128] inb_S256x2048_S256x128_0_1024).shape.Idx → Elt Ideal .f32)
    (w9 : (Rect.unit (s := S256x2048) ![0, 1152] ![256, 128] inb_S256x2048_S256x128_0_1152).shape.Idx → Elt Ideal .f32)
    (w10 : (Rect.unit (s := S256x2048) ![0, 1280] ![256, 128] inb_S256x2048_S256x128_0_1280).shape.Idx → Elt Ideal .f32)
    (w11 : (Rect.unit (s := S256x2048) ![0, 1408] ![256, 128] inb_S256x2048_S256x128_0_1408).shape.Idx → Elt Ideal .f32)
    (w12 : (Rect.unit (s := S256x2048) ![0, 1536] ![256, 128] inb_S256x2048_S256x128_0_1536).shape.Idx → Elt Ideal .f32)
    (w13 : (Rect.unit (s := S256x2048) ![0, 1664] ![256, 128] inb_S256x2048_S256x128_0_1664).shape.Idx → Elt Ideal .f32)
    (w14 : (Rect.unit (s := S256x2048) ![0, 1792] ![256, 128] inb_S256x2048_S256x128_0_1792).shape.Idx → Elt Ideal .f32)
    (w15 : (Rect.unit (s := S256x2048) ![0, 1920] ![256, 128] inb_S256x2048_S256x128_0_1920).shape.Idx → Elt Ideal .f32)

    (h0 : ∀ (t : Fin 256) (q : Fin 128), w0 (ix2 t q) = G t ⟨0 + q.val, by omega⟩)
    (h1 : ∀ (t : Fin 256) (q : Fin 128), w1 (ix2 t q) = G t ⟨128 + q.val, by omega⟩)
    (h2 : ∀ (t : Fin 256) (q : Fin 128), w2 (ix2 t q) = G t ⟨256 + q.val, by omega⟩)
    (h3 : ∀ (t : Fin 256) (q : Fin 128), w3 (ix2 t q) = G t ⟨384 + q.val, by omega⟩)
    (h4 : ∀ (t : Fin 256) (q : Fin 128), w4 (ix2 t q) = G t ⟨512 + q.val, by omega⟩)
    (h5 : ∀ (t : Fin 256) (q : Fin 128), w5 (ix2 t q) = G t ⟨640 + q.val, by omega⟩)
    (h6 : ∀ (t : Fin 256) (q : Fin 128), w6 (ix2 t q) = G t ⟨768 + q.val, by omega⟩)
    (h7 : ∀ (t : Fin 256) (q : Fin 128), w7 (ix2 t q) = G t ⟨896 + q.val, by omega⟩)
    (h8 : ∀ (t : Fin 256) (q : Fin 128), w8 (ix2 t q) = G t ⟨1024 + q.val, by omega⟩)
    (h9 : ∀ (t : Fin 256) (q : Fin 128), w9 (ix2 t q) = G t ⟨1152 + q.val, by omega⟩)
    (h10 : ∀ (t : Fin 256) (q : Fin 128), w10 (ix2 t q) = G t ⟨1280 + q.val, by omega⟩)
    (h11 : ∀ (t : Fin 256) (q : Fin 128), w11 (ix2 t q) = G t ⟨1408 + q.val, by omega⟩)
    (h12 : ∀ (t : Fin 256) (q : Fin 128), w12 (ix2 t q) = G t ⟨1536 + q.val, by omega⟩)
    (h13 : ∀ (t : Fin 256) (q : Fin 128), w13 (ix2 t q) = G t ⟨1664 + q.val, by omega⟩)
    (h14 : ∀ (t : Fin 256) (q : Fin 128), w14 (ix2 t q) = G t ⟨1792 + q.val, by omega⟩)
    (h15 : ∀ (t : Fin 256) (q : Fin 128), w15 (ix2 t q) = G t ⟨1920 + q.val, by omega⟩)
    (r : Fin 256) (k : Fin 2048) :
    (View.whole cc0_scratch4).readCov [⟨Rect.unit ![0, 1920] ![256, 128] inb_S256x2048_S256x128_0_1920, w15⟩, ⟨Rect.unit ![0, 1792] ![256, 128] inb_S256x2048_S256x128_0_1792, w14⟩, ⟨Rect.unit ![0, 1664] ![256, 128] inb_S256x2048_S256x128_0_1664, w13⟩, ⟨Rect.unit ![0, 1536] ![256, 128] inb_S256x2048_S256x128_0_1536, w12⟩, ⟨Rect.unit ![0, 1408] ![256, 128] inb_S256x2048_S256x128_0_1408, w11⟩, ⟨Rect.unit ![0, 1280] ![256, 128] inb_S256x2048_S256x128_0_1280, w10⟩, ⟨Rect.unit ![0, 1152] ![256, 128] inb_S256x2048_S256x128_0_1152, w9⟩, ⟨Rect.unit ![0, 1024] ![256, 128] inb_S256x2048_S256x128_0_1024, w8⟩, ⟨Rect.unit ![0, 896] ![256, 128] inb_S256x2048_S256x128_0_896, w7⟩, ⟨Rect.unit ![0, 768] ![256, 128] inb_S256x2048_S256x128_0_768, w6⟩, ⟨Rect.unit ![0, 640] ![256, 128] inb_S256x2048_S256x128_0_640, w5⟩, ⟨Rect.unit ![0, 512] ![256, 128] inb_S256x2048_S256x128_0_512, w4⟩, ⟨Rect.unit ![0, 384] ![256, 128] inb_S256x2048_S256x128_0_384, w3⟩, ⟨Rect.unit ![0, 256] ![256, 128] inb_S256x2048_S256x128_0_256, w2⟩, ⟨Rect.unit ![0, 128] ![256, 128] inb_S256x2048_S256x128_0_128, w1⟩, ⟨Rect.unit ![0, 0] ![256, 128] inb_S256x2048_S256x128_0_0, w0⟩] (Rect.unit (s := S256x2048) ![0, 0] ![256, 2048] inb_S256x2048_S256x2048_0_0).toLoadRect (ix2 r k) = G r k := by
  rw [View.readCov_eq_canon']
  have e : (Rect.unit (s := S256x2048) ![0, 0] ![256, 2048] inb_S256x2048_S256x2048_0_0).toLoadRect.idx (ix2 r k) = (ix2 r k : S256x2048.Idx) := by
    funext a
    refine Fin.ext ?_
    match a with
    | ⟨0, _⟩ => show 0 + 1 * r.val = r.val; omega
    | ⟨1, _⟩ => show 0 + 1 * k.val = k.val; omega
  show View.canon _ ((Rect.unit (s := S256x2048) ![0, 0] ![256, 2048] inb_S256x2048_S256x2048_0_0).toLoadRect.idx (ix2 r k)) = _
  rw [e]
  refine canon_cols 1920 _ (by omega) w15 _ G r k h15 fun e15 => ?_
  refine canon_cols 1792 _ (by omega) w14 _ G r k h14 fun e14 => ?_
  refine canon_cols 1664 _ (by omega) w13 _ G r k h13 fun e13 => ?_
  refine canon_cols 1536 _ (by omega) w12 _ G r k h12 fun e12 => ?_
  refine canon_cols 1408 _ (by omega) w11 _ G r k h11 fun e11 => ?_
  refine canon_cols 1280 _ (by omega) w10 _ G r k h10 fun e10 => ?_
  refine canon_cols 1152 _ (by omega) w9 _ G r k h9 fun e9 => ?_
  refine canon_cols 1024 _ (by omega) w8 _ G r k h8 fun e8 => ?_
  refine canon_cols 896 _ (by omega) w7 _ G r k h7 fun e7 => ?_
  refine canon_cols 768 _ (by omega) w6 _ G r k h6 fun e6 => ?_
  refine canon_cols 640 _ (by omega) w5 _ G r k h5 fun e5 => ?_
  refine canon_cols 512 _ (by omega) w4 _ G r k h4 fun e4 => ?_
  refine canon_cols 384 _ (by omega) w3 _ G r k h3 fun e3 => ?_
  refine canon_cols 256 _ (by omega) w2 _ G r k h2 fun e2 => ?_
  refine canon_cols 128 _ (by omega) w1 _ G r k h1 fun e1 => ?_
  refine canon_cols 0 _ (by omega) w0 _ G r k h0 fun e0 => ?_
  exfalso
  omega

/-- Rows `o …` of a state array. -/
theorem ld_rows (S : Vec Ideal S2048x128 .f32) (o : ℕ) (inb : ∀ a, (![o, 0] : Fin 2 → ℕ) a + (![128, 128] : Fin 2 → ℕ) a ≤ S2048x128.size a)
    (q n : Fin 128) (l : Fin 2048) (hl : l.val = o + q.val) :
    View.ld S (Rect.unit (s := S2048x128) ![o, 0] ![128, 128] inb) (ix2 q n) = S (ix2 l n) := by
  refine congrArg S (funext fun a => Fin.ext ?_)
  match a with
  | ⟨0, _⟩ => show o + 1 * q.val = l.val; omega
  | ⟨1, _⟩ => show 0 + 1 * n.val = n.val; omega

/-- Every block of rows from row `n` on still reads the zero that the state scratch was filled with. -/
def Low (n : ℕ) (L : List (View.Piece (Elt Ideal) S2048x128 .f32)) : Prop :=
  ∀ (o : ℕ) (inb : ∀ a, (![o, 0] : Fin 2 → ℕ) a + (![128, 128] : Fin 2 → ℕ) a ≤ S2048x128.size a), n ≤ o → ∀ q k : Fin 128,
    (View.whole cc0_scratch3).readCov L (Rect.unit (s := S2048x128) ![o, 0] ![128, 128] inb).toLoadRect (ix2 q k) = (0 : EReal)

/-- A state that is filled with zeros holds zeros from row 0 on. -/
theorem low_fill : Low 0 [⟨Rect.unit ![0, 0] ![2048, 128] inb_S2048x128_S2048x128_0_0, k0_pay5 (F := Ideal)⟩] := by
  intro o inb _ q k
  rw [View.readCov_eq_canon']
  have hin := inb 0
  have ho : o + 128 ≤ 2048 := hin
  have e : (Rect.unit (s := S2048x128) ![o, 0] ![128, 128] inb).toLoadRect.idx (ix2 q k)
      = (Rect.unit (s := S2048x128) ![0, 0] ![2048, 128] inb_S2048x128_S2048x128_0_0).emb (ix2 ⟨o + q.val, by omega⟩ k) := by
    refine funext fun a => Fin.ext ?_
    match a with
    | ⟨0, _⟩ => show o + 1 * q.val = 0 + 1 * (o + q.val); omega
    | ⟨1, _⟩ => show 0 + 1 * k.val = 0 + 1 * k.val; omega
  show View.canon _ ((Rect.unit (s := S2048x128) ![o, 0] ![128, 128] inb).toLoadRect.idx (ix2 q k)) = _
  rw [e, View.canon_cons_emb]
  pointwise [k0_pay5]

/-- Writing 128 rows from row `n` leaves zeros from row `n + 128` on. -/
theorem low_cons (n n' : ℕ) (hn : n' = n + 128) {inb : ∀ a, (![n, 0] : Fin 2 → ℕ) a + (![128, 128] : Fin 2 → ℕ) a ≤ S2048x128.size a}
    {w : (Rect.unit (s := S2048x128) ![n, 0] ![128, 128] inb).shape.Idx → Elt Ideal .f32} {L : List (View.Piece (Elt Ideal) S2048x128 .f32)} (h : Low n L) :
    Low n' ((⟨Rect.unit ![n, 0] ![128, 128] inb, w⟩ : View.Piece (Elt Ideal) S2048x128 .f32) :: L) := by
  intro o inb' ho q k
  have h' := h o inb' (by omega) q k
  rw [View.readCov_eq_canon'] at h' ⊢
  refine (View.canon_cons_of_not_mem _ _ ?_).trans h'
  intro hx
  have h2 := (Rect.mem_set_unit.mp (show _ ∈ (Rect.unit (s := S2048x128) ![n, 0] ![128, 128] inb).set from hx) 0).2
  have h3 : o + 1 * q.val < n + 128 := h2
  omega

section Points

variable (m : (ℓ : Loc nD τ sig) → Buf (Elt Ideal) ℓ)
    {xbc : (⟨2, ![16384, 3072]⟩ : Shape).Idx → EReal} {dt : (⟨2, ![16384, 32]⟩ : Shape).Idx → EReal}
    {cw : (⟨2, ![4, 3072]⟩ : Shape).Idx → EReal} {cb : (⟨1, ![3072]⟩ : Shape).Idx → EReal}
    {db al : (⟨1, ![32]⟩ : Shape).Idx → EReal} {b : Fin 2} {k : ℕ} (c : Dev nD) (p : Fin cfg0.N)

/-- The sum over the chunk and the part of the carried state: a lane's output before the skip. -/
def Y0 (xbc : (⟨2, ![16384, 3072]⟩ : Shape).Idx → EReal) (dt : (⟨2, ![16384, 32]⟩ : Shape).Idx → EReal)
    (cw : (⟨2, ![4, 3072]⟩ : Shape).Idx → EReal) (cb : (⟨1, ![3072]⟩ : Shape).Idx → EReal) (db al : (⟨1, ![32]⟩ : Shape).Idx → EReal)
    (b : Fin 2) (k : ℕ) (r : Fin 256) (l : Fin 2048) : EReal :=
  (∑ s : Fin 256, U xbc cw cb b (xl l) (k * 256 + s.val) * dts dt db b (hd l) (k * 256 + s.val)
      * ((∑ n : Fin 128, U xbc cw cb b (bl l n) (k * 256 + s.val) * U xbc cw cb b (cl l n) (k * 256 + r.val))
        * Ideal.exp (if s.val ≤ r.val then A dt db al b (hd l) k r - A dt db al b (hd l) k s else ⊥)))
    + (∑ n : Fin 128, St xbc dt cw cb db al b l k n * U xbc cw cb b (cl l n) (k * 256 + r.val))
      * Ideal.exp (A dt db al b (hd l) k r)

/-- The state a point leaves after the first of its sequence. -/
theorem stateB (h0 : ¬ p.val % 32 = 0) (H : Holds xbc dt cw cb db al b k (X0_1 m c p) (iblk m c 2 p) (iblk m c 3 p) (iblk m c 4 p) (iblk m c 5 p) (iblk m c 6 p) (iblk m c 7 p) (iblk m c 8 p) (iblk m c 9 p) (iblk m c 10 p) (iblk m c 11 p) (iblk m c 12 p) (iblk m c 15 p) (iblk m c 16 p) (iblk m c 17 p) (outsAt0 m c (p.val - 1) (by have := p.isLt; omega)).2.1 (outsAt0 m c (p.val - 1) (by have := p.isLt; omega)).2.2.1 (outsAt0 m c (p.val - 1) (by have := p.isLt; omega)).2.2.2.1) (hS : ∀ l n, (outsAt0 m c (p.val - 1) (by have := p.isLt; omega)).2.2.2.2 (ix2 l n) = St xbc dt cw cb db al b l k n) (l : Fin 2048) (n : Fin 128) :
    (outsAt0 m c p.val p.isLt).2.2.2.2 (ix2 l n) = St xbc dt cw cb db al b l (k + 1) n := by
  rw [outsAt0_B m c p h0]
  frame_out
  simp only [read_unread_whole]
  refine s_read (fun l n => St xbc dt cw cb db al b l (k + 1) n) _ _ _ _ _ _ _ _ _ _ _ _ _ _ _ _ _ ?_ ?_ ?_ ?_ ?_ ?_ ?_ ?_ ?_ ?_ ?_ ?_ ?_ ?_ ?_ ?_ l n
  · intro q n
    refine (s0_at ..).trans ?_
    exact spair_val H _ _ _ (by decide) q n _ (by show 0 + q.val = 0 * 128 + q.val; omega) ((ld_rows _ 0 _ q n _ rfl).trans (hS _ n))
  · intro q n
    refine (s1_at ..).trans ?_
    exact spair_val H _ _ _ (by decide) q n _ (by show 128 + q.val = 1 * 128 + q.val; omega) ((ld_rows _ 128 _ q n _ rfl).trans (hS _ n))
  · intro q n
    refine (s2_at ..).trans ?_
    exact spair_val H _ _ _ (by decide) q n _ (by show 256 + q.val = 2 * 128 + q.val; omega) ((ld_rows _ 256 _ q n _ rfl).trans (hS _ n))
  · intro q n
    refine (s3_at ..).trans ?_
    exact spair_val H _ _ _ (by decide) q n _ (by show 384 + q.val = 3 * 128 + q.val; omega) ((ld_rows _ 384 _ q n _ rfl).trans (hS _ n))
  · intro q n
    refine (s4_at ..).trans ?_
    exact spair_val H _ _ _ (by decide) q n _ (by show 512 + q.val = 4 * 128 + q.val; omega) ((ld_rows _ 512 _ q n _ rfl).trans (hS _ n))
  · intro q n
    refine (s5_at ..).trans ?_
    exact spair_val H _ _ _ (by decide) q n _ (by show 640 + q.val = 5 * 128 + q.val; omega) ((ld_rows _ 640 _ q n _ rfl).trans (hS _ n))
  · intro q n
    refine (s6_at ..).trans ?_
    exact spair_val H _ _ _ (by decide) q n _ (by show 768 + q.val = 6 * 128 + q.val; omega) ((ld_rows _ 768 _ q n _ rfl).trans (hS _ n))
  · intro q n
    refine (s7_at ..).trans ?_
    exact spair_val H _ _ _ (by decide) q n _ (by show 896 + q.val = 7 * 128 + q.val; omega) ((ld_rows _ 896 _ q n _ rfl).trans (hS _ n))
  · intro q n
    refine (s8_at ..).trans ?_
    exact spair_val H _ _ _ (by decide) q n _ (by show 1024 + q.val = 8 * 128 + q.val; omega) ((ld_rows _ 1024 _ q n _ rfl).trans (hS _ n))
  · intro q n
    refine (s9_at ..).trans ?_
    exact spair_val H _ _ _ (by decide) q n _ (by show 1152 + q.val = 9 * 128 + q.val; omega) ((ld_rows _ 1152 _ q n _ rfl).trans (hS _ n))
  · intro q n
    refine (s10_at ..).trans ?_
    exact spair_val H _ _ _ (by decide) q n _ (by show 1280 + q.val = 10 * 128 + q.val; omega) ((ld_rows _ 1280 _ q n _ rfl).trans (hS _ n))
  · intro q n
    refine (s11_at ..).trans ?_
    exact spair_val H _ _ _ (by decide) q n _ (by show 1408 + q.val = 11 * 128 + q.val; omega) ((ld_rows _ 1408 _ q n _ rfl).trans (hS _ n))
  · intro q n
    refine (s12_at ..).trans ?_
    exact spair_val H _ _ _ (by decide) q n _ (by show 1536 + q.val = 12 * 128 + q.val; omega) ((ld_rows _ 1536 _ q n _ rfl).trans (hS _ n))
  · intro q n
    refine (s13_at ..).trans ?_
    exact spair_val H _ _ _ (by decide) q n _ (by show 1664 + q.val = 13 * 128 + q.val; omega) ((ld_rows _ 1664 _ q n _ rfl).trans (hS _ n))
  · intro q n
    refine (s14_at ..).trans ?_
    exact spair_val H _ _ _ (by decide) q n _ (by show 1792 + q.val = 14 * 128 + q.val; omega) ((ld_rows _ 1792 _ q n _ rfl).trans (hS _ n))
  · intro q n
    refine (s15_at ..).trans ?_
    exact spair_val H _ _ _ (by decide) q n _ (by show 1920 + q.val = 15 * 128 + q.val; omega) ((ld_rows _ 1920 _ q n _ rfl).trans (hS _ n))

/-- The output block of a point after the first of its sequence. -/
theorem outB (h0 : ¬ p.val % 32 = 0) (H : Holds xbc dt cw cb db al b k (X0_1 m c p) (iblk m c 2 p) (iblk m c 3 p) (iblk m c 4 p) (iblk m c 5 p) (iblk m c 6 p) (iblk m c 7 p) (iblk m c 8 p) (iblk m c 9 p) (iblk m c 10 p) (iblk m c 11 p) (iblk m c 12 p) (iblk m c 15 p) (iblk m c 16 p) (iblk m c 17 p) (outsAt0 m c (p.val - 1) (by have := p.isLt; omega)).2.1 (outsAt0 m c (p.val - 1) (by have := p.isLt; omega)).2.2.1 (outsAt0 m c (p.val - 1) (by have := p.isLt; omega)).2.2.2.1) (hS : ∀ l n, (outsAt0 m c (p.val - 1) (by have := p.isLt; omega)).2.2.2.2 (ix2 l n) = St xbc dt cw cb db al b l k n)
    (zv : Fin 256 → Fin 2048 → EReal) (hz : ∀ r l, X0_0 m c p (ix2 r l) = zv r l) (dv nv : Fin 2048 → EReal)
    (hd' : ∀ l, (iblk m c 13 p) (ix2 0 l) = dv l) (hn' : ∀ l, (iblk m c 14 p) (ix2 0 l) = nv l) (r : Fin 256) (g : Fin 4) (q : Fin 512) :
    (outsAt0 m c p.val p.isLt).1 (ix2 r (gl g q))
      = grp (fun j => (Y0 xbc dt cw cb db al b k r (gl g j) + dv (gl g j) * U xbc cw cb b (xl (gl g j)) (k * 256 + r.val))
          * silu (zv r (gl g j))) (nv (gl g q)) q := by
  rw [outsAt0_B m c p h0]
  frame_out
  simp only [read_unread_whole]
  refine (out_at' ..).trans ?_
  refine (congrArg (fun x => grp _ x q) (hn' _)).trans (congrArg (fun f => grp f _ q) (funext fun j => ?_))
  refine (gate_at ..).trans ?_
  refine congrArg₂ (· * ·) (congrArg₂ (· + ·) ?_ (congrArg₂ (· * ·) (hd' _) (xs_val H r (gl g j)))) (congrArg silu (hz _ _))
  refine y_read (fun r l => Y0 xbc dt cw cb db al b k r l) _ _ _ _ _ _ _ _ _ _ _ _ _ _ _ _ ?_ ?_ ?_ ?_ ?_ ?_ ?_ ?_ ?_ ?_ ?_ ?_ ?_ ?_ ?_ ?_ r (gl g j)
  · intro t q
    refine (y0_at ..).trans ?_
    exact ypair_val H _ _ _ (by decide) t q _ (by show 0 + q.val = 0 * 128 + q.val; omega) (fun n => (ld_rows _ 0 _ q n _ rfl).trans (hS _ n))
  · intro t q
    refine (y1_at ..).trans ?_
    exact ypair_val H _ _ _ (by decide) t q _ (by show 128 + q.val = 1 * 128 + q.val; omega) (fun n => (ld_rows _ 128 _ q n _ rfl).trans (hS _ n))
  · intro t q
    refine (y2_at ..).trans ?_
    exact ypair_val H _ _ _ (by decide) t q _ (by show 256 + q.val = 2 * 128 + q.val; omega) (fun n => (ld_rows _ 256 _ q n _ rfl).trans (hS _ n))
  · intro t q
    refine (y3_at ..).trans ?_
    exact ypair_val H _ _ _ (by decide) t q _ (by show 384 + q.val = 3 * 128 + q.val; omega) (fun n => (ld_rows _ 384 _ q n _ rfl).trans (hS _ n))
  · intro t q
    refine (y4_at ..).trans ?_
    exact ypair_val H _ _ _ (by decide) t q _ (by show 512 + q.val = 4 * 128 + q.val; omega) (fun n => (ld_rows _ 512 _ q n _ rfl).trans (hS _ n))
  · intro t q
    refine (y5_at ..).trans ?_
    exact ypair_val H _ _ _ (by decide) t q _ (by show 640 + q.val = 5 * 128 + q.val; omega) (fun n => (ld_rows _ 640 _ q n _ rfl).trans (hS _ n))
  · intro t q
    refine (y6_at ..).trans ?_
    exact ypair_val H _ _ _ (by decide) t q _ (by show 768 + q.val = 6 * 128 + q.val; omega) (fun n => (ld_rows _ 768 _ q n _ rfl).trans (hS _ n))
  · intro t q
    refine (y7_at ..).trans ?_
    exact ypair_val H _ _ _ (by decide) t q _ (by show 896 + q.val = 7 * 128 + q.val; omega) (fun n => (ld_rows _ 896 _ q n _ rfl).trans (hS _ n))
  · intro t q
    refine (y8_at ..).trans ?_
    exact ypair_val H _ _ _ (by decide) t q _ (by show 1024 + q.val = 8 * 128 + q.val; omega) (fun n => (ld_rows _ 1024 _ q n _ rfl).trans (hS _ n))
  · intro t q
    refine (y9_at ..).trans ?_
    exact ypair_val H _ _ _ (by decide) t q _ (by show 1152 + q.val = 9 * 128 + q.val; omega) (fun n => (ld_rows _ 1152 _ q n _ rfl).trans (hS _ n))
  · intro t q
    refine (y10_at ..).trans ?_
    exact ypair_val H _ _ _ (by decide) t q _ (by show 1280 + q.val = 10 * 128 + q.val; omega) (fun n => (ld_rows _ 1280 _ q n _ rfl).trans (hS _ n))
  · intro t q
    refine (y11_at ..).trans ?_
    exact ypair_val H _ _ _ (by decide) t q _ (by show 1408 + q.val = 11 * 128 + q.val; omega) (fun n => (ld_rows _ 1408 _ q n _ rfl).trans (hS _ n))
  · intro t q
    refine (y12_at ..).trans ?_
    exact ypair_val H _ _ _ (by decide) t q _ (by show 1536 + q.val = 12 * 128 + q.val; omega) (fun n => (ld_rows _ 1536 _ q n _ rfl).trans (hS _ n))
  · intro t q
    refine (y13_at ..).trans ?_
    exact ypair_val H _ _ _ (by decide) t q _ (by show 1664 + q.val = 13 * 128 + q.val; omega) (fun n => (ld_rows _ 1664 _ q n _ rfl).trans (hS _ n))
  · intro t q
    refine (y14_at ..).trans ?_
    exact ypair_val H _ _ _ (by decide) t q _ (by show 1792 + q.val = 14 * 128 + q.val; omega) (fun n => (ld_rows _ 1792 _ q n _ rfl).trans (hS _ n))
  · intro t q
    refine (y15_at ..).trans ?_
    exact ypair_val H _ _ _ (by decide) t q _ (by show 1920 + q.val = 15 * 128 + q.val; omega) (fun n => (ld_rows _ 1920 _ q n _ rfl).trans (hS _ n))

/-- The rows such a point carries on. -/
theorem carryB (h0 : ¬ p.val % 32 = 0) :
    (outsAt0 m c p.val p.isLt).2.1 = k0_pay11 (k0_pay6 (X0_1 m c p)) ∧ (outsAt0 m c p.val p.isLt).2.2.1 = k0_pay19 (k0_pay18 (k0_pay13 (iblk m c 2 p)))
      ∧ (outsAt0 m c p.val p.isLt).2.2.2.1 = k0_pay24 (k0_pay21 (iblk m c 3 p)) := by
  rw [outsAt0_B m c p h0]
  refine ⟨?_, ?_, ?_⟩
  · frame_out
  · frame_out
  · frame_out

end Points

end Cert.Proof.Ssd

end
-- ==== Proof.SsdPtA.lean ====
module

public import proofs.«01_k».proof.Proof.Ssd.Frame
public import proofs.«01_k».proof.Proof.SsdStep
public import proofs.«01_k».proof.Proof.SsdPtB
public import Idealize.ShloMosaic.Lib.Pointwise
public import Idealize.ShloMosaic.Lib.Pipeline.ValueKit
public import Idealize.ShloMosaic.Lib.Pipeline.ReadBack

/-!
What a grid point of the SSD mixer's kernel leaves: its output block, read back from the sixteen pieces it stored, its next state, likewise, and
the rows it carries.
-/

@[expose] public section

set_option maxRecDepth 16384
set_option maxHeartbeats 2000000

noncomputable section

namespace Cert.Proof.Ssd

open Idealize.ShloMosaic Idealize.ShloMosaic.TcCoe Idealize.SL.Sem
open Cert.KernelIdeal Cert.KernelIdeal.Gen

section Points

variable (m : (ℓ : Loc nD τ sig) → Buf (Elt Ideal) ℓ)
    {xbc : (⟨2, ![16384, 3072]⟩ : Shape).Idx → EReal} {dt : (⟨2, ![16384, 32]⟩ : Shape).Idx → EReal}
    {cw : (⟨2, ![4, 3072]⟩ : Shape).Idx → EReal} {cb : (⟨1, ![3072]⟩ : Shape).Idx → EReal}
    {db al : (⟨1, ![32]⟩ : Shape).Idx → EReal} {b : Fin 2} {k : ℕ} (c : Dev nD) (p : Fin cfg0.N)

/-- The state a point leaves that begins a sequence. -/
theorem stateA (h0 : p.val % 32 = 0) (H : Holds xbc dt cw cb db al b k (X0_1 m c p) (iblk m c 2 p) (iblk m c 3 p) (iblk m c 4 p) (iblk m c 5 p) (iblk m c 6 p) (iblk m c 7 p) (iblk m c 8 p) (iblk m c 9 p) (iblk m c 10 p) (iblk m c 11 p) (iblk m c 12 p) (iblk m c 15 p) (iblk m c 16 p) (iblk m c 17 p) (k0_pay2 (F := Ideal)) (k0_pay3 (F := Ideal)) (k0_pay4 (F := Ideal))) (hk : k = 0) (l : Fin 2048) (n : Fin 128) :
    (outsAt0 m c p.val p.isLt).2.2.2.2 (ix2 l n) = St xbc dt cw cb db al b l (k + 1) n := by
  rw [outsAt0_A m c p h0]
  frame_out
  refine s_read (fun l n => St xbc dt cw cb db al b l (k + 1) n) _ _ _ _ _ _ _ _ _ _ _ _ _ _ _ _ _ ?_ ?_ ?_ ?_ ?_ ?_ ?_ ?_ ?_ ?_ ?_ ?_ ?_ ?_ ?_ ?_ l n
  · intro q n
    refine (s0_at ..).trans ?_
    exact spair_val H _ _ _ (by decide) q n _ (by show 0 + q.val = 0 * 128 + q.val; omega) (((low_fill) 0 _ (le_refl _) q n).trans (by rw [hk]; rfl))
  · intro q n
    refine (s1_at ..).trans ?_
    exact spair_val H _ _ _ (by decide) q n _ (by show 128 + q.val = 1 * 128 + q.val; omega) (((low_cons 0 128 rfl (low_fill)) 128 _ (le_refl _) q n).trans (by rw [hk]; rfl))
  · intro q n
    refine (s2_at ..).trans ?_
    exact spair_val H _ _ _ (by decide) q n _ (by show 256 + q.val = 2 * 128 + q.val; omega) (((low_cons 128 256 rfl (low_cons 0 128 rfl (low_fill))) 256 _ (le_refl _) q n).trans (by rw [hk]; rfl))
  · intro q n
    refine (s3_at ..).trans ?_
    exact spair_val H _ _ _ (by decide) q n _ (by show 384 + q.val = 3 * 128 + q.val; omega) (((low_cons 256 384 rfl (low_cons 128 256 rfl (low_cons 0 128 rfl (low_fill)))) 384 _ (le_refl _) q n).trans (by rw [hk]; rfl))
  · intro q n
    refine (s4_at ..).trans ?_
    exact spair_val H _ _ _ (by decide) q n _ (by show 512 + q.val = 4 * 128 + q.val; omega) (((low_cons 384 512 rfl (low_cons 256 384 rfl (low_cons 128 256 rfl (low_cons 0 128 rfl (low_fill))))) 512 _ (le_refl _) q n).trans (by rw [hk]; rfl))
  · intro q n
    refine (s5_at ..).trans ?_
    exact spair_val H _ _ _ (by decide) q n _ (by show 640 + q.val = 5 * 128 + q.val; omega) (((low_cons 512 640 rfl (low_cons 384 512 rfl (low_cons 256 384 rfl (low_cons 128 256 rfl (low_cons 0 128 rfl (low_fill)))))) 640 _ (le_refl _) q n).trans (by rw [hk]; rfl))
  · intro q n
    refine (s6_at ..).trans ?_
    exact spair_val H _ _ _ (by decide) q n _ (by show 768 + q.val = 6 * 128 + q.val; omega) (((low_cons 640 768 rfl (low_cons 512 640 rfl (low_cons 384 512 rfl (low_cons 256 384 rfl (low_cons 128 256 rfl (low_cons 0 128 rfl (low_fill))))))) 768 _ (le_refl _) q n).trans (by rw [hk]; rfl))
  · intro q n
    refine (s7_at ..).trans ?_
    exact spair_val H _ _ _ (by decide) q n _ (by show 896 + q.val = 7 * 128 + q.val; omega) (((low_cons 768 896 rfl (low_cons 640 768 rfl (low_cons 512 640 rfl (low_cons 384 512 rfl (low_cons 256 384 rfl (low_cons 128 256 rfl (low_cons 0 128 rfl (low_fill)))))))) 896 _ (le_refl _) q n).trans (by rw [hk]; rfl))
  · intro q n
    refine (s8_at ..).trans ?_
    exact spair_val H _ _ _ (by decide) q n _ (by show 1024 + q.val = 8 * 128 + q.val; omega) (((low_cons 896 1024 rfl (low_cons 768 896 rfl (low_cons 640 768 rfl (low_cons 512 640 rfl (low_cons 384 512 rfl (low_cons 256 384 rfl (low_cons 128 256 rfl (low_cons 0 128 rfl (low_fill))))))))) 1024 _ (le_refl _) q n).trans (by rw [hk]; rfl))
  · intro q n
    refine (s9_at ..).trans ?_
    exact spair_val H _ _ _ (by decide) q n _ (by show 1152 + q.val = 9 * 128 + q.val; omega) (((low_cons 1024 1152 rfl (low_cons 896 1024 rfl (low_cons 768 896 rfl (low_cons 640 768 rfl (low_cons 512 640 rfl (low_cons 384 512 rfl (low_cons 256 384 rfl (low_cons 128 256 rfl (low_cons 0 128 rfl (low_fill)))))))))) 1152 _ (le_refl _) q n).trans (by rw [hk]; rfl))
  · intro q n
    refine (s10_at ..).trans ?_
    exact spair_val H _ _ _ (by decide) q n _ (by show 1280 + q.val = 10 * 128 + q.val; omega) (((low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill))))))))))) 1280 _ (le_refl _) q n).trans (by rw [hk]; rfl))
  · intro q n
    refine (s11_at ..).trans ?_
    exact spair_val H _ _ _ (by decide) q n _ (by show 1408 + q.val = 11 * 128 + q.val; omega) (((low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill)))))))))))) 1408 _ (le_refl _) q n).trans (by rw [hk]; rfl))
  · intro q n
    refine (s12_at ..).trans ?_
    exact spair_val H _ _ _ (by decide) q n _ (by show 1536 + q.val = 12 * 128 + q.val; omega) (((low_cons 1408 1536 rfl (low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill))))))))))))) 1536 _ (le_refl _) q n).trans (by rw [hk]; rfl))
  · intro q n
    refine (s13_at ..).trans ?_
    exact spair_val H _ _ _ (by decide) q n _ (by show 1664 + q.val = 13 * 128 + q.val; omega) (((low_cons 1536 1664 rfl (low_cons 1408 1536 rfl (low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill)))))))))))))) 1664 _ (le_refl _) q n).trans (by rw [hk]; rfl))
  · intro q n
    refine (s14_at ..).trans ?_
    exact spair_val H _ _ _ (by decide) q n _ (by show 1792 + q.val = 14 * 128 + q.val; omega) (((low_cons 1664 1792 rfl (low_cons 1536 1664 rfl (low_cons 1408 1536 rfl (low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill))))))))))))))) 1792 _ (le_refl _) q n).trans (by rw [hk]; rfl))
  · intro q n
    refine (s15_at ..).trans ?_
    exact spair_val H _ _ _ (by decide) q n _ (by show 1920 + q.val = 15 * 128 + q.val; omega) (((low_cons 1792 1920 rfl (low_cons 1664 1792 rfl (low_cons 1536 1664 rfl (low_cons 1408 1536 rfl (low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill)))))))))))))))) 1920 _ (le_refl _) q n).trans (by rw [hk]; rfl))

/-- The output block of a point that begins a sequence. -/
theorem outA (h0 : p.val % 32 = 0) (H : Holds xbc dt cw cb db al b k (X0_1 m c p) (iblk m c 2 p) (iblk m c 3 p) (iblk m c 4 p) (iblk m c 5 p) (iblk m c 6 p) (iblk m c 7 p) (iblk m c 8 p) (iblk m c 9 p) (iblk m c 10 p) (iblk m c 11 p) (iblk m c 12 p) (iblk m c 15 p) (iblk m c 16 p) (iblk m c 17 p) (k0_pay2 (F := Ideal)) (k0_pay3 (F := Ideal)) (k0_pay4 (F := Ideal))) (hk : k = 0)
    (zv : Fin 256 → Fin 2048 → EReal) (hz : ∀ r l, X0_0 m c p (ix2 r l) = zv r l) (dv nv : Fin 2048 → EReal)
    (hd' : ∀ l, (iblk m c 13 p) (ix2 0 l) = dv l) (hn' : ∀ l, (iblk m c 14 p) (ix2 0 l) = nv l) (r : Fin 256) (g : Fin 4) (q : Fin 512) :
    (outsAt0 m c p.val p.isLt).1 (ix2 r (gl g q))
      = grp (fun j => (Y0 xbc dt cw cb db al b k r (gl g j) + dv (gl g j) * U xbc cw cb b (xl (gl g j)) (k * 256 + r.val))
          * silu (zv r (gl g j))) (nv (gl g q)) q := by
  rw [outsAt0_A m c p h0]
  frame_out
  refine (out_at' ..).trans ?_
  refine (congrArg (fun x => grp _ x q) (hn' _)).trans (congrArg (fun f => grp f _ q) (funext fun j => ?_))
  refine (gate_at ..).trans ?_
  refine congrArg₂ (· * ·) (congrArg₂ (· + ·) ?_ (congrArg₂ (· * ·) (hd' _) (xs_val H r (gl g j)))) (congrArg silu (hz _ _))
  refine y_read (fun r l => Y0 xbc dt cw cb db al b k r l) _ _ _ _ _ _ _ _ _ _ _ _ _ _ _ _ ?_ ?_ ?_ ?_ ?_ ?_ ?_ ?_ ?_ ?_ ?_ ?_ ?_ ?_ ?_ ?_ r (gl g j)
  · intro t q
    refine (y0_at ..).trans ?_
    exact ypair_val H _ _ _ (by decide) t q _ (by show 0 + q.val = 0 * 128 + q.val; omega) (fun n => ((low_fill) 0 _ (le_refl _) q n).trans (by rw [hk]; rfl))
  · intro t q
    refine (y1_at ..).trans ?_
    exact ypair_val H _ _ _ (by decide) t q _ (by show 128 + q.val = 1 * 128 + q.val; omega) (fun n => ((low_cons 0 128 rfl (low_fill)) 128 _ (le_refl _) q n).trans (by rw [hk]; rfl))
  · intro t q
    refine (y2_at ..).trans ?_
    exact ypair_val H _ _ _ (by decide) t q _ (by show 256 + q.val = 2 * 128 + q.val; omega) (fun n => ((low_cons 128 256 rfl (low_cons 0 128 rfl (low_fill))) 256 _ (le_refl _) q n).trans (by rw [hk]; rfl))
  · intro t q
    refine (y3_at ..).trans ?_
    exact ypair_val H _ _ _ (by decide) t q _ (by show 384 + q.val = 3 * 128 + q.val; omega) (fun n => ((low_cons 256 384 rfl (low_cons 128 256 rfl (low_cons 0 128 rfl (low_fill)))) 384 _ (le_refl _) q n).trans (by rw [hk]; rfl))
  · intro t q
    refine (y4_at ..).trans ?_
    exact ypair_val H _ _ _ (by decide) t q _ (by show 512 + q.val = 4 * 128 + q.val; omega) (fun n => ((low_cons 384 512 rfl (low_cons 256 384 rfl (low_cons 128 256 rfl (low_cons 0 128 rfl (low_fill))))) 512 _ (le_refl _) q n).trans (by rw [hk]; rfl))
  · intro t q
    refine (y5_at ..).trans ?_
    exact ypair_val H _ _ _ (by decide) t q _ (by show 640 + q.val = 5 * 128 + q.val; omega) (fun n => ((low_cons 512 640 rfl (low_cons 384 512 rfl (low_cons 256 384 rfl (low_cons 128 256 rfl (low_cons 0 128 rfl (low_fill)))))) 640 _ (le_refl _) q n).trans (by rw [hk]; rfl))
  · intro t q
    refine (y6_at ..).trans ?_
    exact ypair_val H _ _ _ (by decide) t q _ (by show 768 + q.val = 6 * 128 + q.val; omega) (fun n => ((low_cons 640 768 rfl (low_cons 512 640 rfl (low_cons 384 512 rfl (low_cons 256 384 rfl (low_cons 128 256 rfl (low_cons 0 128 rfl (low_fill))))))) 768 _ (le_refl _) q n).trans (by rw [hk]; rfl))
  · intro t q
    refine (y7_at ..).trans ?_
    exact ypair_val H _ _ _ (by decide) t q _ (by show 896 + q.val = 7 * 128 + q.val; omega) (fun n => ((low_cons 768 896 rfl (low_cons 640 768 rfl (low_cons 512 640 rfl (low_cons 384 512 rfl (low_cons 256 384 rfl (low_cons 128 256 rfl (low_cons 0 128 rfl (low_fill)))))))) 896 _ (le_refl _) q n).trans (by rw [hk]; rfl))
  · intro t q
    refine (y8_at ..).trans ?_
    exact ypair_val H _ _ _ (by decide) t q _ (by show 1024 + q.val = 8 * 128 + q.val; omega) (fun n => ((low_cons 896 1024 rfl (low_cons 768 896 rfl (low_cons 640 768 rfl (low_cons 512 640 rfl (low_cons 384 512 rfl (low_cons 256 384 rfl (low_cons 128 256 rfl (low_cons 0 128 rfl (low_fill))))))))) 1024 _ (le_refl _) q n).trans (by rw [hk]; rfl))
  · intro t q
    refine (y9_at ..).trans ?_
    exact ypair_val H _ _ _ (by decide) t q _ (by show 1152 + q.val = 9 * 128 + q.val; omega) (fun n => ((low_cons 1024 1152 rfl (low_cons 896 1024 rfl (low_cons 768 896 rfl (low_cons 640 768 rfl (low_cons 512 640 rfl (low_cons 384 512 rfl (low_cons 256 384 rfl (low_cons 128 256 rfl (low_cons 0 128 rfl (low_fill)))))))))) 1152 _ (le_refl _) q n).trans (by rw [hk]; rfl))
  · intro t q
    refine (y10_at ..).trans ?_
    exact ypair_val H _ _ _ (by decide) t q _ (by show 1280 + q.val = 10 * 128 + q.val; omega) (fun n => ((low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill))))))))))) 1280 _ (le_refl _) q n).trans (by rw [hk]; rfl))
  · intro t q
    refine (y11_at ..).trans ?_
    exact ypair_val H _ _ _ (by decide) t q _ (by show 1408 + q.val = 11 * 128 + q.val; omega) (fun n => ((low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill)))))))))))) 1408 _ (le_refl _) q n).trans (by rw [hk]; rfl))
  · intro t q
    refine (y12_at ..).trans ?_
    exact ypair_val H _ _ _ (by decide) t q _ (by show 1536 + q.val = 12 * 128 + q.val; omega) (fun n => ((low_cons 1408 1536 rfl (low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill))))))))))))) 1536 _ (le_refl _) q n).trans (by rw [hk]; rfl))
  · intro t q
    refine (y13_at ..).trans ?_
    exact ypair_val H _ _ _ (by decide) t q _ (by show 1664 + q.val = 13 * 128 + q.val; omega) (fun n => ((low_cons 1536 1664 rfl (low_cons 1408 1536 rfl (low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill)))))))))))))) 1664 _ (le_refl _) q n).trans (by rw [hk]; rfl))
  · intro t q
    refine (y14_at ..).trans ?_
    exact ypair_val H _ _ _ (by decide) t q _ (by show 1792 + q.val = 14 * 128 + q.val; omega) (fun n => ((low_cons 1664 1792 rfl (low_cons 1536 1664 rfl (low_cons 1408 1536 rfl (low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill))))))))))))))) 1792 _ (le_refl _) q n).trans (by rw [hk]; rfl))
  · intro t q
    refine (y15_at ..).trans ?_
    exact ypair_val H _ _ _ (by decide) t q _ (by show 1920 + q.val = 15 * 128 + q.val; omega) (fun n => ((low_cons 1792 1920 rfl (low_cons 1664 1792 rfl (low_cons 1536 1664 rfl (low_cons 1408 1536 rfl (low_cons 1280 1408 rfl (low_cons 1152 1280 rfl (low_cons 1024 1152 rfl (low_cons 896 1024 rfl (low_cons 768 896 rfl (low_cons 640 768 rfl (low_cons 512 640 rfl (low_cons 384 512 rfl (low_cons 256 384 rfl (low_cons 128 256 rfl (low_cons 0 128 rfl (low_fill)))))))))))))))) 1920 _ (le_refl _) q n).trans (by rw [hk]; rfl))

/-- The rows such a point carries on. -/
theorem carryA (h0 : p.val % 32 = 0) :
    (outsAt0 m c p.val p.isLt).2.1 = k0_pay11 (k0_pay6 (X0_1 m c p)) ∧ (outsAt0 m c p.val p.isLt).2.2.1 = k0_pay19 (k0_pay18 (k0_pay13 (iblk m c 2 p)))
      ∧ (outsAt0 m c p.val p.isLt).2.2.2.1 = k0_pay24 (k0_pay21 (iblk m c 3 p)) := by
  rw [outsAt0_A m c p h0]
  refine ⟨?_, ?_, ?_⟩
  · frame_out
  · frame_out
  · frame_out

end Points

end Cert.Proof.Ssd

end
-- ==== Proof.SsdRef.lean ====
/- The mixer's reference, read at an index: the arrays before the scan, one step of the scan, and what follows it. -/
module

public import proofs.«01_k».proof.Proof.Gen.ReferenceIdeal.Step
public import proofs.«01_k».proof.Proof.SsdSpec
public import Idealize.ShloMosaic.Lib.Pointwise
public import Idealize.ShloMosaic.Lib.WordCmp

@[expose] public section

set_option maxRecDepth 16384

noncomputable section

namespace Cert.Proof.Ssd

open Idealize.ShloMosaic Cert.ReferenceIdeal Cert.ReferenceIdeal.Gen Cert.ReferenceIdeal.Step

/-- A left fold that adds is the sum of what it adds. -/
theorem foldl_add {α : Type} (l : List α) (f : α → EReal) (a : EReal) :
    l.foldl (fun r n => r + f n) a = a + (l.map f).sum := by
  induction l generalizing a with
  | nil => simp
  | cons x l ih => simp [ih, add_assoc]

/-- The windowed sum of the scan's step is the running sum along the chunk. -/
theorem window_at (x : FVec Ideal S2x256x4x8 .f32) (v : FVec Ideal S_ .f32) (hv : v (Shape.Idx.first h_S_) = 0)
    (b : Fin 2) (t : Fin 256) (g : Fin 4) (r : Fin 8) :
    Host.reduceWindowAdd ![1, 256, 1, 1] ![1, 1, 1, 1] ![0, 255, 0, 0] ![0, 0, 0, 0] x v
      reduceWindows_S2x256x4x8_S2x256x4x8_w1s1p0_0_w256s1p255_0_w1s1p0_0_w1s1p0_0 h_S_ (ix4 b t g r)
      = cum (fun s => x (ix4 b s g r)) t := by
  unfold Host.reduceWindowAdd
  rw [Ideal.hostReduceWindowAdd_def, hv]
  unfold Ideal.hostReduceWindowAdd Host.reduceWindow
  refine (foldl_add _ _ _).trans ?_
  rw [zero_add, ← List.ofFn_eq_map, List.sum_ofFn]
  rw [← Equiv.sum_comp (Shape.rowMajor ⟨4, ![1, 256, 1, 1]⟩)]
  simp only [Equiv.symm_apply_apply]
  rw [sum_idx4]
  let f : ℕ → EReal := fun n => if h : n < 256 then x (ix4 b ⟨n, h⟩ g r) else 0
  trans ∑ w : Fin 256, if 255 ≤ t.val + w.val then f (t.val + w.val - 255) else 0
  · simp only [Finset.univ_unique, Finset.sum_singleton]
    refine Finset.sum_congr rfl fun w _ => ?_
    by_cases hw : 255 ≤ t.val + w.val
    · rw [if_pos hw]
      have h1 : t.val + w.val - 255 < 256 := by omega
      show _ = dite _ _ _
      rw [dif_pos h1, dif_pos (fun a => by
        fin_cases a
        · exact ⟨Nat.zero_le _, by show b.val * 1 + 0 - 0 < 2; omega⟩
        · exact ⟨by show 255 ≤ t.val * 1 + w.val; omega, by show t.val * 1 + w.val - 255 < 256; omega⟩
        · exact ⟨Nat.zero_le _, by show g.val * 1 + 0 - 0 < 4; omega⟩
        · exact ⟨Nat.zero_le _, by show r.val * 1 + 0 - 0 < 8; omega⟩)]
      congr 1
      funext a
      fin_cases a
      · exact Fin.ext (by show b.val * 1 + 0 - 0 = b.val; omega)
      · exact Fin.ext (by show t.val * 1 + w.val - 255 = t.val + w.val - 255; omega)
      · exact Fin.ext (by show g.val * 1 + 0 - 0 = g.val; omega)
      · exact Fin.ext (by show r.val * 1 + 0 - 0 = r.val; omega)
    · rw [if_neg hw, dif_neg (fun h => by
        have := (h 1).1
        have h' : 255 ≤ t.val * 1 + w.val := this
        omega)]
  · unfold cum
    rw [← Finset.sum_filter, ← Finset.sum_filter]
    refine Finset.sum_bij' (fun w _ => (⟨(t.val + w.val - 255) % 256, Nat.mod_lt _ (by decide)⟩ : Fin 256))
      (fun s _ => (⟨(s.val + 255 - t.val) % 256, Nat.mod_lt _ (by decide)⟩ : Fin 256)) ?_ ?_ ?_ ?_ ?_
    · intro w hw
      simp only [Finset.mem_filter, Finset.mem_univ, true_and] at hw ⊢
      omega
    · intro s hs
      simp only [Finset.mem_filter, Finset.mem_univ, true_and] at hs ⊢
      omega
    · intro w hw
      simp only [Finset.mem_filter, Finset.mem_univ, true_and] at hw
      exact Fin.ext (by show ((t.val + w.val - 255) % 256 + 255 - t.val) % 256 = w.val; omega)
    · intro s hs
      simp only [Finset.mem_filter, Finset.mem_univ, true_and] at hs
      exact Fin.ext (by show (t.val + (s.val + 255 - t.val) % 256 - 255) % 256 = s.val; omega)
    · intro w hw
      simp only [Finset.mem_filter, Finset.mem_univ, true_and] at hw
      have h1 : t.val + w.val - 255 < 256 := by omega
      show dite _ _ _ = _
      rw [dif_pos h1]
      congr 2
      exact Fin.ext (Nat.mod_eq_of_lt h1).symm

section Step

variable (j : Fin 32) (s : State Ideal)

/-- The chunk of `x` that a step reads. -/
theorem b6_at (b : Fin 2) (t : Fin 256) (g : Fin 4) (r : Fin 8) (p : Fin 64) :
    b6 j.val s (ix5 b t g r p) = s.main_v60_0 (ix6 j b t g r p) := by
  have hk : S32x2x256x4x8x64.Slices ![j.val, 0, 0, 0, 0, 0] S1x2x256x4x8x64 := ⟨rfl, fun a => by
    fin_cases a
    · show j.val + 1 ≤ 32; omega
    all_goals exact Nat.le_refl _⟩
  have e : b5 j.val s = extractStridedSlice S1x2x256x4x8x64 ![j.val, 0, 0, 0, 0, 0] s.main_v60_0 hk := by
    unfold b5
    refine WordCmp.dynamicSlice_eq_extract _ _ _ _ _ hk fun a => ?_
    fin_cases a
    · exact WordCmp.toInt_ofNat_of_lt (by have := j.isLt; show j.val < 2 ^ 31; omega)
    all_goals rfl
  pointwise [b6, e]

/-- The chunk of step sizes that a step reads. -/
theorem b12_at (b : Fin 2) (t : Fin 256) (g : Fin 4) (r : Fin 8) :
    b12 j.val s (ix4 b t g r) = s.main_v60_1 (ix5 j b t g r) := by
  have hk : S32x2x256x4x8.Slices ![j.val, 0, 0, 0, 0] S1x2x256x4x8 := ⟨rfl, fun a => by
    fin_cases a
    · show j.val + 1 ≤ 32; omega
    all_goals exact Nat.le_refl _⟩
  have e : b11 j.val s = extractStridedSlice S1x2x256x4x8 ![j.val, 0, 0, 0, 0] s.main_v60_1 hk := by
    unfold b11
    refine WordCmp.dynamicSlice_eq_extract _ _ _ _ _ hk fun a => ?_
    fin_cases a
    · exact WordCmp.toInt_ofNat_of_lt (by have := j.isLt; show j.val < 2 ^ 31; omega)
    all_goals rfl
  pointwise [b12, e]

/-- The chunk of `B` that a step reads. -/
theorem b18_at (b : Fin 2) (t : Fin 256) (g : Fin 4) (n : Fin 128) :
    b18 j.val s (ix4 b t g n) = s.main_v60_2 (ix5 j b t g n) := by
  have hk : S32x2x256x4x128.Slices ![j.val, 0, 0, 0, 0] S1x2x256x4x128 := ⟨rfl, fun a => by
    fin_cases a
    · show j.val + 1 ≤ 32; omega
    all_goals exact Nat.le_refl _⟩
  have e : b17 j.val s = extractStridedSlice S1x2x256x4x128 ![j.val, 0, 0, 0, 0] s.main_v60_2 hk := by
    unfold b17
    refine WordCmp.dynamicSlice_eq_extract _ _ _ _ _ hk fun a => ?_
    fin_cases a
    · exact WordCmp.toInt_ofNat_of_lt (by have := j.isLt; show j.val < 2 ^ 31; omega)
    all_goals rfl
  pointwise [b18, e]

/-- The chunk of `C` that a step reads. -/
theorem b24_at (b : Fin 2) (t : Fin 256) (g : Fin 4) (n : Fin 128) :
    b24 j.val s (ix4 b t g n) = s.main_v60_3 (ix5 j b t g n) := by
  have hk : S32x2x256x4x128.Slices ![j.val, 0, 0, 0, 0] S1x2x256x4x128 := ⟨rfl, fun a => by
    fin_cases a
    · show j.val + 1 ≤ 32; omega
    all_goals exact Nat.le_refl _⟩
  have e : b23 j.val s = extractStridedSlice S1x2x256x4x128 ![j.val, 0, 0, 0, 0] s.main_v60_3 hk := by
    unfold b23
    refine WordCmp.dynamicSlice_eq_extract _ _ _ _ _ hk fun a => ?_
    fin_cases a
    · exact WordCmp.toInt_ofNat_of_lt (by have := j.isLt; show j.val < 2 ^ 31; omega)
    all_goals rfl
  pointwise [b24, e]

/-- The accumulated decay of a step. -/
theorem b30_at (b : Fin 2) (t : Fin 256) (g : Fin 4) (r : Fin 8) :
    b30 j.val s (ix4 b t g r) = cum (fun u => s.main_v60_1 (ix5 j b u g r) * s.main_v60_4 (ix2 g r)) t := by
  unfold b30
  rw [window_at _ _ (by pointwise [b29, b28])]
  congr 1
  funext u
  pointwise [b27, b26, b25, b12_at]

/-- The mask's constant is minus infinity. -/
theorem ninf : Ideal.ofBits .f32 0xFF800000#32 = ⊥ := by simp [Ideal.ofBits, Ideal.ieee]

/-- The masked decay of a step, from place `u` to place `t`. -/
theorem b42_at (b : Fin 2) (t u : Fin 256) (g : Fin 4) (r : Fin 8) :
    b42 j.val s (ix5 b t u g r) = Ideal.exp (if u.val ≤ t.val then b30 j.val s (ix4 b t g r) - b30 j.val s (ix4 b u g r) else ⊥) := by
  pointwise [b42, b41, b40, b39, b38, b37, b36, b35, b34, b33, b32, b31, K_main_v49, K_main_call3_v5, K_main_call3_c_0,
    K_main_call3_v4, K_main_call3_v3, K_main_call3_v2, K_main_call3_v1, K_main_call3_c, K_main_call3_v0, K_main_v48, K_main_c_0]
  have e : IntOp.addi (BitVec.ofNat 32 t.val) 0#32 = BitVec.ofNat 32 t.val := BitVec.add_zero _
  rw [e, WordCmp.cmpi_sge_ofNat (by omega) (by omega), ninf]
  by_cases h : u.val ≤ t.val <;> simp [h, Scalar.select]

/-- What a step gives out at a place. -/
theorem b79_at (b : Fin 2) (t : Fin 256) (g : Fin 4) (r : Fin 8) (p : Fin 64) :
    b79 j.val s (ix5 b t g r p) = (∑ u : Fin 256, s.main_v60_0 (ix6 j b u g r p) * s.main_v60_1 (ix5 j b u g r)
        * ((∑ n : Fin 128, s.main_v60_2 (ix5 j b u g n) * s.main_v60_3 (ix5 j b t g n)) * b42 j.val s (ix5 b t u g r)))
      + (∑ n : Fin 128, s.main_v60_8 (ix5 b g r p n) * s.main_v60_3 (ix5 j b t g n)) * Ideal.exp (b30 j.val s (ix4 b t g r))
      + s.main_v60_6 (ix1 ⟨g.val * 8 + r.val, by omega⟩) * s.main_v60_0 (ix6 j b t g r p) := by
  pointwise [b79, b78, b77, b76, b75, b59, b58, b57, b56, b55, b54, b53, b52, b51, b50, b49, b48, b47, b46, b45, b44, b43,
    b6_at, b12_at, b18_at, b24_at]

/-- The state after a step. -/
theorem b74_at (b : Fin 2) (g : Fin 4) (r : Fin 8) (p : Fin 64) (n : Fin 128) :
    b74 j.val s (ix5 b g r p n) = s.main_v60_8 (ix5 b g r p n) * Ideal.exp (b30 j.val s (ix4 b 255 g r))
      + ∑ u : Fin 256, Ideal.exp (b30 j.val s (ix4 b 255 g r) - b30 j.val s (ix4 b u g r))
          * (s.main_v60_0 (ix6 j b u g r p) * s.main_v60_1 (ix5 j b u g r)) * s.main_v60_2 (ix5 j b u g n) := by
  pointwise [b74, b73, b72, b71, b70, b69, b68, b67, b66, b65, b64, b63, b62, b61, b60, b45, b44, b43, b6_at, b12_at, b18_at]

/-- The outputs after a step: its own chunk is new, the others stay. -/
theorem b86_at (i : Fin 32) (b : Fin 2) (t : Fin 256) (g : Fin 4) (r : Fin 8) (p : Fin 64) :
    b86 j.val s (ix6 i b t g r p) = if i = j then b79 j.val s (ix5 b t g r p) else s.main_v60_9 (ix6 i b t g r p) := by
  have hk : S32x2x256x4x8x64.Slices ![j.val, 0, 0, 0, 0, 0] S1x2x256x4x8x64 := ⟨rfl, fun a => by
    fin_cases a
    · show j.val + 1 ≤ 32; omega
    all_goals exact Nat.le_refl _⟩
  have e : b86 j.val s = updateSlice s.main_v60_9 (b80 j.val s) ![j.val, 0, 0, 0, 0, 0] hk := by
    unfold b86
    refine WordCmp.dynamicUpdateSlice_eq_update _ _ _ _ _ hk fun a => ?_
    fin_cases a
    · exact WordCmp.toInt_ofNat_of_lt (by have := j.isLt; show j.val < 2 ^ 31; omega)
    all_goals rfl
  rw [e]
  pointwise [b80]
  by_cases h : i = j
  · subst h
    rw [dif_pos ⟨Nat.le_refl _, Nat.lt_succ_self _⟩, if_pos rfl]
  · rw [if_neg h, dif_neg (fun h' => h (Fin.ext (by omega)))]

end Step

section Before

variable (x1 : (⟨S16384x3072, .f32⟩ : BufTy).Contents (Elt Ideal)) (x2 : (⟨S16384x32, .f32⟩ : BufTy).Contents (Elt Ideal))
  (x3 : (⟨S4x3072, .f32⟩ : BufTy).Contents (Elt Ideal)) (x4 : (⟨S3072, .f32⟩ : BufTy).Contents (Elt Ideal))
  (x5 x6 x7 : (⟨S32, .f32⟩ : BufTy).Contents (Elt Ideal))

/-- The padded sequence, `k` places on: the number `3 - k` places back. -/
theorem v2_at (b : Fin 2) (n : Fin 8192) (k m : ℕ) (hk : k < 4) (l : Fin 3072) (hm : m < 8195) (e : m = n.val + k) :
    A_main_v2 x1 x2 x3 x4 x5 x6 (ix3 b ⟨m, hm⟩ l) = tap (sq x1 b l) (3 - k) n.val := by
  pointwise [A_main_v2, A_main_v0, K_main_call0_v0, K_main_c, tap]
  subst e
  by_cases h : 3 - k ≤ n.val
  · rw [if_pos h, dif_pos ⟨by omega, by omega⟩]
    unfold sq
    rw [dif_pos (by omega)]
    congr 3
    omega
  · rw [if_neg h, dif_neg (by omega)]
    show ((((0#32 : BitVec 32).toInt : ℤ) : ℝ) : EReal) = 0
    simp

/-- The convolved sequence. -/
theorem v33_at (b : Fin 2) (n : Fin 8192) (l : Fin 3072) :
    A_main_v33 x1 x2 x3 x4 x5 x6 (ix3 b n l) = U x1 x3 x4 b l n.val := by
  pointwise [A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_call1_v5, A_main_call1_v3, A_main_call1_v1, A_main_call1_v0, K_main_call1_cst, K_main_call1_v2, K_main_call1_cst_0, K_main_call1_v4, U, conv, silu, Ideal.logistic,
    v2_at x1 x2 x3 x4 x5 x6 b n 0 n.val (by omega) l (by omega) rfl,
    v2_at x1 x2 x3 x4 x5 x6 b n 1 (1 + n.val) (by omega) l (by omega) (Nat.add_comm _ _),
    v2_at x1 x2 x3 x4 x5 x6 b n 2 (2 + n.val) (by omega) l (by omega) (Nat.add_comm _ _),
    v2_at x1 x2 x3 x4 x5 x6 b n 3 (3 + n.val) (by omega) l (by omega) (Nat.add_comm _ _)]

/-- The step sizes. -/
theorem v43_at (b : Fin 2) (n : Fin 8192) (h : Fin 32) :
    A_main_v43 x1 x2 x3 x4 x5 x6 (ix3 b n h) = dts x2 x5 b h n.val := by
  pointwise [A_main_call2_v11, A_main_call2_v10, A_main_call2_v9, A_main_call2_v8, A_main_call2_v7, A_main_call2_v6, A_main_call2_v4, A_main_call2_v3, A_main_call2_v1, A_main_v43, A_main_v42, A_main_v41, A_main_v40, A_main_v1, K_main_call2_cst, K_main_call2_v0, K_main_call2_v2, K_main_call2_v5, dts, sp]
  rw [if_neg (fun h => h rfl)]
  rfl

/-- The chunks of `x`. -/
theorem v52_at (j : Fin 32) (b : Fin 2) (t : Fin 256) (g : Fin 4) (r : Fin 8) (p : Fin 64) :
    A_main_v52 x1 x2 x3 x4 x5 x6 (ix6 j b t g r p) = U x1 x3 x4 b ⟨g.val * 512 + r.val * 64 + p.val, by omega⟩ (j.val * 256 + t.val) := by
  pointwise [A_main_v52, A_main_v51, A_main_v37, A_main_v34, v33_at]

/-- The chunks of step sizes. -/
theorem v54_at (j : Fin 32) (b : Fin 2) (t : Fin 256) (g : Fin 4) (r : Fin 8) :
    A_main_v54 x1 x2 x3 x4 x5 x6 (ix5 j b t g r) = dts x2 x5 b ⟨g.val * 8 + r.val, by omega⟩ (j.val * 256 + t.val) := by
  pointwise [A_main_v54, A_main_v53, A_main_v44, v43_at]

/-- The chunks of `B`. -/
theorem v56_at (j : Fin 32) (b : Fin 2) (t : Fin 256) (g : Fin 4) (n : Fin 128) :
    A_main_v56 x1 x2 x3 x4 x5 x6 (ix5 j b t g n) = U x1 x3 x4 b ⟨2048 + (g.val * 128 + n.val), by omega⟩ (j.val * 256 + t.val) := by
  pointwise [A_main_v56, A_main_v55, A_main_v38, A_main_v35, v33_at]

/-- The chunks of `C`. -/
theorem v58_at (j : Fin 32) (b : Fin 2) (t : Fin 256) (g : Fin 4) (n : Fin 128) :
    A_main_v58 x1 x2 x3 x4 x5 x6 (ix5 j b t g n) = U x1 x3 x4 b ⟨2560 + (g.val * 128 + n.val), by omega⟩ (j.val * 256 + t.val) := by
  pointwise [A_main_v58, A_main_v57, A_main_v39, A_main_v36, v33_at]

/-- The decay rates. -/
theorem v47_at (g : Fin 4) (r : Fin 8) : A_main_v47 x1 x2 x3 x4 x5 x6 (ix2 g r) = aa x6 ⟨g.val * 8 + r.val, by omega⟩ := by
  pointwise [A_main_v47, A_main_v46, A_main_v45, aa]

/-- What follows the scan: the gate and the norm of each group. -/
theorem v81_at (s : State Ideal) (x0 : (⟨S16384x2048, .f32⟩ : BufTy).Contents (Elt Ideal))
    (x8 : (⟨S2048, .f32⟩ : BufTy).Contents (Elt Ideal)) (j : Fin 32) (b : Fin 2) (t : Fin 256) (g : Fin 4) (q : Fin 512) :
    R_main_v81 s x0 x8 (ix2 ⟨b.val * 8192 + (j.val * 256 + t.val), by omega⟩ (gl g q))
      = grp (fun k => s.main_v60_9 (ix6 j b t g ⟨(gl g k).val / 64 % 8, by omega⟩ ⟨(gl g k).val % 64, by omega⟩)
          * silu (x0 (ix2 ⟨b.val * 8192 + (j.val * 256 + t.val), by omega⟩ (gl g k)))) (x8 (ix1 (gl g q))) q := by
  have e : (b.val * 8192 + (j.val * 256 + t.val)) % 8192 = j.val * 256 + t.val := by omega
  pointwise [R_main_v81, grp, silu, Ideal.logistic, gl]
  try simp only [e]

/-- The scan's states, from the arguments. -/
def it : ℕ → State Ideal
  | 0 => init x7 x1 x2 x3 x4 x5 x6
  | n + 1 => step n (it n)

/-- The scan never writes the arrays it reads. -/
theorem it_const (n : ℕ) : (it x1 x2 x3 x4 x5 x6 x7 n).main_v60_0 = A_main_v52 x1 x2 x3 x4 x5 x6
    ∧ (it x1 x2 x3 x4 x5 x6 x7 n).main_v60_1 = A_main_v54 x1 x2 x3 x4 x5 x6
    ∧ (it x1 x2 x3 x4 x5 x6 x7 n).main_v60_2 = A_main_v56 x1 x2 x3 x4 x5 x6
    ∧ (it x1 x2 x3 x4 x5 x6 x7 n).main_v60_3 = A_main_v58 x1 x2 x3 x4 x5 x6
    ∧ (it x1 x2 x3 x4 x5 x6 x7 n).main_v60_4 = A_main_v47 x1 x2 x3 x4 x5 x6
    ∧ (it x1 x2 x3 x4 x5 x6 x7 n).main_v60_6 = x7 := by
  induction n with
  | zero => exact ⟨rfl, rfl, rfl, rfl, rfl, rfl⟩
  | succ n ih => exact ih

/-- Lane `64 r + p` of group `g`. -/
def ln (g : Fin 4) (r : Fin 8) (p : Fin 64) : Fin 2048 := ⟨g.val * 512 + r.val * 64 + p.val, by omega⟩

/-- The head of a lane given by group, head of the group and place. -/
theorem hd_ln (g : Fin 4) (r : Fin 8) (p : Fin 64) : hd (ln g r p) = ⟨g.val * 8 + r.val, by omega⟩ :=
  Fin.ext (by show (g.val * 512 + r.val * 64 + p.val) / 64 = g.val * 8 + r.val; omega)

/-- The input vector's lane of a lane's group. -/
theorem bl_ln (g : Fin 4) (r : Fin 8) (p : Fin 64) (n : Fin 128) : bl (ln g r p) n = ⟨2048 + (g.val * 128 + n.val), by omega⟩ :=
  Fin.ext (by show 2048 + ((g.val * 512 + r.val * 64 + p.val) / 512 * 128 + n.val) = 2048 + (g.val * 128 + n.val); omega)

/-- The output vector's lane of a lane's group. -/
theorem cl_ln (g : Fin 4) (r : Fin 8) (p : Fin 64) (n : Fin 128) : cl (ln g r p) n = ⟨2560 + (g.val * 128 + n.val), by omega⟩ :=
  Fin.ext (by show 2560 + ((g.val * 512 + r.val * 64 + p.val) / 512 * 128 + n.val) = 2560 + (g.val * 128 + n.val); omega)

/-- A lane given by group, head of the group and place, as a number. -/
theorem xl_ln (g : Fin 4) (r : Fin 8) (p : Fin 64) : xl (ln g r p) = ⟨g.val * 512 + r.val * 64 + p.val, by omega⟩ := rfl

/-- The accumulated decay of the scan's step `j`. -/
theorem acc_at (j : Fin 32) (b : Fin 2) (t : Fin 256) (g : Fin 4) (r : Fin 8) (p : Fin 64) :
    b30 j.val (it x1 x2 x3 x4 x5 x6 x7 j.val) (ix4 b t g r) = A x2 x5 x6 b (hd (ln g r p)) j.val t := by
  obtain ⟨e0, e1, e2, e3, e4, e6⟩ := it_const x1 x2 x3 x4 x5 x6 x7 j.val
  rw [b30_at, e1, e4, hd_ln]
  simp only [v54_at, v47_at]
  rfl

/-- After `n` steps the scan's state is the carried state. -/
theorem state_at (n : ℕ) (hn : n ≤ 32) (b : Fin 2) (g : Fin 4) (r : Fin 8) (p : Fin 64) (q : Fin 128) :
    (it x1 x2 x3 x4 x5 x6 x7 n).main_v60_8 (ix5 b g r p q) = St x1 x2 x3 x4 x5 x6 b (ln g r p) n q := by
  induction n with
  | zero =>
    show K_main_v50 (F := Ideal) (ix5 b g r p q) = 0
    pointwise [K_main_v50, K_main_cst]
  | succ n ih =>
    obtain ⟨e0, e1, e2, e3, e4, e6⟩ := it_const x1 x2 x3 x4 x5 x6 x7 n
    show b74 n (it x1 x2 x3 x4 x5 x6 x7 n) (ix5 b g r p q) = _
    rw [b74_at ⟨n, by omega⟩]
    simp only [acc_at x1 x2 x3 x4 x5 x6 x7 ⟨n, by omega⟩ b _ g r p, ih (by omega), e0, e1, e2, v52_at, v54_at, v56_at]
    simp only [St, hd_ln, bl_ln, xl_ln]

/-- After `n` steps the scan's outputs hold the chunks before `n`. -/
theorem out_at (n : ℕ) (hn : n ≤ 32) (i : Fin 32) (hi : i.val < n) (b : Fin 2) (t : Fin 256) (g : Fin 4) (r : Fin 8) (p : Fin 64) :
    (it x1 x2 x3 x4 x5 x6 x7 n).main_v60_9 (ix6 i b t g r p) = Y x1 x2 x3 x4 x5 x6 x7 b (ln g r p) i.val t := by
  induction n with
  | zero => exact absurd hi (Nat.not_lt_zero _)
  | succ n ih =>
    obtain ⟨e0, e1, e2, e3, e4, e6⟩ := it_const x1 x2 x3 x4 x5 x6 x7 n
    show b86 n (it x1 x2 x3 x4 x5 x6 x7 n) (ix6 i b t g r p) = _
    rw [b86_at ⟨n, by omega⟩]
    by_cases h : i = ⟨n, by omega⟩
    · rw [if_pos h, b79_at, h]
      simp only [b42_at ⟨n, by omega⟩, acc_at x1 x2 x3 x4 x5 x6 x7 ⟨n, by omega⟩ b _ g r p, state_at x1 x2 x3 x4 x5 x6 x7 n (by omega), e0, e1, e2, e3, e6,
        v52_at, v54_at, v56_at, v58_at]
      unfold Y
      simp only [hd_ln, bl_ln, cl_ln, xl_ln]
    · rw [if_neg h]
      exact ih (by omega) (by
        have : i.val ≠ n := fun e => h (Fin.ext e)
        omega)

/-- The reference's result. -/
theorem ref_at (x0 : (⟨S16384x2048, .f32⟩ : BufTy).Contents (Elt Ideal))
    (x8 : (⟨S2048, .f32⟩ : BufTy).Contents (Elt Ideal)) (j : Fin 32) (b : Fin 2) (t : Fin 256) (g : Fin 4) (q : Fin 512) :
    R_main_v81 (it x1 x2 x3 x4 x5 x6 x7 32) x0 x8 (ix2 ⟨b.val * 8192 + (j.val * 256 + t.val), by omega⟩ (gl g q))
      = grp (fun k => Y x1 x2 x3 x4 x5 x6 x7 b (gl g k) j.val t
          * silu (x0 (ix2 ⟨b.val * 8192 + (j.val * 256 + t.val), by omega⟩ (gl g k)))) (x8 (ix1 (gl g q))) q := by
  rw [v81_at]
  congr 1
  funext k
  rw [out_at x1 x2 x3 x4 x5 x6 x7 32 (le_refl _) j j.isLt]
  congr 2
  exact Fin.ext (by
    show g.val * 512 + (g.val * 512 + k.val) / 64 % 8 * 64 + (g.val * 512 + k.val) % 64 = g.val * 512 + k.val
    omega)

end Before

end Cert.Proof.Ssd

end
-- ==== Proof.SsdMain.lean ====
module

public import proofs.«01_k».proof.Proof.SsdHold
public import proofs.«01_k».proof.Proof.SsdPtA
public import proofs.«01_k».proof.Proof.SsdPtB
public import proofs.«01_k».proof.Proof.SsdRef

/-!
The mixer's call as a whole: what the points of a sequence carry from one to the next, by induction over its chunks, and that the
array the call leaves is the reference's.
-/

@[expose] public section

set_option maxRecDepth 16384
set_option maxHeartbeats 1000000

noncomputable section

namespace Cert.Proof.Ssd

open Idealize.ShloMosaic Idealize.ShloMosaic.TcCoe Idealize.SL.Sem
open Cert.KernelIdeal Cert.KernelIdeal.Gen

section Call

variable (m : (ℓ : Loc nD τ sig) → Buf (Elt Ideal) ℓ) (c : Dev nD) (hT : ∀ i, at' m c i ≠ ⊤)

/-- The carried rows of `x` begin a sequence at zero. -/
theorem zero2 (a : Fin 8) (l : Fin 2048) : k0_pay2 (F := Ideal) (ix2 a l) = 0 := by
  pointwise [k0_pay2]

/-- The carried rows of `B` begin a sequence at zero. -/
theorem zero3 (a : Fin 8) (l : Fin 512) : k0_pay3 (F := Ideal) (ix2 a l) = 0 := by
  pointwise [k0_pay3]

/-- The carried rows of `C` begin a sequence at zero. -/
theorem zero4 (a : Fin 8) (l : Fin 512) : k0_pay4 (F := Ideal) (ix2 a l) = 0 := by
  pointwise [k0_pay4]

/-- What point `p`, chunk `k` of sequence `b`, leaves for the next: the state after the chunk and the chunk's last eight rows. -/
structure Left (b : Fin 2) (k : ℕ) (p : Fin cfg0.N) : Prop where
  st : ∀ (l : Fin 2048) (n : Fin 128), (outsAt0 m c p.val p.isLt).2.2.2.2 (ix2 l n)
    = St (ax m c) (at' m c) (aw m c) (ab m c) (ad m c) (al' m c) b l (k + 1) n
  cx : ∀ (a : Fin 8) (l : Fin 2048), (outsAt0 m c p.val p.isLt).2.1 (ix2 a l)
    = if k + 1 = 0 then 0 else sq (ax m c) b (xl l) ((k + 1) * 256 - 8 + a.val)
  cb : ∀ (a : Fin 8) (l : Fin 512), (outsAt0 m c p.val p.isLt).2.2.1 (ix2 a l)
    = if k + 1 = 0 then 0 else sq (ax m c) b ⟨2048 + l.val, by omega⟩ ((k + 1) * 256 - 8 + a.val)
  cc : ∀ (a : Fin 8) (l : Fin 512), (outsAt0 m c p.val p.isLt).2.2.2.1 (ix2 a l)
    = if k + 1 = 0 then 0 else sq (ax m c) b ⟨2560 + l.val, by omega⟩ ((k + 1) * 256 - 8 + a.val)

include hT

/-- At the first point of a sequence the windows and the zeroed rows are what the chunk's arithmetic starts from. -/
theorem holdsA (b : Fin 2) (p : Fin cfg0.N) (hp : p.val = b.val * 32 + 0) :
    Holds (ax m c) (at' m c) (aw m c) (ab m c) (ad m c) (al' m c) b 0 (X0_1 m c p) (iblk m c 2 p) (iblk m c 3 p) (iblk m c 4 p)
      (iblk m c 5 p) (iblk m c 6 p) (iblk m c 7 p) (iblk m c 8 p) (iblk m c 9 p) (iblk m c 10 p) (iblk m c 11 p) (iblk m c 12 p)
      (iblk m c 15 p) (iblk m c 16 p) (iblk m c 17 p) (k0_pay2 (F := Ideal)) (k0_pay3 (F := Ideal)) (k0_pay4 (F := Ideal)) :=
  holds m c p b 0 (by omega) hp hT _ _ _ (fun a l => (zero2 a l).trans (if_pos rfl).symm) (fun a l => (zero3 a l).trans (if_pos rfl).symm)
    (fun a l => (zero4 a l).trans (if_pos rfl).symm)

/-- At a later point of a sequence the windows and the rows the point before left are what the chunk's arithmetic starts from. -/
theorem holdsB (b : Fin 2) (k : ℕ) (p : Fin cfg0.N) (hk : k + 1 < 32) (hp : p.val = b.val * 32 + (k + 1)) (hq : p.val - 1 < cfg0.N)
    (L : Left m c b k ⟨p.val - 1, hq⟩) :
    Holds (ax m c) (at' m c) (aw m c) (ab m c) (ad m c) (al' m c) b (k + 1) (X0_1 m c p) (iblk m c 2 p) (iblk m c 3 p) (iblk m c 4 p)
      (iblk m c 5 p) (iblk m c 6 p) (iblk m c 7 p) (iblk m c 8 p) (iblk m c 9 p) (iblk m c 10 p) (iblk m c 11 p) (iblk m c 12 p)
      (iblk m c 15 p) (iblk m c 16 p) (iblk m c 17 p) (outsAt0 m c (p.val - 1) hq).2.1 (outsAt0 m c (p.val - 1) hq).2.2.1
      (outsAt0 m c (p.val - 1) hq).2.2.2.1 :=
  holds m c p b (k + 1) hk hp hT _ _ _ L.cx L.cb L.cc

/-- Every point leaves the state after its chunk and its chunk's last rows. -/
theorem left (b : Fin 2) (k : ℕ) : k < 32 → ∀ p : Fin cfg0.N, p.val = b.val * 32 + k → Left m c b k p := by
  induction k with
  | zero =>
    intro hk p hp
    have h0 : p.val % 32 = 0 := by omega
    have H := holdsA m c hT b p hp
    obtain ⟨e1, e2, e3⟩ := carryA m c p h0
    exact ⟨fun l n => stateA m c p h0 H rfl l n, fun a l => (congrFun e1 _).trans ((tail_val H a).1 l),
      fun a l => (congrFun e2 _).trans ((tail_val H a).2.1 l), fun a l => (congrFun e3 _).trans ((tail_val H a).2.2 l)⟩
  | succ k ih =>
    intro hk p hp
    have h0 : ¬ p.val % 32 = 0 := by omega
    have hq : p.val - 1 < cfg0.N := by have := p.isLt; omega
    have L := ih (by omega) ⟨p.val - 1, hq⟩ (by show p.val - 1 = b.val * 32 + k; omega)
    have H := holdsB m c hT b k p hk hp hq L
    obtain ⟨e1, e2, e3⟩ := carryB m c p h0
    exact ⟨fun l n => stateB m c p h0 H (fun l n => L.st l n) l n, fun a l => (congrFun e1 _).trans ((tail_val H a).1 l),
      fun a l => (congrFun e2 _).trans ((tail_val H a).2.1 l), fun a l => (congrFun e3 _).trans ((tail_val H a).2.2 l)⟩

/-- What a point puts out. -/
theorem out_val (b : Fin 2) (k : ℕ) (hk : k < 32) (p : Fin cfg0.N) (hp : p.val = b.val * 32 + k) (r : Fin 256) (g : Fin 4) (q : Fin 512)
    (j : Fin 16384) (hj : j.val = p.val * 256 + r.val) :
    (outsAt0 m c p.val p.isLt).1 (ix2 r (gl g q))
      = grp (fun i => Y (ax m c) (at' m c) (aw m c) (ab m c) (ad m c) (al' m c) (as' m c) b (gl g i) k r
          * silu (az m c (ix2 j (gl g i)))) (an m c (ix1 (gl g q))) q := by
  have ht : p.val < 64 := by have := b.isLt; omega
  have hz : ∀ (r : Fin 256) (l : Fin 2048), X0_0 m c p (ix2 r l)
      = (fun (r : Fin 256) (l : Fin 2048) => az m c (ix2 ⟨p.val * 256 + r.val, by omega⟩ l)) r l :=
    fun r l => (blk0_V m c p r l ht).trans (v2_z m c _ l)
  have hd' : ∀ l : Fin 2048, iblk m c 13 p (ix2 0 l) = (fun l : Fin 2048 => as' m c (ix1 (hd l))) l :=
    fun l => (blk13_V m c p 0 l ht).trans (v38_at m c l)
  have hn' : ∀ l : Fin 2048, iblk m c 14 p (ix2 0 l) = (fun l : Fin 2048 => an m c (ix1 l)) l :=
    fun l => (blk14_V m c p 0 l ht).trans (v39_at m c l)
  have ej : j = ⟨p.val * 256 + r.val, by omega⟩ := Fin.ext hj
  rw [ej]
  cases k with
  | zero => exact outA m c p (by omega) (holdsA m c hT b p hp) rfl _ hz _ _ hd' hn' r g q
  | succ k =>
    have hq : p.val - 1 < cfg0.N := by have := p.isLt; omega
    have L := left m c hT b k (by omega) ⟨p.val - 1, hq⟩ (by show p.val - 1 = b.val * 32 + k; omega)
    exact outB m c p (by omega) (holdsB m c hT b k p hk hp hq L) (fun l n => L.st l n) _ hz _ _ hd' hn' r g q

/-- The array the call leaves is the reference's result. -/
theorem final : (dats m 0 c).arrAt 18 cfg0.N
    = Cert.ReferenceIdeal.Step.R_main_v81 (it (ax m c) (at' m c) (aw m c) (ab m c) (ad m c) (al' m c) (as' m c) 32) (az m c) (an m c) := by
  refine (dats m 0 c).arrAt_eq_of_covers 18 _ (by decide +kernel) fun t hf y => ?_
  have ht := lt_of_lt_of_eq t.isLt N_0
  blk_simp
  rw [after0_18]
  obtain ⟨r, l, rfl⟩ : ∃ (r : Fin 256) (l : Fin 2048), y = ix2 r l :=
    ⟨y 0, y 1, by funext a; match a with | ⟨0, _⟩ => rfl | ⟨1, _⟩ => rfl⟩
  obtain ⟨g, q, rfl⟩ : ∃ (g : Fin 4) (q : Fin 512), l = gl g q :=
    ⟨⟨l.val / 512, by omega⟩, ⟨l.val % 512, by omega⟩, Fin.ext (by show l.val = l.val / 512 * 512 + l.val % 512; omega)⟩
  have hb : t.val / 32 < 2 := by omega
  have hk : t.val % 32 < 32 := by omega
  have hp : t.val = t.val / 32 * 32 + t.val % 32 := by omega
  have he : (win0_18.blk t).view.emb (ix2 r (gl g q))
      = ix2 ⟨t.val / 32 * 8192 + (t.val % 32 * 256 + r.val), by omega⟩ (gl g q) := by
    refine Eq.trans (b := ix2 ⟨t.val * 256 + r.val, by omega⟩ (gl g q)) (by blk_ext [idx t]) ?_
    exact congrArg (fun j => ix2 j (gl g q)) (Fin.ext (by show t.val * 256 + r.val = _; dsimp only; omega))
  rw [he]
  refine (out_val m c hT ⟨t.val / 32, hb⟩ (t.val % 32) hk t hp r g q ⟨t.val / 32 * 8192 + (t.val % 32 * 256 + r.val), by omega⟩
    (by show t.val / 32 * 8192 + (t.val % 32 * 256 + r.val) = t.val * 256 + r.val; omega)).trans ?_
  exact (ref_at (ax m c) (at' m c) (aw m c) (ab m c) (ad m c) (al' m c) (as' m c) (az m c) (an m c) ⟨t.val % 32, hk⟩
    ⟨t.val / 32, hb⟩ r g q).symm

end Call

end Cert.Proof.Ssd

end
-- ==== Proof.SsdRun.lean ====
module

public import proofs.«01_k».proof.Proof.Ssd.StepRun
public import proofs.«01_k».proof.Proof.SsdRef

/-!
The run of the mixer's reference, its scan's states named by `it`.
-/

@[expose] public section

set_option maxRecDepth 16384
set_option maxHeartbeats 1000000

noncomputable section

namespace Cert.Proof.Ssd

open Idealize.ShloMosaic Idealize.ShloMosaic.TcCoe Idealize.SL.Sem
open Cert.ReferenceIdeal Cert.ReferenceIdeal.Gen Cert.ReferenceIdeal.Step

variable (m : (ℓ : Loc nD τ sig) → Buf (Elt Ideal) ℓ) (ρ : Dev nD → PrngReg)

/-- The states of the reference's scan, from the memory it starts from. -/
abbrev itm (c : Dev nD) (n : ℕ) : State Ideal :=
  it (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) n

/-- The scan starts from the reference's first state. -/
theorem itm_zero (c : Dev nD) : itm m c 0 = StepRun.initState m c := by
  rw [itm, it]

/-- The scan goes on by the reference's step. -/
theorem itm_succ (c : Dev nD) (n : ℕ) : itm m c (n + 1) = step n (itm m c n) := by
  rw [itm, it]

/-- What a run of the reference leaves: the result of the scan's last state in its result, and its arguments as they were. -/
theorem ref_run : θ_run (defs (F := Ideal)) (onTc (τ := τ) (main (F := Ideal))) ⟨m, fun _ => 0, ρ⟩ fun r => ∀ c : Dev nD,
    r.2.mem ((c.tc : Thread nD τ).loc main_v81)
        = R_main_v81 (itm m c 32) (m ((c.tc : Thread nD τ).loc main_arg0)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  StepRun.run_iter m ρ (itm m) (itm_zero m) (itm_succ m)

end Cert.Proof.Ssd

end
-- ==== Proof.FfnPay.lean ====
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn

open Idealize.ShloMosaic Idealize.ShloMosaic.TcCoe Idealize.SL.Sem

/-- The RMS norm of one row of 2048 numbers, scaled by the gains `g`. -/
def nrm (x g : Fin 2048 → EReal) (j : Fin 2048) : EReal :=
  x j * Ideal.rsqrt (Ideal.div (∑ k, x k * x k) (Ideal.ofBits FTy.f32 1157627904#32) + Ideal.ofBits FTy.f32 897988541#32) * g j

/-- One hidden unit of the gated feed-forward layer: the SiLU of the gate's product with the row, times the up projection's. -/
def hid (x wg wu : Fin 2048 → EReal) : EReal :=
  (∑ k, x k * wg k) * Ideal.logistic (∑ k, x k * wg k) * ∑ k, x k * wu k

/-- The residual step: the row plus a half of the normed branch. -/
def res (h f g : Fin 2048 → EReal) (j : Fin 2048) : EReal :=
  h j + Ideal.ofBits FTy.f32 1056964608#32 * nrm f g j

section Kern
open Cert.Kernel2Ideal Cert.Kernel2Ideal.Gen

/-- The kernel's first payload is the row's RMS norm. -/
theorem pay1_at (x : Vec Ideal S512x2048 .f32) (g : Vec Ideal S1x2048 .f32) (r : Fin 512) (j : Fin 2048) :
    k0_pay1 x g (ix2 r j) = nrm (fun k => x (ix2 r k)) (fun k => g (ix2 0 k)) j := by
  pointwise [k0_pay1, nrm]

/-- The accumulator starts at zero. -/
theorem pay2_at (i) : k0_pay2 (F := Ideal) i = 0 := by
  pointwise [k0_pay2]

/-- One step adds 512 hidden units' shares to the accumulator. -/
theorem pay3_at (xn : Vec Ideal S512x2048 .bf16) (wg wu : Vec Ideal S1x1x2048x512 .bf16)
    (acc : Vec Ideal S512x2048 .f32) (wd : Vec Ideal S1x1x512x2048 .bf16) (r : Fin 512) (j : Fin 2048) :
    k0_pay3 xn wg wu acc wd (ix2 r j) = acc (ix2 r j) + ∑ f : Fin 512,
      hid (fun k => xn (ix2 r k)) (fun k => wg (ix4 0 0 k f)) (fun k => wu (ix4 0 0 k f)) * wd (ix4 0 0 f j) := by
  pointwise [k0_pay3, hid]

/-- The last payload is the residual step of the accumulated branch. -/
theorem pay4_at (h acc : Vec Ideal S512x2048 .f32) (g : Vec Ideal S1x2048 .f32) (r : Fin 512) (j : Fin 2048) :
    k0_pay4 h acc g (ix2 r j) = res (fun k => h (ix2 r k)) (fun k => acc (ix2 r k)) (fun k => g (ix2 0 k)) j := by
  pointwise [k0_pay4, res, nrm]

end Kern

section Uses
open Cert.Kernel2Ideal Cert.Kernel2Ideal.Gen

/-- The row of `h` that point `t` holds at place `r`. -/
def row (t : ℕ) (ht : t < 352) (r : Fin 512) : Fin 16384 := ⟨t / 11 * 512 + r.val, by omega⟩

/-- What every use of the call has in common: at point `n` the blocks `b0` to `b5` hold the point's rows of the argument `x`, the
gains `g` and `g'`, and the point's tile of the three weights, and the two scratch arrays, `X` and `A`, are set at the first point
of a block of rows and carried (`X`) or added to (`A`) at the others. -/
structure Use (b0 : ∀ n : ℕ, n < 352 → Vec Ideal S512x2048 .f32) (b1 b2 : ∀ n : ℕ, n < 352 → Vec Ideal S1x2048 .f32)
    (b3 b4 : ∀ n : ℕ, n < 352 → Vec Ideal S1x1x2048x512 .bf16) (b5 : ∀ n : ℕ, n < 352 → Vec Ideal S1x1x512x2048 .bf16)
    (X : ∀ n : ℕ, n < 352 → Vec Ideal S512x2048 .bf16) (A : ∀ n : ℕ, n < 352 → Vec Ideal S512x2048 .f32)
    (x : Fin 16384 → Fin 2048 → EReal) (g g' : Fin 2048 → EReal) (wg wu : Fin 5632 → Fin 2048 → EReal)
    (wd : Fin 5632 → Fin 2048 → EReal) : Prop where
  h0 : ∀ n h r k, b0 n h (ix2 r k) = x (row n h r) k
  h1 : ∀ n h k, b1 n h (ix2 0 k) = g k
  h2 : ∀ n h k, b2 n h (ix2 0 k) = g' k
  h3 : ∀ (n : ℕ) (h : n < 352) (k : Fin 2048) (f : Fin 512) (hl : n % 11 * 512 + f.val < 5632),
    b3 n h (ix4 0 0 k f) = wg ⟨n % 11 * 512 + f.val, hl⟩ k
  h4 : ∀ (n : ℕ) (h : n < 352) (k : Fin 2048) (f : Fin 512) (hl : n % 11 * 512 + f.val < 5632),
    b4 n h (ix4 0 0 k f) = wu ⟨n % 11 * 512 + f.val, hl⟩ k
  h5 : ∀ (n : ℕ) (h : n < 352) (f : Fin 512) (j : Fin 2048) (hl : n % 11 * 512 + f.val < 5632),
    b5 n h (ix4 0 0 f j) = wd ⟨n % 11 * 512 + f.val, hl⟩ j
  first : ∀ n h, n % 11 = 0 → X n h = k0_pay1 (b0 n h) (b1 n h)
    ∧ A n h = k0_pay3 (k0_pay1 (b0 n h) (b1 n h)) (b3 n h) (b4 n h) (k0_pay2 (F := Ideal)) (b5 n h)
  next : ∀ (n : ℕ) (h : n < 352) (h' : n - 1 < 352), ¬ n % 11 = 0 → X n h = X (n - 1) h'
    ∧ A n h = k0_pay3 (X (n - 1) h') (b3 n h) (b4 n h) (A (n - 1) h') (b5 n h)

variable {b0 : ∀ n : ℕ, n < 352 → Vec Ideal S512x2048 .f32} {b1 b2 : ∀ n : ℕ, n < 352 → Vec Ideal S1x2048 .f32}
  {b3 b4 : ∀ n : ℕ, n < 352 → Vec Ideal S1x1x2048x512 .bf16} {b5 : ∀ n : ℕ, n < 352 → Vec Ideal S1x1x512x2048 .bf16}
  {X : ∀ n : ℕ, n < 352 → Vec Ideal S512x2048 .bf16} {A : ∀ n : ℕ, n < 352 → Vec Ideal S512x2048 .f32}
  {x : Fin 16384 → Fin 2048 → EReal} {g g' : Fin 2048 → EReal} {wg wu wd : Fin 5632 → Fin 2048 → EReal}

/-- After every point the first scratch holds the normed rows of the point's block. -/
theorem Use.xn_at (u : Use b0 b1 b2 b3 b4 b5 X A x g g' wg wu wd) (n : ℕ) (hn : n < 352) (r : Fin 512) (k : Fin 2048) :
    X n hn (ix2 r k) = nrm (x (row n hn r)) g k := by
  induction n with
  | zero => rw [(u.first 0 hn rfl).1, pay1_at]; simp only [u.h0, u.h1]
  | succ n ih =>
    by_cases h0 : (n + 1) % 11 = 0
    · rw [(u.first _ hn h0).1, pay1_at]; simp only [u.h0, u.h1]
    · have hr : row (n + 1) hn r = row n (by omega) r := Fin.ext (by show (n + 1) / 11 * 512 + r.val = n / 11 * 512 + r.val; omega)
      rw [hr, ← ih (by omega), (u.next _ hn (by omega) h0).1]
      rfl

/-- The step's payload over a point's blocks adds the shares of the 512 hidden units that the point holds. -/
theorem Use.step_at (u : Use b0 b1 b2 b3 b4 b5 X A x g g' wg wu wd) (n : ℕ) (hn : n < 352) (v : Vec Ideal S512x2048 .bf16)
    (acc : Vec Ideal S512x2048 .f32) (r : Fin 512) (j : Fin 2048) (hv : ∀ k, v (ix2 r k) = nrm (x (row n hn r)) g k) :
    k0_pay3 v (b3 n hn) (b4 n hn) acc (b5 n hn) (ix2 r j) = acc (ix2 r j) + ∑ f : Fin 512,
      hid (nrm (x (row n hn r)) g) (wg ⟨n % 11 * 512 + f.val, by omega⟩) (wu ⟨n % 11 * 512 + f.val, by omega⟩)
        * wd ⟨n % 11 * 512 + f.val, by omega⟩ j := by
  rw [pay3_at]
  refine congrArg (_ + ·) (Finset.sum_congr rfl fun f _ => ?_)
  have hl : n % 11 * 512 + f.val < 5632 := by omega
  rw [u.h5 n hn f j hl]
  simp only [u.h3 n hn _ f hl, u.h4 n hn _ f hl, hv]

/-- At the last point of a block of rows the accumulator holds the whole branch. -/
theorem Use.acc_at (u : Use b0 b1 b2 b3 b4 b5 X A x g g' wg wu wd) (t : Fin 352) (hf : t.val % 11 = 10) (r : Fin 512) (j : Fin 2048) :
    A t.val t.isLt (ix2 r j) = ∑ f : Fin 5632, hid (nrm (x (row t.val t.isLt r)) g) (wg f) (wu f) * wd f j := by
  rw [Pipeline.eq_sum_fin_of_reset_step_apply_of_flush A 11 (fun _ => 0)
    (fun p y => ∑ f : Fin 512, hid (nrm (x (row p.val p.isLt (y 0))) g) (wg ⟨p.val % 11 * 512 + f.val, by omega⟩)
      (wu ⟨p.val % 11 * 512 + f.val, by omega⟩) * wd ⟨p.val % 11 * 512 + f.val, by omega⟩ (y 1))
    (fun t h y => by
      idx_vars y
      rw [(u.first _ t.isLt h).2, u.step_at t.val t.isLt _ _ _ _ (fun k => by rw [pay1_at]; simp only [u.h0, u.h1]), pay2_at])
    (fun t h y => by
      idx_vars y
      have ht := t.isLt
      have hp : ∀ a k, X (t.val - 1) (by omega) (ix2 a k) = nrm (x (row t.val t.isLt a)) g k := fun a k => by
        rw [u.xn_at]
        exact congrArg (fun i => nrm (x i) g k) (Fin.ext (by show (t.val - 1) / 11 * 512 + a.val = t.val / 11 * 512 + a.val; omega))
      rw [(u.next _ t.isLt (by omega) h).2, u.step_at t.val t.isLt _ _ _ _ (fun k => hp _ k)])
    t hf _, zero_add]
  refine Fin.sum_mul_add_congr fun s f hl => ?_
  have hr : row (11 * (t.val / 11) + s.val) (by omega) r = row t.val t.isLt r :=
    Fin.ext (by show (11 * (t.val / 11) + s.val) / 11 * 512 + r.val = t.val / 11 * 512 + r.val; omega)
  have hq : (11 * (t.val / 11) + s.val) % 11 * 512 + f.val = s.val * 512 + f.val := by omega
  simp only [ix2_0, ix2_1, hr, hq]

/-- What the last point of a block of rows writes: the residual step of the whole branch. -/
theorem Use.out_at (u : Use b0 b1 b2 b3 b4 b5 X A x g g' wg wu wd) (t : Fin 352) (hf : t.val % 11 = 10) (r : Fin 512) (j : Fin 2048) :
    k0_pay4 (b0 t.val t.isLt) (A t.val t.isLt) (b2 t.val t.isLt) (ix2 r j) = res (x (row t.val t.isLt r))
      (fun l => ∑ f : Fin 5632, hid (nrm (x (row t.val t.isLt r)) g) (wg f) (wu f) * wd f l) g' j := by
  rw [pay4_at]
  simp only [u.h0, u.h2, u.acc_at t hf]

end Uses

section Ref
open Cert.Reference2Ideal Cert.Reference2Ideal.Read

variable (x0 : (⟨S16384x2048, .f32⟩ : BufTy).Contents (Elt Ideal)) (x1 x2 : (⟨S2048, .f32⟩ : BufTy).Contents (Elt Ideal))
  (x3 x4 : (⟨S4x2x2048x5632, .f32⟩ : BufTy).Contents (Elt Ideal)) (x5 : (⟨S4x2x5632x2048, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrm]

/-- The reference's hidden unit `f` of row `i`. -/
theorem v20_at (i : Fin 16384) (f : Fin 5632) :
    val_main_v20 x0 x1 x3 x4 (ix2 i f) = hid (nrm (fun k => x0 (ix2 i k)) (fun k => x1 (ix1 k)))
      (fun k => x3 (ix4 0 0 k f)) (fun k => x4 (ix4 0 0 k f)) := by
  pointwise [val_main_v20, val_main_v19, val_main_v18, val_main_v17, val_main_v16, val_main_v15, val_main_v14, val_main_v13,
    val_main_call0_v5, val_main_call0_v4, val_main_call0_cst_0, val_main_call0_v3, val_main_call0_v2, val_main_call0_cst,
    val_main_call0_v1, val_main_call0_v0, v12_at, hid, Ideal.logistic]

/-- The reference's branch: row `i`'s hidden units through the down projection. -/
theorem v23_at (i : Fin 16384) (j : Fin 2048) :
    val_main_v23 x0 x1 x3 x4 x5 (ix2 i j) = ∑ f : Fin 5632, hid (nrm (fun k => x0 (ix2 i k)) (fun k => x1 (ix1 k)))
      (fun k => x3 (ix4 0 0 k f)) (fun k => x4 (ix4 0 0 k f)) * x5 (ix4 0 0 f j) := by
  pointwise [val_main_v23, val_main_v22, val_main_v21, v20_at]

/-- The reference's result. -/
theorem v39_at (i : Fin 16384) (j : Fin 2048) :
    val_main_v39 x0 x1 x2 x3 x4 x5 (ix2 i j) = res (fun k => x0 (ix2 i k))
      (fun l => ∑ f : Fin 5632, hid (nrm (fun k => x0 (ix2 i k)) (fun k => x1 (ix1 k)))
        (fun k => x3 (ix4 0 0 k f)) (fun k => x4 (ix4 0 0 k f)) * x5 (ix4 0 0 f l)) (fun k => x2 (ix1 k)) j := by
  pointwise [val_main_v39, val_main_v38, val_main_v37, val_main_cst_5, val_main_v36, val_main_v35, val_main_v34, val_main_v33,
    val_main_v32, val_main_v31, val_main_v30, val_main_v29, val_main_cst_4, val_main_v28, val_main_v27, val_main_cst_3,
    val_main_v26, val_main_v25, val_main_cst_2, val_main_v24, v23_at, res, nrm]

end Ref

section Run
open Cert.Kernel2Ideal Cert.Kernel2Ideal.Gen

variable (m : (ℓ : Loc nD τ sig) → Buf (Elt Ideal) ℓ) (ρ : Dev nD → PrngReg)

/-- The windows' block indices at a grid point. -/
theorem idx : ∀ t : Fin cfg0.N, win0_0.index t = ![t.val / 11, 0] ∧ win0_1.index t = ![0, 0] ∧ win0_2.index t = ![0, 0]
    ∧ win0_3.index t = ![0, 0, 0, t.val % 11] ∧ win0_4.index t = ![0, 0, 0, t.val % 11]
    ∧ win0_5.index t = ![0, 0, t.val % 11, 0] ∧ win0_6.index t = ![t.val / 11, 0] :=
  (by decide +kernel : ∀ t : Fin grid0.N, _)

/-- Window 0 holds 512 rows of the argument. -/
theorem blk0_at (c : Dev nD) (t : Fin cfg0.N) (r : Fin 512) (k : Fin 2048) :
    iblk m c 0 t (ix2 r k) = m ((c : Thread nD τ).loc main_arg0) (ix2 (row t.val (lt_of_lt_of_eq t.isLt N_0) r) k) := by
  have ht := lt_of_lt_of_eq t.isLt N_0
  blk_ext [iblk, V, idx t, row]

/-- Window 1 holds the first norm's gains. -/
theorem blk1_at (c : Dev nD) (t : Fin cfg0.N) (k : Fin 2048) :
    iblk m c 1 t (ix2 0 k) = m ((c : Thread nD τ).loc main_arg1) (ix1 k) := by
  have ht := lt_of_lt_of_eq t.isLt N_0
  blk_point [iblk, idx t]

/-- Window 2 holds the second norm's gains. -/
theorem blk2_at (c : Dev nD) (t : Fin cfg0.N) (k : Fin 2048) :
    iblk m c 2 t (ix2 0 k) = m ((c : Thread nD τ).loc main_arg2) (ix1 k) := by
  have ht := lt_of_lt_of_eq t.isLt N_0
  blk_point [iblk, idx t]

/-- Window 3 holds 512 columns of the gate's weights. -/
theorem blk3_at (c : Dev nD) (t : Fin cfg0.N) (k : Fin 2048) (f : Fin 512) (hl : t.val % 11 * 512 + f.val < 5632) :
    iblk m c 3 t (ix4 0 0 k f) = m ((c : Thread nD τ).loc main_arg3) (ix4 0 0 k ⟨t.val % 11 * 512 + f.val, hl⟩) := by
  have ht := lt_of_lt_of_eq t.isLt N_0
  blk_point [iblk, idx t]

/-- Window 4 holds 512 columns of the up projection's weights. -/
theorem blk4_at (c : Dev nD) (t : Fin cfg0.N) (k : Fin 2048) (f : Fin 512) (hl : t.val % 11 * 512 + f.val < 5632) :
    iblk m c 4 t (ix4 0 0 k f) = m ((c : Thread nD τ).loc main_arg4) (ix4 0 0 k ⟨t.val % 11 * 512 + f.val, hl⟩) := by
  have ht := lt_of_lt_of_eq t.isLt N_0
  blk_point [iblk, idx t]

/-- Window 5 holds 512 rows of the down projection's weights. -/
theorem blk5_at (c : Dev nD) (t : Fin cfg0.N) (f : Fin 512) (j : Fin 2048) (hl : t.val % 11 * 512 + f.val < 5632) :
    iblk m c 5 t (ix4 0 0 f j) = m ((c : Thread nD τ).loc main_arg5) (ix4 0 0 ⟨t.val % 11 * 512 + f.val, hl⟩ j) := by
  have ht := lt_of_lt_of_eq t.isLt N_0
  blk_point [iblk, idx t]

/-- The call is a use: its blocks and its scratch arrays. -/
theorem isUse (c : Dev nD) : Use (fun n h => iblk m c 0 ⟨n, lt_of_lt_of_eq h N_0.symm⟩) (fun n h => iblk m c 1 ⟨n, lt_of_lt_of_eq h N_0.symm⟩)
    (fun n h => iblk m c 2 ⟨n, lt_of_lt_of_eq h N_0.symm⟩) (fun n h => iblk m c 3 ⟨n, lt_of_lt_of_eq h N_0.symm⟩)
    (fun n h => iblk m c 4 ⟨n, lt_of_lt_of_eq h N_0.symm⟩) (fun n h => iblk m c 5 ⟨n, lt_of_lt_of_eq h N_0.symm⟩)
    (fun n h => (outsAt0 m c n (lt_of_lt_of_eq h N_0.symm)).2.1) (fun n h => (outsAt0 m c n (lt_of_lt_of_eq h N_0.symm)).2.2)
    (fun i k => m ((c : Thread nD τ).loc main_arg0) (ix2 i k)) (fun k => m ((c : Thread nD τ).loc main_arg1) (ix1 k))
    (fun k => m ((c : Thread nD τ).loc main_arg2) (ix1 k)) (fun f k => m ((c : Thread nD τ).loc main_arg3) (ix4 0 0 k f))
    (fun f k => m ((c : Thread nD τ).loc main_arg4) (ix4 0 0 k f)) (fun f j => m ((c : Thread nD τ).loc main_arg5) (ix4 0 0 f j)) where
  h0 n h r k := blk0_at m c ⟨n, _⟩ r k
  h1 n h k := blk1_at m c ⟨n, _⟩ k
  h2 n h k := blk2_at m c ⟨n, _⟩ k
  h3 n h k f hl := blk3_at m c ⟨n, _⟩ k f hl
  h4 n h k f hl := blk4_at m c ⟨n, _⟩ k f hl
  h5 n h f j hl := blk5_at m c ⟨n, _⟩ f j hl
  first n h h0 := by
    rw [outsAt0_A m c ⟨n, lt_of_lt_of_eq h N_0.symm⟩ h0 (by show ¬ n % 11 = 10; omega)]
    constructor <;> frame_out
  next n h h' h0 := by
    by_cases h1 : n % 11 = 10
    · rw [outsAt0_C m c ⟨n, lt_of_lt_of_eq h N_0.symm⟩ h0 h1]
      refine ⟨by frame_out; rfl, ?_⟩; frame_out; rw [read_unread_whole, read_unread_whole]
    · rw [outsAt0_B m c ⟨n, lt_of_lt_of_eq h N_0.symm⟩ h0 h1]
      refine ⟨by frame_out; rfl, ?_⟩; frame_out; rw [read_unread_whole, read_unread_whole]

/-- The kernel's result array is the reference's value of the arguments. -/
theorem final (c : Dev nD) : (dats m 0 c).arrAt 6 cfg0.N
    = Cert.Reference2Ideal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h1 : t.val % 11 = 10 := (flush0_6 t).mp hf
  have h0 : ¬ t.val % 11 = 0 := by omega
  have ht := lt_of_lt_of_eq t.isLt N_0
  blk_simp
  rw [after0_6]
  obtain ⟨r, j, rfl⟩ : ∃ (r : Fin 512) (j : Fin 2048), y = ix2 r j := ⟨y 0, y 1, by funext a; match a with | ⟨0, _⟩ => rfl | ⟨1, _⟩ => rfl⟩
  have hacc := ((isUse m c).next t.val ht (by omega) h0).2
  rw [outsAt0_C m c t h0 h1]; frame_out
  rw [read_unread_whole, read_unread_whole]
  have he : (win0_6.blk t).view.emb (ix2 r j) = ix2 (row t.val ht r) j := by
    blk_ext [idx t, row]
  rw [he, v39_at]
  refine Eq.trans ?_ ((isUse m c).out_at ⟨t.val, ht⟩ h1 r j)
  rw [hacc]

end Run

end Cert.Proof.Ffn

end
-- ==== Proof.Ffn01.lean ====
module

public import proofs.«01_k».proof.Proof.Gen.Kernel7Ideal.Value
public import proofs.«01_k».proof.Proof.Gen.Reference7Ideal.Read
public import proofs.«01_k».proof.Proof.FfnPay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn01

open Idealize.ShloMosaic Idealize.ShloMosaic.TcCoe Idealize.SL.Sem

open Cert.Proof.Ffn (nrm hid res row Use)

section Ref
open Cert.Reference7Ideal Cert.Reference7Ideal.Read

variable (x0 : (⟨S16384x2048, .f32⟩ : BufTy).Contents (Elt Ideal)) (x1 x2 : (⟨S2048, .f32⟩ : BufTy).Contents (Elt Ideal))
  (x3 x4 : (⟨S4x2x2048x5632, .f32⟩ : BufTy).Contents (Elt Ideal)) (x5 : (⟨S4x2x5632x2048, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j :=
  Ffn.v12_at x0 x1 i j

/-- The reference's hidden unit `f` of row `i`. -/
theorem v20_at (i : Fin 16384) (f : Fin 5632) :
    val_main_v20 x0 x1 x3 x4 (ix2 i f) = hid (nrm (fun k => x0 (ix2 i k)) (fun k => x1 (ix1 k)))
      (fun k => x3 (ix4 0 1 k f)) (fun k => x4 (ix4 0 1 k f)) := by
  pointwise [val_main_v20, val_main_v19, val_main_v18, val_main_v17, val_main_v16, val_main_v15, val_main_v14, val_main_v13,
    val_main_call0_v5, val_main_call0_v4, val_main_call0_cst_0, val_main_call0_v3, val_main_call0_v2, val_main_call0_cst,
    val_main_call0_v1, val_main_call0_v0, v12_at, hid, Ideal.logistic]

/-- The reference's branch: row `i`'s hidden units through the down projection. -/
theorem v23_at (i : Fin 16384) (j : Fin 2048) :
    val_main_v23 x0 x1 x3 x4 x5 (ix2 i j) = ∑ f : Fin 5632, hid (nrm (fun k => x0 (ix2 i k)) (fun k => x1 (ix1 k)))
      (fun k => x3 (ix4 0 1 k f)) (fun k => x4 (ix4 0 1 k f)) * x5 (ix4 0 1 f j) := by
  pointwise [val_main_v23, val_main_v22, val_main_v21, v20_at]

/-- The reference's result. -/
theorem v39_at (i : Fin 16384) (j : Fin 2048) :
    val_main_v39 x0 x1 x2 x3 x4 x5 (ix2 i j) = res (fun k => x0 (ix2 i k))
      (fun l => ∑ f : Fin 5632, hid (nrm (fun k => x0 (ix2 i k)) (fun k => x1 (ix1 k)))
        (fun k => x3 (ix4 0 1 k f)) (fun k => x4 (ix4 0 1 k f)) * x5 (ix4 0 1 f l)) (fun k => x2 (ix1 k)) j := by
  pointwise [val_main_v39, val_main_v38, val_main_v37, val_main_cst_5, val_main_v36, val_main_v35, val_main_v34, val_main_v33,
    val_main_v32, val_main_v31, val_main_v30, val_main_v29, val_main_cst_4, val_main_v28, val_main_v27, val_main_cst_3,
    val_main_v26, val_main_v25, val_main_cst_2, val_main_v24, v23_at, res, nrm]

end Ref

section Run
open Cert.Kernel7Ideal Cert.Kernel7Ideal.Gen

variable (m : (ℓ : Loc nD τ sig) → Buf (Elt Ideal) ℓ) (ρ : Dev nD → PrngReg)

/-- The windows' block indices at a grid point. -/
theorem idx : ∀ t : Fin cfg0.N, win0_0.index t = ![t.val / 11, 0] ∧ win0_1.index t = ![0, 0] ∧ win0_2.index t = ![0, 0]
    ∧ win0_3.index t = ![0, 1, 0, t.val % 11] ∧ win0_4.index t = ![0, 1, 0, t.val % 11]
    ∧ win0_5.index t = ![0, 1, t.val % 11, 0] ∧ win0_6.index t = ![t.val / 11, 0] :=
  (by decide +kernel : ∀ t : Fin grid0.N, _)

/-- The call is a use: its blocks and its scratch arrays. -/
theorem isUse (c : Dev nD) : Use (fun n h => iblk m c 0 ⟨n, lt_of_lt_of_eq h N_0.symm⟩) (fun n h => iblk m c 1 ⟨n, lt_of_lt_of_eq h N_0.symm⟩)
    (fun n h => iblk m c 2 ⟨n, lt_of_lt_of_eq h N_0.symm⟩) (fun n h => iblk m c 3 ⟨n, lt_of_lt_of_eq h N_0.symm⟩)
    (fun n h => iblk m c 4 ⟨n, lt_of_lt_of_eq h N_0.symm⟩) (fun n h => iblk m c 5 ⟨n, lt_of_lt_of_eq h N_0.symm⟩)
    (fun n h => (outsAt0 m c n (lt_of_lt_of_eq h N_0.symm)).2.1) (fun n h => (outsAt0 m c n (lt_of_lt_of_eq h N_0.symm)).2.2)
    (fun i k => m ((c : Thread nD τ).loc main_arg0) (ix2 i k)) (fun k => m ((c : Thread nD τ).loc main_arg1) (ix1 k))
    (fun k => m ((c : Thread nD τ).loc main_arg2) (ix1 k)) (fun f k => m ((c : Thread nD τ).loc main_arg3) (ix4 0 1 k f))
    (fun f k => m ((c : Thread nD τ).loc main_arg4) (ix4 0 1 k f)) (fun f j => m ((c : Thread nD τ).loc main_arg5) (ix4 0 1 f j)) where
  h0 n h r k := Ffn.blk0_at m c ⟨n, _⟩ r k
  h1 n h k := Ffn.blk1_at m c ⟨n, _⟩ k
  h2 n h k := Ffn.blk2_at m c ⟨n, _⟩ k
  h3 n h k f hl := by have ht := h; blk_point [iblk, idx ⟨n, lt_of_lt_of_eq h N_0.symm⟩]
  h4 n h k f hl := by have ht := h; blk_point [iblk, idx ⟨n, lt_of_lt_of_eq h N_0.symm⟩]
  h5 n h f j hl := by have ht := h; blk_point [iblk, idx ⟨n, lt_of_lt_of_eq h N_0.symm⟩]
  first n h h0 := by
    rw [outsAt0_A m c ⟨n, lt_of_lt_of_eq h N_0.symm⟩ h0 (by show ¬ n % 11 = 10; omega)]
    constructor <;> frame_out <;> rfl
  next n h h' h0 := by
    by_cases h1 : n % 11 = 10
    · rw [outsAt0_C m c ⟨n, lt_of_lt_of_eq h N_0.symm⟩ h0 h1]
      refine ⟨by frame_out; rfl, ?_⟩; frame_out; rw [read_unread_whole, read_unread_whole]; rfl
    · rw [outsAt0_B m c ⟨n, lt_of_lt_of_eq h N_0.symm⟩ h0 h1]
      refine ⟨by frame_out; rfl, ?_⟩; frame_out; rw [read_unread_whole, read_unread_whole]; rfl

/-- The kernel's result array is the reference's value of the arguments. -/
theorem final (c : Dev nD) : (dats m 0 c).arrAt 6 cfg0.N
    = Cert.Reference7Ideal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h1 : t.val % 11 = 10 := (flush0_6 t).mp hf
  have h0 : ¬ t.val % 11 = 0 := by omega
  have ht := lt_of_lt_of_eq t.isLt N_0
  blk_simp
  rw [after0_6]
  obtain ⟨r, j, rfl⟩ : ∃ (r : Fin 512) (j : Fin 2048), y = ix2 r j := ⟨y 0, y 1, by funext a; match a with | ⟨0, _⟩ => rfl | ⟨1, _⟩ => rfl⟩
  have hacc := ((isUse m c).next t.val ht (by omega) h0).2
  rw [outsAt0_C m c t h0 h1]; frame_out
  rw [read_unread_whole, read_unread_whole]
  have he : (win0_6.blk t).view.emb (ix2 r j) = ix2 (row t.val ht r) j := by
    blk_ext [idx t, row]
  rw [he, v39_at]
  refine Eq.trans ?_ ((isUse m c).out_at ⟨t.val, ht⟩ h1 r j)
  rw [hacc]; rfl

end Run

end Cert.Proof.Ffn01

end
-- ==== Proof.Ffn10.lean ====
module

public import proofs.«01_k».proof.Proof.Gen.Kernel8Ideal.Value
public import proofs.«01_k».proof.Proof.Gen.Reference8Ideal.Read
public import proofs.«01_k».proof.Proof.FfnPay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn10

open Idealize.ShloMosaic Idealize.ShloMosaic.TcCoe Idealize.SL.Sem

open Cert.Proof.Ffn (nrm hid res row Use)

section Ref
open Cert.Reference8Ideal Cert.Reference8Ideal.Read

variable (x0 : (⟨S16384x2048, .f32⟩ : BufTy).Contents (Elt Ideal)) (x1 x2 : (⟨S2048, .f32⟩ : BufTy).Contents (Elt Ideal))
  (x3 x4 : (⟨S4x2x2048x5632, .f32⟩ : BufTy).Contents (Elt Ideal)) (x5 : (⟨S4x2x5632x2048, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j :=
  Ffn.v12_at x0 x1 i j

/-- The reference's hidden unit `f` of row `i`. -/
theorem v20_at (i : Fin 16384) (f : Fin 5632) :
    val_main_v20 x0 x1 x3 x4 (ix2 i f) = hid (nrm (fun k => x0 (ix2 i k)) (fun k => x1 (ix1 k)))
      (fun k => x3 (ix4 1 0 k f)) (fun k => x4 (ix4 1 0 k f)) := by
  pointwise [val_main_v20, val_main_v19, val_main_v18, val_main_v17, val_main_v16, val_main_v15, val_main_v14, val_main_v13,
    val_main_call0_v5, val_main_call0_v4, val_main_call0_cst_0, val_main_call0_v3, val_main_call0_v2, val_main_call0_cst,
    val_main_call0_v1, val_main_call0_v0, v12_at, hid, Ideal.logistic]

/-- The reference's branch: row `i`'s hidden units through the down projection. -/
theorem v23_at (i : Fin 16384) (j : Fin 2048) :
    val_main_v23 x0 x1 x3 x4 x5 (ix2 i j) = ∑ f : Fin 5632, hid (nrm (fun k => x0 (ix2 i k)) (fun k => x1 (ix1 k)))
      (fun k => x3 (ix4 1 0 k f)) (fun k => x4 (ix4 1 0 k f)) * x5 (ix4 1 0 f j) := by
  pointwise [val_main_v23, val_main_v22, val_main_v21, v20_at]

/-- The reference's result. -/
theorem v39_at (i : Fin 16384) (j : Fin 2048) :
    val_main_v39 x0 x1 x2 x3 x4 x5 (ix2 i j) = res (fun k => x0 (ix2 i k))
      (fun l => ∑ f : Fin 5632, hid (nrm (fun k => x0 (ix2 i k)) (fun k => x1 (ix1 k)))
        (fun k => x3 (ix4 1 0 k f)) (fun k => x4 (ix4 1 0 k f)) * x5 (ix4 1 0 f l)) (fun k => x2 (ix1 k)) j := by
  pointwise [val_main_v39, val_main_v38, val_main_v37, val_main_cst_5, val_main_v36, val_main_v35, val_main_v34, val_main_v33,
    val_main_v32, val_main_v31, val_main_v30, val_main_v29, val_main_cst_4, val_main_v28, val_main_v27, val_main_cst_3,
    val_main_v26, val_main_v25, val_main_cst_2, val_main_v24, v23_at, res, nrm]

end Ref

section Run
open Cert.Kernel8Ideal Cert.Kernel8Ideal.Gen

variable (m : (ℓ : Loc nD τ sig) → Buf (Elt Ideal) ℓ) (ρ : Dev nD → PrngReg)

/-- The windows' block indices at a grid point. -/
theorem idx : ∀ t : Fin cfg0.N, win0_0.index t = ![t.val / 11, 0] ∧ win0_1.index t = ![0, 0] ∧ win0_2.index t = ![0, 0]
    ∧ win0_3.index t = ![1, 0, 0, t.val % 11] ∧ win0_4.index t = ![1, 0, 0, t.val % 11]
    ∧ win0_5.index t = ![1, 0, t.val % 11, 0] ∧ win0_6.index t = ![t.val / 11, 0] :=
  (by decide +kernel : ∀ t : Fin grid0.N, _)

/-- The call is a use: its blocks and its scratch arrays. -/
theorem isUse (c : Dev nD) : Use (fun n h => iblk m c 0 ⟨n, lt_of_lt_of_eq h N_0.symm⟩) (fun n h => iblk m c 1 ⟨n, lt_of_lt_of_eq h N_0.symm⟩)
    (fun n h => iblk m c 2 ⟨n, lt_of_lt_of_eq h N_0.symm⟩) (fun n h => iblk m c 3 ⟨n, lt_of_lt_of_eq h N_0.symm⟩)
    (fun n h => iblk m c 4 ⟨n, lt_of_lt_of_eq h N_0.symm⟩) (fun n h => iblk m c 5 ⟨n, lt_of_lt_of_eq h N_0.symm⟩)
    (fun n h => (outsAt0 m c n (lt_of_lt_of_eq h N_0.symm)).2.1) (fun n h => (outsAt0 m c n (lt_of_lt_of_eq h N_0.symm)).2.2)
    (fun i k => m ((c : Thread nD τ).loc main_arg0) (ix2 i k)) (fun k => m ((c : Thread nD τ).loc main_arg1) (ix1 k))
    (fun k => m ((c : Thread nD τ).loc main_arg2) (ix1 k)) (fun f k => m ((c : Thread nD τ).loc main_arg3) (ix4 1 0 k f))
    (fun f k => m ((c : Thread nD τ).loc main_arg4) (ix4 1 0 k f)) (fun f j => m ((c : Thread nD τ).loc main_arg5) (ix4 1 0 f j)) where
  h0 n h r k := Ffn.blk0_at m c ⟨n, _⟩ r k
  h1 n h k := Ffn.blk1_at m c ⟨n, _⟩ k
  h2 n h k := Ffn.blk2_at m c ⟨n, _⟩ k
  h3 n h k f hl := by have ht := h; blk_point [iblk, idx ⟨n, lt_of_lt_of_eq h N_0.symm⟩]
  h4 n h k f hl := by have ht := h; blk_point [iblk, idx ⟨n, lt_of_lt_of_eq h N_0.symm⟩]
  h5 n h f j hl := by have ht := h; blk_point [iblk, idx ⟨n, lt_of_lt_of_eq h N_0.symm⟩]
  first n h h0 := by
    rw [outsAt0_A m c ⟨n, lt_of_lt_of_eq h N_0.symm⟩ h0 (by show ¬ n % 11 = 10; omega)]
    constructor <;> frame_out <;> rfl
  next n h h' h0 := by
    by_cases h1 : n % 11 = 10
    · rw [outsAt0_C m c ⟨n, lt_of_lt_of_eq h N_0.symm⟩ h0 h1]
      refine ⟨by frame_out; rfl, ?_⟩; frame_out; rw [read_unread_whole, read_unread_whole]; rfl
    · rw [outsAt0_B m c ⟨n, lt_of_lt_of_eq h N_0.symm⟩ h0 h1]
      refine ⟨by frame_out; rfl, ?_⟩; frame_out; rw [read_unread_whole, read_unread_whole]; rfl

/-- The kernel's result array is the reference's value of the arguments. -/
theorem final (c : Dev nD) : (dats m 0 c).arrAt 6 cfg0.N
    = Cert.Reference8Ideal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h1 : t.val % 11 = 10 := (flush0_6 t).mp hf
  have h0 : ¬ t.val % 11 = 0 := by omega
  have ht := lt_of_lt_of_eq t.isLt N_0
  blk_simp
  rw [after0_6]
  obtain ⟨r, j, rfl⟩ : ∃ (r : Fin 512) (j : Fin 2048), y = ix2 r j := ⟨y 0, y 1, by funext a; match a with | ⟨0, _⟩ => rfl | ⟨1, _⟩ => rfl⟩
  have hacc := ((isUse m c).next t.val ht (by omega) h0).2
  rw [outsAt0_C m c t h0 h1]; frame_out
  rw [read_unread_whole, read_unread_whole]
  have he : (win0_6.blk t).view.emb (ix2 r j) = ix2 (row t.val ht r) j := by
    blk_ext [idx t, row]
  rw [he, v39_at]
  refine Eq.trans ?_ ((isUse m c).out_at ⟨t.val, ht⟩ h1 r j)
  rw [hacc]; rfl

end Run

end Cert.Proof.Ffn10

end
-- ==== Proof.Ffn11.lean ====
module

public import proofs.«01_k».proof.Proof.Gen.Kernel9Ideal.Value
public import proofs.«01_k».proof.Proof.Gen.Reference9Ideal.Read
public import proofs.«01_k».proof.Proof.FfnPay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn11

open Idealize.ShloMosaic Idealize.ShloMosaic.TcCoe Idealize.SL.Sem

open Cert.Proof.Ffn (nrm hid res row Use)

section Ref
open Cert.Reference9Ideal Cert.Reference9Ideal.Read

variable (x0 : (⟨S16384x2048, .f32⟩ : BufTy).Contents (Elt Ideal)) (x1 x2 : (⟨S2048, .f32⟩ : BufTy).Contents (Elt Ideal))
  (x3 x4 : (⟨S4x2x2048x5632, .f32⟩ : BufTy).Contents (Elt Ideal)) (x5 : (⟨S4x2x5632x2048, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j :=
  Ffn.v12_at x0 x1 i j

/-- The reference's hidden unit `f` of row `i`. -/
theorem v20_at (i : Fin 16384) (f : Fin 5632) :
    val_main_v20 x0 x1 x3 x4 (ix2 i f) = hid (nrm (fun k => x0 (ix2 i k)) (fun k => x1 (ix1 k)))
      (fun k => x3 (ix4 1 1 k f)) (fun k => x4 (ix4 1 1 k f)) := by
  pointwise [val_main_v20, val_main_v19, val_main_v18, val_main_v17, val_main_v16, val_main_v15, val_main_v14, val_main_v13,
    val_main_call0_v5, val_main_call0_v4, val_main_call0_cst_0, val_main_call0_v3, val_main_call0_v2, val_main_call0_cst,
    val_main_call0_v1, val_main_call0_v0, v12_at, hid, Ideal.logistic]

/-- The reference's branch: row `i`'s hidden units through the down projection. -/
theorem v23_at (i : Fin 16384) (j : Fin 2048) :
    val_main_v23 x0 x1 x3 x4 x5 (ix2 i j) = ∑ f : Fin 5632, hid (nrm (fun k => x0 (ix2 i k)) (fun k => x1 (ix1 k)))
      (fun k => x3 (ix4 1 1 k f)) (fun k => x4 (ix4 1 1 k f)) * x5 (ix4 1 1 f j) := by
  pointwise [val_main_v23, val_main_v22, val_main_v21, v20_at]

/-- The reference's result. -/
theorem v39_at (i : Fin 16384) (j : Fin 2048) :
    val_main_v39 x0 x1 x2 x3 x4 x5 (ix2 i j) = res (fun k => x0 (ix2 i k))
      (fun l => ∑ f : Fin 5632, hid (nrm (fun k => x0 (ix2 i k)) (fun k => x1 (ix1 k)))
        (fun k => x3 (ix4 1 1 k f)) (fun k => x4 (ix4 1 1 k f)) * x5 (ix4 1 1 f l)) (fun k => x2 (ix1 k)) j := by
  pointwise [val_main_v39, val_main_v38, val_main_v37, val_main_cst_5, val_main_v36, val_main_v35, val_main_v34, val_main_v33,
    val_main_v32, val_main_v31, val_main_v30, val_main_v29, val_main_cst_4, val_main_v28, val_main_v27, val_main_cst_3,
    val_main_v26, val_main_v25, val_main_cst_2, val_main_v24, v23_at, res, nrm]

end Ref

section Run
open Cert.Kernel9Ideal Cert.Kernel9Ideal.Gen

variable (m : (ℓ : Loc nD τ sig) → Buf (Elt Ideal) ℓ) (ρ : Dev nD → PrngReg)

/-- The windows' block indices at a grid point. -/
theorem idx : ∀ t : Fin cfg0.N, win0_0.index t = ![t.val / 11, 0] ∧ win0_1.index t = ![0, 0] ∧ win0_2.index t = ![0, 0]
    ∧ win0_3.index t = ![1, 1, 0, t.val % 11] ∧ win0_4.index t = ![1, 1, 0, t.val % 11]
    ∧ win0_5.index t = ![1, 1, t.val % 11, 0] ∧ win0_6.index t = ![t.val / 11, 0] :=
  (by decide +kernel : ∀ t : Fin grid0.N, _)

/-- The call is a use: its blocks and its scratch arrays. -/
theorem isUse (c : Dev nD) : Use (fun n h => iblk m c 0 ⟨n, lt_of_lt_of_eq h N_0.symm⟩) (fun n h => iblk m c 1 ⟨n, lt_of_lt_of_eq h N_0.symm⟩)
    (fun n h => iblk m c 2 ⟨n, lt_of_lt_of_eq h N_0.symm⟩) (fun n h => iblk m c 3 ⟨n, lt_of_lt_of_eq h N_0.symm⟩)
    (fun n h => iblk m c 4 ⟨n, lt_of_lt_of_eq h N_0.symm⟩) (fun n h => iblk m c 5 ⟨n, lt_of_lt_of_eq h N_0.symm⟩)
    (fun n h => (outsAt0 m c n (lt_of_lt_of_eq h N_0.symm)).2.1) (fun n h => (outsAt0 m c n (lt_of_lt_of_eq h N_0.symm)).2.2)
    (fun i k => m ((c : Thread nD τ).loc main_arg0) (ix2 i k)) (fun k => m ((c : Thread nD τ).loc main_arg1) (ix1 k))
    (fun k => m ((c : Thread nD τ).loc main_arg2) (ix1 k)) (fun f k => m ((c : Thread nD τ).loc main_arg3) (ix4 1 1 k f))
    (fun f k => m ((c : Thread nD τ).loc main_arg4) (ix4 1 1 k f)) (fun f j => m ((c : Thread nD τ).loc main_arg5) (ix4 1 1 f j)) where
  h0 n h r k := Ffn.blk0_at m c ⟨n, _⟩ r k
  h1 n h k := Ffn.blk1_at m c ⟨n, _⟩ k
  h2 n h k := Ffn.blk2_at m c ⟨n, _⟩ k
  h3 n h k f hl := by have ht := h; blk_point [iblk, idx ⟨n, lt_of_lt_of_eq h N_0.symm⟩]
  h4 n h k f hl := by have ht := h; blk_point [iblk, idx ⟨n, lt_of_lt_of_eq h N_0.symm⟩]
  h5 n h f j hl := by have ht := h; blk_point [iblk, idx ⟨n, lt_of_lt_of_eq h N_0.symm⟩]
  first n h h0 := by
    rw [outsAt0_A m c ⟨n, lt_of_lt_of_eq h N_0.symm⟩ h0 (by show ¬ n % 11 = 10; omega)]
    constructor <;> frame_out <;> rfl
  next n h h' h0 := by
    by_cases h1 : n % 11 = 10
    · rw [outsAt0_C m c ⟨n, lt_of_lt_of_eq h N_0.symm⟩ h0 h1]
      refine ⟨by frame_out; rfl, ?_⟩; frame_out; rw [read_unread_whole, read_unread_whole]; rfl
    · rw [outsAt0_B m c ⟨n, lt_of_lt_of_eq h N_0.symm⟩ h0 h1]
      refine ⟨by frame_out; rfl, ?_⟩; frame_out; rw [read_unread_whole, read_unread_whole]; rfl

/-- The kernel's result array is the reference's value of the arguments. -/
theorem final (c : Dev nD) : (dats m 0 c).arrAt 6 cfg0.N
    = Cert.Reference9Ideal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h1 : t.val % 11 = 10 := (flush0_6 t).mp hf
  have h0 : ¬ t.val % 11 = 0 := by omega
  have ht := lt_of_lt_of_eq t.isLt N_0
  blk_simp
  rw [after0_6]
  obtain ⟨r, j, rfl⟩ : ∃ (r : Fin 512) (j : Fin 2048), y = ix2 r j := ⟨y 0, y 1, by funext a; match a with | ⟨0, _⟩ => rfl | ⟨1, _⟩ => rfl⟩
  have hacc := ((isUse m c).next t.val ht (by omega) h0).2
  rw [outsAt0_C m c t h0 h1]; frame_out
  rw [read_unread_whole, read_unread_whole]
  have he : (win0_6.blk t).view.emb (ix2 r j) = ix2 (row t.val ht r) j := by
    blk_ext [idx t, row]
  rw [he, v39_at]
  refine Eq.trans ?_ ((isUse m c).out_at ⟨t.val, ht⟩ h1 r j)
  rw [hacc]; rfl

end Run

end Cert.Proof.Ffn11

end
-- ==== Proof.Ffn20.lean ====
module

public import proofs.«01_k».proof.Proof.Gen.Kernel10Ideal.Value
public import proofs.«01_k».proof.Proof.Gen.Reference10Ideal.Read
public import proofs.«01_k».proof.Proof.FfnPay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn20

open Idealize.ShloMosaic Idealize.ShloMosaic.TcCoe Idealize.SL.Sem

open Cert.Proof.Ffn (nrm hid res row Use)

section Ref
open Cert.Reference10Ideal Cert.Reference10Ideal.Read

variable (x0 : (⟨S16384x2048, .f32⟩ : BufTy).Contents (Elt Ideal)) (x1 x2 : (⟨S2048, .f32⟩ : BufTy).Contents (Elt Ideal))
  (x3 x4 : (⟨S4x2x2048x5632, .f32⟩ : BufTy).Contents (Elt Ideal)) (x5 : (⟨S4x2x5632x2048, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j :=
  Ffn.v12_at x0 x1 i j

/-- The reference's hidden unit `f` of row `i`. -/
theorem v20_at (i : Fin 16384) (f : Fin 5632) :
    val_main_v20 x0 x1 x3 x4 (ix2 i f) = hid (nrm (fun k => x0 (ix2 i k)) (fun k => x1 (ix1 k)))
      (fun k => x3 (ix4 2 0 k f)) (fun k => x4 (ix4 2 0 k f)) := by
  pointwise [val_main_v20, val_main_v19, val_main_v18, val_main_v17, val_main_v16, val_main_v15, val_main_v14, val_main_v13,
    val_main_call0_v5, val_main_call0_v4, val_main_call0_cst_0, val_main_call0_v3, val_main_call0_v2, val_main_call0_cst,
    val_main_call0_v1, val_main_call0_v0, v12_at, hid, Ideal.logistic]

/-- The reference's branch: row `i`'s hidden units through the down projection. -/
theorem v23_at (i : Fin 16384) (j : Fin 2048) :
    val_main_v23 x0 x1 x3 x4 x5 (ix2 i j) = ∑ f : Fin 5632, hid (nrm (fun k => x0 (ix2 i k)) (fun k => x1 (ix1 k)))
      (fun k => x3 (ix4 2 0 k f)) (fun k => x4 (ix4 2 0 k f)) * x5 (ix4 2 0 f j) := by
  pointwise [val_main_v23, val_main_v22, val_main_v21, v20_at]

/-- The reference's result. -/
theorem v39_at (i : Fin 16384) (j : Fin 2048) :
    val_main_v39 x0 x1 x2 x3 x4 x5 (ix2 i j) = res (fun k => x0 (ix2 i k))
      (fun l => ∑ f : Fin 5632, hid (nrm (fun k => x0 (ix2 i k)) (fun k => x1 (ix1 k)))
        (fun k => x3 (ix4 2 0 k f)) (fun k => x4 (ix4 2 0 k f)) * x5 (ix4 2 0 f l)) (fun k => x2 (ix1 k)) j := by
  pointwise [val_main_v39, val_main_v38, val_main_v37, val_main_cst_5, val_main_v36, val_main_v35, val_main_v34, val_main_v33,
    val_main_v32, val_main_v31, val_main_v30, val_main_v29, val_main_cst_4, val_main_v28, val_main_v27, val_main_cst_3,
    val_main_v26, val_main_v25, val_main_cst_2, val_main_v24, v23_at, res, nrm]

end Ref

section Run
open Cert.Kernel10Ideal Cert.Kernel10Ideal.Gen

variable (m : (ℓ : Loc nD τ sig) → Buf (Elt Ideal) ℓ) (ρ : Dev nD → PrngReg)

/-- The windows' block indices at a grid point. -/
theorem idx : ∀ t : Fin cfg0.N, win0_0.index t = ![t.val / 11, 0] ∧ win0_1.index t = ![0, 0] ∧ win0_2.index t = ![0, 0]
    ∧ win0_3.index t = ![2, 0, 0, t.val % 11] ∧ win0_4.index t = ![2, 0, 0, t.val % 11]
    ∧ win0_5.index t = ![2, 0, t.val % 11, 0] ∧ win0_6.index t = ![t.val / 11, 0] :=
  (by decide +kernel : ∀ t : Fin grid0.N, _)

/-- The call is a use: its blocks and its scratch arrays. -/
theorem isUse (c : Dev nD) : Use (fun n h => iblk m c 0 ⟨n, lt_of_lt_of_eq h N_0.symm⟩) (fun n h => iblk m c 1 ⟨n, lt_of_lt_of_eq h N_0.symm⟩)
    (fun n h => iblk m c 2 ⟨n, lt_of_lt_of_eq h N_0.symm⟩) (fun n h => iblk m c 3 ⟨n, lt_of_lt_of_eq h N_0.symm⟩)
    (fun n h => iblk m c 4 ⟨n, lt_of_lt_of_eq h N_0.symm⟩) (fun n h => iblk m c 5 ⟨n, lt_of_lt_of_eq h N_0.symm⟩)
    (fun n h => (outsAt0 m c n (lt_of_lt_of_eq h N_0.symm)).2.1) (fun n h => (outsAt0 m c n (lt_of_lt_of_eq h N_0.symm)).2.2)
    (fun i k => m ((c : Thread nD τ).loc main_arg0) (ix2 i k)) (fun k => m ((c : Thread nD τ).loc main_arg1) (ix1 k))
    (fun k => m ((c : Thread nD τ).loc main_arg2) (ix1 k)) (fun f k => m ((c : Thread nD τ).loc main_arg3) (ix4 2 0 k f))
    (fun f k => m ((c : Thread nD τ).loc main_arg4) (ix4 2 0 k f)) (fun f j => m ((c : Thread nD τ).loc main_arg5) (ix4 2 0 f j)) where
  h0 n h r k := Ffn.blk0_at m c ⟨n, _⟩ r k
  h1 n h k := Ffn.blk1_at m c ⟨n, _⟩ k
  h2 n h k := Ffn.blk2_at m c ⟨n, _⟩ k
  h3 n h k f hl := by have ht := h; blk_point [iblk, idx ⟨n, lt_of_lt_of_eq h N_0.symm⟩]
  h4 n h k f hl := by have ht := h; blk_point [iblk, idx ⟨n, lt_of_lt_of_eq h N_0.symm⟩]
  h5 n h f j hl := by have ht := h; blk_point [iblk, idx ⟨n, lt_of_lt_of_eq h N_0.symm⟩]
  first n h h0 := by
    rw [outsAt0_A m c ⟨n, lt_of_lt_of_eq h N_0.symm⟩ h0 (by show ¬ n % 11 = 10; omega)]
    constructor <;> frame_out <;> rfl
  next n h h' h0 := by
    by_cases h1 : n % 11 = 10
    · rw [outsAt0_C m c ⟨n, lt_of_lt_of_eq h N_0.symm⟩ h0 h1]
      refine ⟨by frame_out; rfl, ?_⟩; frame_out; rw [read_unread_whole, read_unread_whole]; rfl
    · rw [outsAt0_B m c ⟨n, lt_of_lt_of_eq h N_0.symm⟩ h0 h1]
      refine ⟨by frame_out; rfl, ?_⟩; frame_out; rw [read_unread_whole, read_unread_whole]; rfl

/-- The kernel's result array is the reference's value of the arguments. -/
theorem final (c : Dev nD) : (dats m 0 c).arrAt 6 cfg0.N
    = Cert.Reference10Ideal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h1 : t.val % 11 = 10 := (flush0_6 t).mp hf
  have h0 : ¬ t.val % 11 = 0 := by omega
  have ht := lt_of_lt_of_eq t.isLt N_0
  blk_simp
  rw [after0_6]
  obtain ⟨r, j, rfl⟩ : ∃ (r : Fin 512) (j : Fin 2048), y = ix2 r j := ⟨y 0, y 1, by funext a; match a with | ⟨0, _⟩ => rfl | ⟨1, _⟩ => rfl⟩
  have hacc := ((isUse m c).next t.val ht (by omega) h0).2
  rw [outsAt0_C m c t h0 h1]; frame_out
  rw [read_unread_whole, read_unread_whole]
  have he : (win0_6.blk t).view.emb (ix2 r j) = ix2 (row t.val ht r) j := by
    blk_ext [idx t, row]
  rw [he, v39_at]
  refine Eq.trans ?_ ((isUse m c).out_at ⟨t.val, ht⟩ h1 r j)
  rw [hacc]; rfl

end Run

end Cert.Proof.Ffn20

end
-- ==== Proof.Ffn21.lean ====
module

public import proofs.«01_k».proof.Proof.Gen.Kernel11Ideal.Value
public import proofs.«01_k».proof.Proof.Gen.Reference11Ideal.Read
public import proofs.«01_k».proof.Proof.FfnPay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn21

open Idealize.ShloMosaic Idealize.ShloMosaic.TcCoe Idealize.SL.Sem

open Cert.Proof.Ffn (nrm hid res row Use)

section Ref
open Cert.Reference11Ideal Cert.Reference11Ideal.Read

variable (x0 : (⟨S16384x2048, .f32⟩ : BufTy).Contents (Elt Ideal)) (x1 x2 : (⟨S2048, .f32⟩ : BufTy).Contents (Elt Ideal))
  (x3 x4 : (⟨S4x2x2048x5632, .f32⟩ : BufTy).Contents (Elt Ideal)) (x5 : (⟨S4x2x5632x2048, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j :=
  Ffn.v12_at x0 x1 i j

/-- The reference's hidden unit `f` of row `i`. -/
theorem v20_at (i : Fin 16384) (f : Fin 5632) :
    val_main_v20 x0 x1 x3 x4 (ix2 i f) = hid (nrm (fun k => x0 (ix2 i k)) (fun k => x1 (ix1 k)))
      (fun k => x3 (ix4 2 1 k f)) (fun k => x4 (ix4 2 1 k f)) := by
  pointwise [val_main_v20, val_main_v19, val_main_v18, val_main_v17, val_main_v16, val_main_v15, val_main_v14, val_main_v13,
    val_main_call0_v5, val_main_call0_v4, val_main_call0_cst_0, val_main_call0_v3, val_main_call0_v2, val_main_call0_cst,
    val_main_call0_v1, val_main_call0_v0, v12_at, hid, Ideal.logistic]

/-- The reference's branch: row `i`'s hidden units through the down projection. -/
theorem v23_at (i : Fin 16384) (j : Fin 2048) :
    val_main_v23 x0 x1 x3 x4 x5 (ix2 i j) = ∑ f : Fin 5632, hid (nrm (fun k => x0 (ix2 i k)) (fun k => x1 (ix1 k)))
      (fun k => x3 (ix4 2 1 k f)) (fun k => x4 (ix4 2 1 k f)) * x5 (ix4 2 1 f j) := by
  pointwise [val_main_v23, val_main_v22, val_main_v21, v20_at]

/-- The reference's result. -/
theorem v39_at (i : Fin 16384) (j : Fin 2048) :
    val_main_v39 x0 x1 x2 x3 x4 x5 (ix2 i j) = res (fun k => x0 (ix2 i k))
      (fun l => ∑ f : Fin 5632, hid (nrm (fun k => x0 (ix2 i k)) (fun k => x1 (ix1 k)))
        (fun k => x3 (ix4 2 1 k f)) (fun k => x4 (ix4 2 1 k f)) * x5 (ix4 2 1 f l)) (fun k => x2 (ix1 k)) j := by
  pointwise [val_main_v39, val_main_v38, val_main_v37, val_main_cst_5, val_main_v36, val_main_v35, val_main_v34, val_main_v33,
    val_main_v32, val_main_v31, val_main_v30, val_main_v29, val_main_cst_4, val_main_v28, val_main_v27, val_main_cst_3,
    val_main_v26, val_main_v25, val_main_cst_2, val_main_v24, v23_at, res, nrm]

end Ref

section Run
open Cert.Kernel11Ideal Cert.Kernel11Ideal.Gen

variable (m : (ℓ : Loc nD τ sig) → Buf (Elt Ideal) ℓ) (ρ : Dev nD → PrngReg)

/-- The windows' block indices at a grid point. -/
theorem idx : ∀ t : Fin cfg0.N, win0_0.index t = ![t.val / 11, 0] ∧ win0_1.index t = ![0, 0] ∧ win0_2.index t = ![0, 0]
    ∧ win0_3.index t = ![2, 1, 0, t.val % 11] ∧ win0_4.index t = ![2, 1, 0, t.val % 11]
    ∧ win0_5.index t = ![2, 1, t.val % 11, 0] ∧ win0_6.index t = ![t.val / 11, 0] :=
  (by decide +kernel : ∀ t : Fin grid0.N, _)

/-- The call is a use: its blocks and its scratch arrays. -/
theorem isUse (c : Dev nD) : Use (fun n h => iblk m c 0 ⟨n, lt_of_lt_of_eq h N_0.symm⟩) (fun n h => iblk m c 1 ⟨n, lt_of_lt_of_eq h N_0.symm⟩)
    (fun n h => iblk m c 2 ⟨n, lt_of_lt_of_eq h N_0.symm⟩) (fun n h => iblk m c 3 ⟨n, lt_of_lt_of_eq h N_0.symm⟩)
    (fun n h => iblk m c 4 ⟨n, lt_of_lt_of_eq h N_0.symm⟩) (fun n h => iblk m c 5 ⟨n, lt_of_lt_of_eq h N_0.symm⟩)
    (fun n h => (outsAt0 m c n (lt_of_lt_of_eq h N_0.symm)).2.1) (fun n h => (outsAt0 m c n (lt_of_lt_of_eq h N_0.symm)).2.2)
    (fun i k => m ((c : Thread nD τ).loc main_arg0) (ix2 i k)) (fun k => m ((c : Thread nD τ).loc main_arg1) (ix1 k))
    (fun k => m ((c : Thread nD τ).loc main_arg2) (ix1 k)) (fun f k => m ((c : Thread nD τ).loc main_arg3) (ix4 2 1 k f))
    (fun f k => m ((c : Thread nD τ).loc main_arg4) (ix4 2 1 k f)) (fun f j => m ((c : Thread nD τ).loc main_arg5) (ix4 2 1 f j)) where
  h0 n h r k := Ffn.blk0_at m c ⟨n, _⟩ r k
  h1 n h k := Ffn.blk1_at m c ⟨n, _⟩ k
  h2 n h k := Ffn.blk2_at m c ⟨n, _⟩ k
  h3 n h k f hl := by have ht := h; blk_point [iblk, idx ⟨n, lt_of_lt_of_eq h N_0.symm⟩]
  h4 n h k f hl := by have ht := h; blk_point [iblk, idx ⟨n, lt_of_lt_of_eq h N_0.symm⟩]
  h5 n h f j hl := by have ht := h; blk_point [iblk, idx ⟨n, lt_of_lt_of_eq h N_0.symm⟩]
  first n h h0 := by
    rw [outsAt0_A m c ⟨n, lt_of_lt_of_eq h N_0.symm⟩ h0 (by show ¬ n % 11 = 10; omega)]
    constructor <;> frame_out <;> rfl
  next n h h' h0 := by
    by_cases h1 : n % 11 = 10
    · rw [outsAt0_C m c ⟨n, lt_of_lt_of_eq h N_0.symm⟩ h0 h1]
      refine ⟨by frame_out; rfl, ?_⟩; frame_out; rw [read_unread_whole, read_unread_whole]; rfl
    · rw [outsAt0_B m c ⟨n, lt_of_lt_of_eq h N_0.symm⟩ h0 h1]
      refine ⟨by frame_out; rfl, ?_⟩; frame_out; rw [read_unread_whole, read_unread_whole]; rfl

/-- The kernel's result array is the reference's value of the arguments. -/
theorem final (c : Dev nD) : (dats m 0 c).arrAt 6 cfg0.N
    = Cert.Reference11Ideal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h1 : t.val % 11 = 10 := (flush0_6 t).mp hf
  have h0 : ¬ t.val % 11 = 0 := by omega
  have ht := lt_of_lt_of_eq t.isLt N_0
  blk_simp
  rw [after0_6]
  obtain ⟨r, j, rfl⟩ : ∃ (r : Fin 512) (j : Fin 2048), y = ix2 r j := ⟨y 0, y 1, by funext a; match a with | ⟨0, _⟩ => rfl | ⟨1, _⟩ => rfl⟩
  have hacc := ((isUse m c).next t.val ht (by omega) h0).2
  rw [outsAt0_C m c t h0 h1]; frame_out
  rw [read_unread_whole, read_unread_whole]
  have he : (win0_6.blk t).view.emb (ix2 r j) = ix2 (row t.val ht r) j := by
    blk_ext [idx t, row]
  rw [he, v39_at]
  refine Eq.trans ?_ ((isUse m c).out_at ⟨t.val, ht⟩ h1 r j)
  rw [hacc]; rfl

end Run

end Cert.Proof.Ffn21

end
-- ==== Proof.Ffn30.lean ====
module

public import proofs.«01_k».proof.Proof.Gen.Kernel12Ideal.Value
public import proofs.«01_k».proof.Proof.Gen.Reference12Ideal.Read
public import proofs.«01_k».proof.Proof.FfnPay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn30

open Idealize.ShloMosaic Idealize.ShloMosaic.TcCoe Idealize.SL.Sem

open Cert.Proof.Ffn (nrm hid res row Use)

section Ref
open Cert.Reference12Ideal Cert.Reference12Ideal.Read

variable (x0 : (⟨S16384x2048, .f32⟩ : BufTy).Contents (Elt Ideal)) (x1 x2 : (⟨S2048, .f32⟩ : BufTy).Contents (Elt Ideal))
  (x3 x4 : (⟨S4x2x2048x5632, .f32⟩ : BufTy).Contents (Elt Ideal)) (x5 : (⟨S4x2x5632x2048, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j :=
  Ffn.v12_at x0 x1 i j

/-- The reference's hidden unit `f` of row `i`. -/
theorem v20_at (i : Fin 16384) (f : Fin 5632) :
    val_main_v20 x0 x1 x3 x4 (ix2 i f) = hid (nrm (fun k => x0 (ix2 i k)) (fun k => x1 (ix1 k)))
      (fun k => x3 (ix4 3 0 k f)) (fun k => x4 (ix4 3 0 k f)) := by
  pointwise [val_main_v20, val_main_v19, val_main_v18, val_main_v17, val_main_v16, val_main_v15, val_main_v14, val_main_v13,
    val_main_call0_v5, val_main_call0_v4, val_main_call0_cst_0, val_main_call0_v3, val_main_call0_v2, val_main_call0_cst,
    val_main_call0_v1, val_main_call0_v0, v12_at, hid, Ideal.logistic]

/-- The reference's branch: row `i`'s hidden units through the down projection. -/
theorem v23_at (i : Fin 16384) (j : Fin 2048) :
    val_main_v23 x0 x1 x3 x4 x5 (ix2 i j) = ∑ f : Fin 5632, hid (nrm (fun k => x0 (ix2 i k)) (fun k => x1 (ix1 k)))
      (fun k => x3 (ix4 3 0 k f)) (fun k => x4 (ix4 3 0 k f)) * x5 (ix4 3 0 f j) := by
  pointwise [val_main_v23, val_main_v22, val_main_v21, v20_at]

/-- The reference's result. -/
theorem v39_at (i : Fin 16384) (j : Fin 2048) :
    val_main_v39 x0 x1 x2 x3 x4 x5 (ix2 i j) = res (fun k => x0 (ix2 i k))
      (fun l => ∑ f : Fin 5632, hid (nrm (fun k => x0 (ix2 i k)) (fun k => x1 (ix1 k)))
        (fun k => x3 (ix4 3 0 k f)) (fun k => x4 (ix4 3 0 k f)) * x5 (ix4 3 0 f l)) (fun k => x2 (ix1 k)) j := by
  pointwise [val_main_v39, val_main_v38, val_main_v37, val_main_cst_5, val_main_v36, val_main_v35, val_main_v34, val_main_v33,
    val_main_v32, val_main_v31, val_main_v30, val_main_v29, val_main_cst_4, val_main_v28, val_main_v27, val_main_cst_3,
    val_main_v26, val_main_v25, val_main_cst_2, val_main_v24, v23_at, res, nrm]

end Ref

section Run
open Cert.Kernel12Ideal Cert.Kernel12Ideal.Gen

variable (m : (ℓ : Loc nD τ sig) → Buf (Elt Ideal) ℓ) (ρ : Dev nD → PrngReg)

/-- The windows' block indices at a grid point. -/
theorem idx : ∀ t : Fin cfg0.N, win0_0.index t = ![t.val / 11, 0] ∧ win0_1.index t = ![0, 0] ∧ win0_2.index t = ![0, 0]
    ∧ win0_3.index t = ![3, 0, 0, t.val % 11] ∧ win0_4.index t = ![3, 0, 0, t.val % 11]
    ∧ win0_5.index t = ![3, 0, t.val % 11, 0] ∧ win0_6.index t = ![t.val / 11, 0] :=
  (by decide +kernel : ∀ t : Fin grid0.N, _)

/-- The call is a use: its blocks and its scratch arrays. -/
theorem isUse (c : Dev nD) : Use (fun n h => iblk m c 0 ⟨n, lt_of_lt_of_eq h N_0.symm⟩) (fun n h => iblk m c 1 ⟨n, lt_of_lt_of_eq h N_0.symm⟩)
    (fun n h => iblk m c 2 ⟨n, lt_of_lt_of_eq h N_0.symm⟩) (fun n h => iblk m c 3 ⟨n, lt_of_lt_of_eq h N_0.symm⟩)
    (fun n h => iblk m c 4 ⟨n, lt_of_lt_of_eq h N_0.symm⟩) (fun n h => iblk m c 5 ⟨n, lt_of_lt_of_eq h N_0.symm⟩)
    (fun n h => (outsAt0 m c n (lt_of_lt_of_eq h N_0.symm)).2.1) (fun n h => (outsAt0 m c n (lt_of_lt_of_eq h N_0.symm)).2.2)
    (fun i k => m ((c : Thread nD τ).loc main_arg0) (ix2 i k)) (fun k => m ((c : Thread nD τ).loc main_arg1) (ix1 k))
    (fun k => m ((c : Thread nD τ).loc main_arg2) (ix1 k)) (fun f k => m ((c : Thread nD τ).loc main_arg3) (ix4 3 0 k f))
    (fun f k => m ((c : Thread nD τ).loc main_arg4) (ix4 3 0 k f)) (fun f j => m ((c : Thread nD τ).loc main_arg5) (ix4 3 0 f j)) where
  h0 n h r k := Ffn.blk0_at m c ⟨n, _⟩ r k
  h1 n h k := Ffn.blk1_at m c ⟨n, _⟩ k
  h2 n h k := Ffn.blk2_at m c ⟨n, _⟩ k
  h3 n h k f hl := by have ht := h; blk_point [iblk, idx ⟨n, lt_of_lt_of_eq h N_0.symm⟩]
  h4 n h k f hl := by have ht := h; blk_point [iblk, idx ⟨n, lt_of_lt_of_eq h N_0.symm⟩]
  h5 n h f j hl := by have ht := h; blk_point [iblk, idx ⟨n, lt_of_lt_of_eq h N_0.symm⟩]
  first n h h0 := by
    rw [outsAt0_A m c ⟨n, lt_of_lt_of_eq h N_0.symm⟩ h0 (by show ¬ n % 11 = 10; omega)]
    constructor <;> frame_out <;> rfl
  next n h h' h0 := by
    by_cases h1 : n % 11 = 10
    · rw [outsAt0_C m c ⟨n, lt_of_lt_of_eq h N_0.symm⟩ h0 h1]
      refine ⟨by frame_out; rfl, ?_⟩; frame_out; rw [read_unread_whole, read_unread_whole]; rfl
    · rw [outsAt0_B m c ⟨n, lt_of_lt_of_eq h N_0.symm⟩ h0 h1]
      refine ⟨by frame_out; rfl, ?_⟩; frame_out; rw [read_unread_whole, read_unread_whole]; rfl

/-- The kernel's result array is the reference's value of the arguments. -/
theorem final (c : Dev nD) : (dats m 0 c).arrAt 6 cfg0.N
    = Cert.Reference12Ideal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h1 : t.val % 11 = 10 := (flush0_6 t).mp hf
  have h0 : ¬ t.val % 11 = 0 := by omega
  have ht := lt_of_lt_of_eq t.isLt N_0
  blk_simp
  rw [after0_6]
  obtain ⟨r, j, rfl⟩ : ∃ (r : Fin 512) (j : Fin 2048), y = ix2 r j := ⟨y 0, y 1, by funext a; match a with | ⟨0, _⟩ => rfl | ⟨1, _⟩ => rfl⟩
  have hacc := ((isUse m c).next t.val ht (by omega) h0).2
  rw [outsAt0_C m c t h0 h1]; frame_out
  rw [read_unread_whole, read_unread_whole]
  have he : (win0_6.blk t).view.emb (ix2 r j) = ix2 (row t.val ht r) j := by
    blk_ext [idx t, row]
  rw [he, v39_at]
  refine Eq.trans ?_ ((isUse m c).out_at ⟨t.val, ht⟩ h1 r j)
  rw [hacc]; rfl

end Run

end Cert.Proof.Ffn30

end
-- ==== Proof.Ffn31.lean ====
module

public import proofs.«01_k».proof.Proof.Gen.Kernel13Ideal.Value
public import proofs.«01_k».proof.Proof.Gen.Reference13Ideal.Read
public import proofs.«01_k».proof.Proof.FfnPay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn31

open Idealize.ShloMosaic Idealize.ShloMosaic.TcCoe Idealize.SL.Sem

open Cert.Proof.Ffn (nrm hid res row Use)

section Ref
open Cert.Reference13Ideal Cert.Reference13Ideal.Read

variable (x0 : (⟨S16384x2048, .f32⟩ : BufTy).Contents (Elt Ideal)) (x1 x2 : (⟨S2048, .f32⟩ : BufTy).Contents (Elt Ideal))
  (x3 x4 : (⟨S4x2x2048x5632, .f32⟩ : BufTy).Contents (Elt Ideal)) (x5 : (⟨S4x2x5632x2048, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j :=
  Ffn.v12_at x0 x1 i j

/-- The reference's hidden unit `f` of row `i`. -/
theorem v20_at (i : Fin 16384) (f : Fin 5632) :
    val_main_v20 x0 x1 x3 x4 (ix2 i f) = hid (nrm (fun k => x0 (ix2 i k)) (fun k => x1 (ix1 k)))
      (fun k => x3 (ix4 3 1 k f)) (fun k => x4 (ix4 3 1 k f)) := by
  pointwise [val_main_v20, val_main_v19, val_main_v18, val_main_v17, val_main_v16, val_main_v15, val_main_v14, val_main_v13,
    val_main_call0_v5, val_main_call0_v4, val_main_call0_cst_0, val_main_call0_v3, val_main_call0_v2, val_main_call0_cst,
    val_main_call0_v1, val_main_call0_v0, v12_at, hid, Ideal.logistic]

/-- The reference's branch: row `i`'s hidden units through the down projection. -/
theorem v23_at (i : Fin 16384) (j : Fin 2048) :
    val_main_v23 x0 x1 x3 x4 x5 (ix2 i j) = ∑ f : Fin 5632, hid (nrm (fun k => x0 (ix2 i k)) (fun k => x1 (ix1 k)))
      (fun k => x3 (ix4 3 1 k f)) (fun k => x4 (ix4 3 1 k f)) * x5 (ix4 3 1 f j) := by
  pointwise [val_main_v23, val_main_v22, val_main_v21, v20_at]

/-- The reference's result. -/
theorem v39_at (i : Fin 16384) (j : Fin 2048) :
    val_main_v39 x0 x1 x2 x3 x4 x5 (ix2 i j) = res (fun k => x0 (ix2 i k))
      (fun l => ∑ f : Fin 5632, hid (nrm (fun k => x0 (ix2 i k)) (fun k => x1 (ix1 k)))
        (fun k => x3 (ix4 3 1 k f)) (fun k => x4 (ix4 3 1 k f)) * x5 (ix4 3 1 f l)) (fun k => x2 (ix1 k)) j := by
  pointwise [val_main_v39, val_main_v38, val_main_v37, val_main_cst_5, val_main_v36, val_main_v35, val_main_v34, val_main_v33,
    val_main_v32, val_main_v31, val_main_v30, val_main_v29, val_main_cst_4, val_main_v28, val_main_v27, val_main_cst_3,
    val_main_v26, val_main_v25, val_main_cst_2, val_main_v24, v23_at, res, nrm]

end Ref

section Run
open Cert.Kernel13Ideal Cert.Kernel13Ideal.Gen

variable (m : (ℓ : Loc nD τ sig) → Buf (Elt Ideal) ℓ) (ρ : Dev nD → PrngReg)

/-- The windows' block indices at a grid point. -/
theorem idx : ∀ t : Fin cfg0.N, win0_0.index t = ![t.val / 11, 0] ∧ win0_1.index t = ![0, 0] ∧ win0_2.index t = ![0, 0]
    ∧ win0_3.index t = ![3, 1, 0, t.val % 11] ∧ win0_4.index t = ![3, 1, 0, t.val % 11]
    ∧ win0_5.index t = ![3, 1, t.val % 11, 0] ∧ win0_6.index t = ![t.val / 11, 0] :=
  (by decide +kernel : ∀ t : Fin grid0.N, _)

/-- The call is a use: its blocks and its scratch arrays. -/
theorem isUse (c : Dev nD) : Use (fun n h => iblk m c 0 ⟨n, lt_of_lt_of_eq h N_0.symm⟩) (fun n h => iblk m c 1 ⟨n, lt_of_lt_of_eq h N_0.symm⟩)
    (fun n h => iblk m c 2 ⟨n, lt_of_lt_of_eq h N_0.symm⟩) (fun n h => iblk m c 3 ⟨n, lt_of_lt_of_eq h N_0.symm⟩)
    (fun n h => iblk m c 4 ⟨n, lt_of_lt_of_eq h N_0.symm⟩) (fun n h => iblk m c 5 ⟨n, lt_of_lt_of_eq h N_0.symm⟩)
    (fun n h => (outsAt0 m c n (lt_of_lt_of_eq h N_0.symm)).2.1) (fun n h => (outsAt0 m c n (lt_of_lt_of_eq h N_0.symm)).2.2)
    (fun i k => m ((c : Thread nD τ).loc main_arg0) (ix2 i k)) (fun k => m ((c : Thread nD τ).loc main_arg1) (ix1 k))
    (fun k => m ((c : Thread nD τ).loc main_arg2) (ix1 k)) (fun f k => m ((c : Thread nD τ).loc main_arg3) (ix4 3 1 k f))
    (fun f k => m ((c : Thread nD τ).loc main_arg4) (ix4 3 1 k f)) (fun f j => m ((c : Thread nD τ).loc main_arg5) (ix4 3 1 f j)) where
  h0 n h r k := Ffn.blk0_at m c ⟨n, _⟩ r k
  h1 n h k := Ffn.blk1_at m c ⟨n, _⟩ k
  h2 n h k := Ffn.blk2_at m c ⟨n, _⟩ k
  h3 n h k f hl := by have ht := h; blk_point [iblk, idx ⟨n, lt_of_lt_of_eq h N_0.symm⟩]
  h4 n h k f hl := by have ht := h; blk_point [iblk, idx ⟨n, lt_of_lt_of_eq h N_0.symm⟩]
  h5 n h f j hl := by have ht := h; blk_point [iblk, idx ⟨n, lt_of_lt_of_eq h N_0.symm⟩]
  first n h h0 := by
    rw [outsAt0_A m c ⟨n, lt_of_lt_of_eq h N_0.symm⟩ h0 (by show ¬ n % 11 = 10; omega)]
    constructor <;> frame_out <;> rfl
  next n h h' h0 := by
    by_cases h1 : n % 11 = 10
    · rw [outsAt0_C m c ⟨n, lt_of_lt_of_eq h N_0.symm⟩ h0 h1]
      refine ⟨by frame_out; rfl, ?_⟩; frame_out; rw [read_unread_whole, read_unread_whole]; rfl
    · rw [outsAt0_B m c ⟨n, lt_of_lt_of_eq h N_0.symm⟩ h0 h1]
      refine ⟨by frame_out; rfl, ?_⟩; frame_out; rw [read_unread_whole, read_unread_whole]; rfl

/-- The kernel's result array is the reference's value of the arguments. -/
theorem final (c : Dev nD) : (dats m 0 c).arrAt 6 cfg0.N
    = Cert.Reference13Ideal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h1 : t.val % 11 = 10 := (flush0_6 t).mp hf
  have h0 : ¬ t.val % 11 = 0 := by omega
  have ht := lt_of_lt_of_eq t.isLt N_0
  blk_simp
  rw [after0_6]
  obtain ⟨r, j, rfl⟩ : ∃ (r : Fin 512) (j : Fin 2048), y = ix2 r j := ⟨y 0, y 1, by funext a; match a with | ⟨0, _⟩ => rfl | ⟨1, _⟩ => rfl⟩
  have hacc := ((isUse m c).next t.val ht (by omega) h0).2
  rw [outsAt0_C m c t h0 h1]; frame_out
  rw [read_unread_whole, read_unread_whole]
  have he : (win0_6.blk t).view.emb (ix2 r j) = ix2 (row t.val ht r) j := by
    blk_ext [idx t, row]
  rw [he, v39_at]
  refine Eq.trans ?_ ((isUse m c).out_at ⟨t.val, ht⟩ h1 r j)
  rw [hacc]; rfl

end Run

end Cert.Proof.Ffn31

end
-- ==== Proof.OutPay.lean ====
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.OutProj

open Idealize.ShloMosaic Idealize.ShloMosaic.TcCoe Idealize.SL.Sem

/-- The residual step: the row plus the RMS norm of the branch `f`, scaled by the gains `g`. -/
def res (h f g : Fin 2048 → EReal) (j : Fin 2048) : EReal :=
  h j + f j * Ideal.rsqrt (Ideal.div (∑ k, f k * f k) (Ideal.ofBits FTy.f32 1157627904#32) + Ideal.ofBits FTy.f32 897988541#32) * g j

section Kern
open Cert.Kernel3Ideal Cert.Kernel3Ideal.Gen

/-- The kernel's payload: the two parts' products with their rows of the weights, added, normed, and added to the row. -/
theorem pay1_at (a : Vec Ideal S256x1024 .f32) (wa : Vec Ideal S1024x2048 .bf16) (b : Vec Ideal S256x2048 .f32)
    (wb : Vec Ideal S2048x2048 .bf16) (h : Vec Ideal S256x2048 .f32) (g : Vec Ideal S1x2048 .f32) (r : Fin 256) (j : Fin 2048) :
    k0_pay1 a wa b wb h g (ix2 r j) = res (fun k => h (ix2 r k))
      (fun l => ∑ k : Fin 1024, a (ix2 r k) * wa (ix2 k l) + ∑ k : Fin 2048, b (ix2 r k) * wb (ix2 k l))
      (fun k => g (ix2 0 k)) j := by
  pointwise [k0_pay1, res]

end Kern

section Ref
open Cert.Reference3Ideal Cert.Reference3Ideal.Read

variable (x0 : (⟨S16384x1024, .f32⟩ : BufTy).Contents (Elt Ideal)) (x1 : (⟨S16384x2048, .f32⟩ : BufTy).Contents (Elt Ideal))
  (x2 : (⟨S3072x2048, .f32⟩ : BufTy).Contents (Elt Ideal)) (x3 : (⟨S16384x2048, .f32⟩ : BufTy).Contents (Elt Ideal))
  (x4 : (⟨S2048, .f32⟩ : BufTy).Contents (Elt Ideal))

/-- The first 1024 columns of the joined row are the first part's. -/
theorem v0_left (i : Fin 16384) (k : Fin 1024) : val_main_v0 x0 x1 (ix2 i ⟨k.val, by omega⟩) = x0 (ix2 i k) := by
  have hk := k.isLt
  pointwise [val_main_v0]

/-- The other 2048 columns of the joined row are the second part's. -/
theorem v0_right (i : Fin 16384) (k : Fin 2048) : val_main_v0 x0 x1 (ix2 i ⟨1024 + k.val, by omega⟩) = x1 (ix2 i k) := by
  have hk := k.isLt
  pointwise [val_main_v0]

/-- The reference's product, part by part. -/
theorem v1_at (i : Fin 16384) (j : Fin 2048) : val_main_v1 x0 x1 x2 (ix2 i j)
    = ∑ k : Fin 1024, x0 (ix2 i k) * x2 (ix2 ⟨k.val, by omega⟩ j)
      + ∑ k : Fin 2048, x1 (ix2 i k) * x2 (ix2 ⟨1024 + k.val, by omega⟩ j) := by
  have h : val_main_v1 x0 x1 x2 (ix2 i j) = ∑ k : Fin 3072, val_main_v0 x0 x1 (ix2 i k) * x2 (ix2 k j) := by
    pointwise [val_main_v1]
  rw [h]
  refine (Fin.sum_univ_add (a := 1024) (b := 2048) (fun k : Fin 3072 => val_main_v0 x0 x1 (ix2 i k) * x2 (ix2 k j))).trans ?_
  exact congrArg₂ (· + ·) (Finset.sum_congr rfl fun k _ => congrArg (· * _) (v0_left x0 x1 i k))
    (Finset.sum_congr rfl fun k _ => congrArg (· * _) (v0_right x0 x1 i k))

/-- The reference's result. -/
theorem v15_at (i : Fin 16384) (j : Fin 2048) :
    val_main_v15 x0 x1 x2 x3 x4 (ix2 i j) = res (fun k => x3 (ix2 i k))
      (fun l => ∑ k : Fin 1024, x0 (ix2 i k) * x2 (ix2 ⟨k.val, by omega⟩ l)
        + ∑ k : Fin 2048, x1 (ix2 i k) * x2 (ix2 ⟨1024 + k.val, by omega⟩ l)) (fun k => x4 (ix1 k)) j := by
  pointwise [val_main_v15, val_main_v14, val_main_v13, val_main_v12, val_main_v11, val_main_v10, val_main_v9, val_main_v8,
    val_main_v7, val_main_cst_1, val_main_v6, val_main_v5, val_main_cst_0, val_main_v4, val_main_v3, val_main_cst, val_main_v2,
    v1_at, res]

end Ref

section Run
open Cert.Kernel3Ideal Cert.Kernel3Ideal.Gen

variable (m : (ℓ : Loc nD τ sig) → Buf (Elt Ideal) ℓ)

/-- The windows' block indices at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0] :=
  (by decide +kernel : ∀ t : Fin grid0.N, _)

/-- The row that point `t` holds at place `r`. -/
def row (t : ℕ) (ht : t < 64) (r : Fin 256) : Fin 16384 := ⟨t * 256 + r.val, by omega⟩

/-- Window 0 holds 256 rows of the first part. -/
theorem blk0_at (c : Dev nD) (t : Fin cfg0.N) (r : Fin 256) (k : Fin 1024) :
    iblk m c 0 t (ix2 r k) = m ((c : Thread nD τ).loc main_arg0) (ix2 (row t.val (lt_of_lt_of_eq t.isLt N_0) r) k) := by
  have ht := lt_of_lt_of_eq t.isLt N_0
  blk_ext [iblk, V, idx t, row]

/-- Window 1 holds 256 rows of the second part. -/
theorem blk1_at (c : Dev nD) (t : Fin cfg0.N) (r : Fin 256) (k : Fin 2048) :
    iblk m c 1 t (ix2 r k) = m ((c : Thread nD τ).loc main_arg1) (ix2 (row t.val (lt_of_lt_of_eq t.isLt N_0) r) k) := by
  have ht := lt_of_lt_of_eq t.isLt N_0
  blk_ext [iblk, V, idx t, row]

/-- Window 2 holds the first 1024 rows of the weights. -/
theorem blk2_at (c : Dev nD) (t : Fin cfg0.N) (k : Fin 1024) (j : Fin 2048) :
    iblk m c 2 t (ix2 k j) = m ((c : Thread nD τ).loc main_arg2) (ix2 ⟨k.val, by omega⟩ j) := by
  have ht := lt_of_lt_of_eq t.isLt N_0
  blk_point [iblk, idx t]

/-- Window 3 holds the other 2048 rows of the weights. -/
theorem blk3_at (c : Dev nD) (t : Fin cfg0.N) (k : Fin 2048) (j : Fin 2048) :
    iblk m c 3 t (ix2 k j) = m ((c : Thread nD τ).loc main_arg2) (ix2 ⟨1024 + k.val, by omega⟩ j) := by
  have ht := lt_of_lt_of_eq t.isLt N_0
  blk_point [iblk, idx t]

/-- Window 4 holds 256 rows of the residual stream. -/
theorem blk4_at (c : Dev nD) (t : Fin cfg0.N) (r : Fin 256) (k : Fin 2048) :
    iblk m c 4 t (ix2 r k) = m ((c : Thread nD τ).loc main_arg3) (ix2 (row t.val (lt_of_lt_of_eq t.isLt N_0) r) k) := by
  have ht := lt_of_lt_of_eq t.isLt N_0
  blk_ext [iblk, V, idx t, row]

/-- Window 5 holds the norm's gains. -/
theorem blk5_at (c : Dev nD) (t : Fin cfg0.N) (k : Fin 2048) :
    iblk m c 5 t (ix2 0 k) = m ((c : Thread nD τ).loc main_arg4) (ix1 k) := by
  have ht := lt_of_lt_of_eq t.isLt N_0
  blk_point [iblk, idx t]

/-- The kernel's result array is the reference's value of the arguments. -/
theorem final (c : Dev nD) : (dats m 0 c).arrAt 6 cfg0.N
    = Cert.Reference3Ideal.Read.val_main_v15 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := lt_of_lt_of_eq t.isLt N_0
  blk_simp
  rw [after0_6]
  obtain ⟨r, j, rfl⟩ : ∃ (r : Fin 256) (j : Fin 2048), y = ix2 r j := ⟨y 0, y 1, by funext a; match a with | ⟨0, _⟩ => rfl | ⟨1, _⟩ => rfl⟩
  have he : (win0_6.blk t).view.emb (ix2 r j) = ix2 (row t.val ht r) j := by
    blk_ext [idx t, row]
  rw [he, v15_at]
  frame_out
  rw [pay1_at]
  simp only [blk0_at, blk1_at, blk2_at, blk3_at, blk4_at, blk5_at]

end Run

end Cert.Proof.OutProj

end
-- ==== Proof.ProjPay.lean ====
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.Proj

open Idealize.ShloMosaic Idealize.ShloMosaic.TcCoe Idealize.SL.Sem

/-- The RMS norm of one row of 2048 numbers, scaled by the gains `g`. -/
def nrm (x g : Fin 2048 → EReal) (j : Fin 2048) : EReal :=
  x j * Ideal.rsqrt (Ideal.div (∑ k, x k * x k) (Ideal.ofBits FTy.f32 1157627904#32) + Ideal.ofBits FTy.f32 897988541#32) * g j

section Kern
open Cert.Kernel4Ideal Cert.Kernel4Ideal.Gen

/-- The kernel's first payload is the row's RMS norm. -/
theorem pay1_at (x : Vec Ideal S1024x2048 .f32) (g : Vec Ideal S1x2048 .f32) (r : Fin 1024) (j : Fin 2048) :
    k0_pay1 x g (ix2 r j) = nrm (fun k => x (ix2 r k)) (fun k => g (ix2 0 k)) j := by
  pointwise [k0_pay1, nrm]

/-- The second payload is the product with the block of weights. -/
theorem pay2_at (xn : Vec Ideal S1024x2048 .bf16) (w : Vec Ideal S2048x1024 .bf16) (r : Fin 1024) (j : Fin 1024) :
    k0_pay2 xn w (ix2 r j) = ∑ k : Fin 2048, xn (ix2 r k) * w (ix2 k j) := by
  pointwise [k0_pay2]

end Kern

section Ref
open Cert.Reference4Ideal Cert.Reference4Ideal.Read

variable (x0 : (⟨S16384x2048, .f32⟩ : BufTy).Contents (Elt Ideal)) (x1 : (⟨S2048, .f32⟩ : BufTy).Contents (Elt Ideal))
  (x2 : (⟨S2048x8192, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrm]

/-- The reference's result: the normed row through the weights. -/
theorem v13_at (i : Fin 16384) (j : Fin 8192) :
    val_main_v13 x0 x1 x2 (ix2 i j)
      = ∑ k : Fin 2048, nrm (fun k => x0 (ix2 i k)) (fun k => x1 (ix1 k)) k * x2 (ix2 k j) := by
  pointwise [val_main_v13, v12_at]

end Ref

section Run
open Cert.Kernel4Ideal Cert.Kernel4Ideal.Gen

variable (m : (ℓ : Loc nD τ sig) → Buf (Elt Ideal) ℓ)

/-- The windows' block indices at a grid point. -/
theorem idx : ∀ t : Fin cfg0.N, win0_0.index t = ![t.val / 8, 0] ∧ win0_1.index t = ![0, 0] ∧ win0_2.index t = ![0, t.val % 8]
    ∧ win0_3.index t = ![t.val / 8, t.val % 8] :=
  (by decide +kernel : ∀ t : Fin grid0.N, _)

/-- The row that point `t` holds at place `r`. -/
def row (t : ℕ) (ht : t < 128) (r : Fin 1024) : Fin 16384 := ⟨t / 8 * 1024 + r.val, by omega⟩

/-- The column that point `t` holds at place `j`. -/
def col (t : ℕ) (j : Fin 1024) : Fin 8192 := ⟨t % 8 * 1024 + j.val, by omega⟩

/-- Window 0 holds 1024 rows of the argument. -/
theorem blk0_at (c : Dev nD) (t : Fin cfg0.N) (r : Fin 1024) (k : Fin 2048) :
    iblk m c 0 t (ix2 r k) = m ((c : Thread nD τ).loc main_arg0) (ix2 (row t.val (lt_of_lt_of_eq t.isLt N_0) r) k) := by
  have ht := lt_of_lt_of_eq t.isLt N_0
  blk_ext [iblk, V, idx t, row]

/-- Window 1 holds the norm's gains. -/
theorem blk1_at (c : Dev nD) (t : Fin cfg0.N) (k : Fin 2048) :
    iblk m c 1 t (ix2 0 k) = m ((c : Thread nD τ).loc main_arg1) (ix1 k) := by
  have ht := lt_of_lt_of_eq t.isLt N_0
  blk_point [iblk, idx t]

/-- Window 2 holds 1024 columns of the weights. -/
theorem blk2_at (c : Dev nD) (t : Fin cfg0.N) (k : Fin 2048) (j : Fin 1024) :
    iblk m c 2 t (ix2 k j) = m ((c : Thread nD τ).loc main_arg2) (ix2 k (col t.val j)) := by
  have ht := lt_of_lt_of_eq t.isLt N_0
  blk_point [iblk, idx t, col]

/-- The normed row `i` of the argument. -/
def xn (c : Dev nD) (i : Fin 16384) : Fin 2048 → EReal :=
  nrm (fun k => m ((c : Thread nD τ).loc main_arg0) (ix2 i k)) (fun k => m ((c : Thread nD τ).loc main_arg1) (ix1 k))

/-- After every point the scratch holds the normed rows of the point's block. -/
theorem xn_at (c : Dev nD) (n : ℕ) (hn : n < cfg0.N) (r : Fin 1024) (k : Fin 2048) :
    (outsAt0 m c n hn).2 (ix2 r k) = xn m c (row n (lt_of_lt_of_eq hn N_0) r) k := by
  induction n with
  | zero =>
    rw [outsAt0_A m c ⟨0, hn⟩ rfl]; frame_out
    rw [pay1_at]; simp only [blk0_at, blk1_at]; rfl
  | succ n ih =>
    have h128 := lt_of_lt_of_eq hn N_0
    by_cases h0 : (n + 1) % 8 = 0
    · rw [outsAt0_A m c ⟨n + 1, hn⟩ h0]; frame_out
      rw [pay1_at]; simp only [blk0_at, blk1_at]; rfl
    · have hr : row (n + 1) h128 r = row n (by omega) r := Fin.ext (by show (n + 1) / 8 * 1024 + r.val = n / 8 * 1024 + r.val; omega)
      rw [hr, ← ih (by omega), outsAt0_B m c ⟨n + 1, hn⟩ h0]; frame_out; rfl

/-- At every point the output's block is the normed rows through the point's columns. -/
theorem out_at (c : Dev nD) (t : Fin cfg0.N) (r : Fin 1024) (j : Fin 1024) :
    (outsAt0 m c t.val t.isLt).1 (ix2 r j) = ∑ k : Fin 2048,
      xn m c (row t.val (lt_of_lt_of_eq t.isLt N_0) r) k * m ((c : Thread nD τ).loc main_arg2) (ix2 k (col t.val j)) := by
  have ht := lt_of_lt_of_eq t.isLt N_0
  by_cases h0 : t.val % 8 = 0
  · rw [outsAt0_A m c t h0]; frame_out
    rw [pay2_at]; simp only [blk2_at, pay1_at, blk0_at, blk1_at]; rfl
  · rw [outsAt0_B m c t h0]; frame_out
    rw [read_unread_whole, pay2_at]
    simp only [blk2_at, xn_at]
    have hr : row (t.val - 1) (by omega) r = row t.val ht r := Fin.ext (by show (t.val - 1) / 8 * 1024 + r.val = t.val / 8 * 1024 + r.val; omega)
    rw [hr]

/-- The kernel's result array is the reference's value of the arguments. -/
theorem final (c : Dev nD) : (dats m 0 c).arrAt 3 cfg0.N
    = Cert.Reference4Ideal.Read.val_main_v13 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht := lt_of_lt_of_eq t.isLt N_0
  blk_simp
  rw [after0_3]
  obtain ⟨r, j, rfl⟩ : ∃ (r : Fin 1024) (j : Fin 1024), y = ix2 r j := ⟨y 0, y 1, by funext a; match a with | ⟨0, _⟩ => rfl | ⟨1, _⟩ => rfl⟩
  have he : (win0_3.blk t).view.emb (ix2 r j) = ix2 (row t.val ht r) (col t.val j) := by
    blk_ext [idx t, row, col]
  rw [he, v13_at, out_at]
  rfl

end Run

end Cert.Proof.Proj

end
-- ==== Proof.ProjEvenPay.lean ====
module

public import proofs.«01_k».proof.Proof.Gen.Kernel5Ideal.Value
public import proofs.«01_k».proof.Proof.Gen.Reference5Ideal.Read
public import proofs.«01_k».proof.Proof.ProjPay
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.ProjEven

open Idealize.ShloMosaic Idealize.ShloMosaic.TcCoe Idealize.SL.Sem

open Cert.Proof.Proj (nrm)

section Kern
open Cert.Kernel5Ideal Cert.Kernel5Ideal.Gen

/-- The kernel's first payload is the row's RMS norm. -/
theorem pay1_at (x : Vec Ideal S1024x2048 .f32) (g : Vec Ideal S1x2048 .f32) (r : Fin 1024) (j : Fin 2048) :
    k0_pay1 x g (ix2 r j) = nrm (fun k => x (ix2 r k)) (fun k => g (ix2 0 k)) j := by
  pointwise [k0_pay1, nrm]

/-- The second payload is the product with the block of weights. -/
theorem pay2_at (xn : Vec Ideal S1024x2048 .bf16) (w : Vec Ideal S2048x1024 .bf16) (r : Fin 1024) (j : Fin 1024) :
    k0_pay2 xn w (ix2 r j) = ∑ k : Fin 2048, xn (ix2 r k) * w (ix2 k j) := by
  pointwise [k0_pay2]

end Kern

section Ref
open Cert.Reference5Ideal Cert.Reference5Ideal.Read

variable (x0 : (⟨S16384x2048, .f32⟩ : BufTy).Contents (Elt Ideal)) (x1 : (⟨S2048, .f32⟩ : BufTy).Contents (Elt Ideal))
  (x2 : (⟨S2048x7168, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrm]

/-- The reference's result: the normed row through the weights. -/
theorem v13_at (i : Fin 16384) (j : Fin 7168) :
    val_main_v13 x0 x1 x2 (ix2 i j)
      = ∑ k : Fin 2048, nrm (fun k => x0 (ix2 i k)) (fun k => x1 (ix1 k)) k * x2 (ix2 k j) := by
  pointwise [val_main_v13, v12_at]

end Ref

section Run
open Cert.Kernel5Ideal Cert.Kernel5Ideal.Gen

variable (m : (ℓ : Loc nD τ sig) → Buf (Elt Ideal) ℓ)

/-- The windows' block indices at a grid point. -/
theorem idx : ∀ t : Fin cfg0.N, win0_0.index t = ![t.val / 7, 0] ∧ win0_1.index t = ![0, 0] ∧ win0_2.index t = ![0, t.val % 7]
    ∧ win0_3.index t = ![t.val / 7, t.val % 7] :=
  (by decide +kernel : ∀ t : Fin grid0.N, _)

/-- The row that point `t` holds at place `r`. -/
def row (t : ℕ) (ht : t < 112) (r : Fin 1024) : Fin 16384 := ⟨t / 7 * 1024 + r.val, by omega⟩

/-- The column that point `t` holds at place `j`. -/
def col (t : ℕ) (j : Fin 1024) : Fin 7168 := ⟨t % 7 * 1024 + j.val, by omega⟩

/-- Window 0 holds 1024 rows of the argument. -/
theorem blk0_at (c : Dev nD) (t : Fin cfg0.N) (r : Fin 1024) (k : Fin 2048) :
    iblk m c 0 t (ix2 r k) = m ((c : Thread nD τ).loc main_arg0) (ix2 (row t.val (lt_of_lt_of_eq t.isLt N_0) r) k) := by
  have ht := lt_of_lt_of_eq t.isLt N_0
  blk_ext [iblk, V, idx t, row]

/-- Window 1 holds the norm's gains. -/
theorem blk1_at (c : Dev nD) (t : Fin cfg0.N) (k : Fin 2048) :
    iblk m c 1 t (ix2 0 k) = m ((c : Thread nD τ).loc main_arg1) (ix1 k) := by
  have ht := lt_of_lt_of_eq t.isLt N_0
  blk_point [iblk, idx t]

/-- Window 2 holds 1024 columns of the weights. -/
theorem blk2_at (c : Dev nD) (t : Fin cfg0.N) (k : Fin 2048) (j : Fin 1024) :
    iblk m c 2 t (ix2 k j) = m ((c : Thread nD τ).loc main_arg2) (ix2 k (col t.val j)) := by
  have ht := lt_of_lt_of_eq t.isLt N_0
  blk_point [iblk, idx t, col]

/-- The normed row `i` of the argument. -/
def xn (c : Dev nD) (i : Fin 16384) : Fin 2048 → EReal :=
  nrm (fun k => m ((c : Thread nD τ).loc main_arg0) (ix2 i k)) (fun k => m ((c : Thread nD τ).loc main_arg1) (ix1 k))

/-- After every point the scratch holds the normed rows of the point's block. -/
theorem xn_at (c : Dev nD) (n : ℕ) (hn : n < cfg0.N) (r : Fin 1024) (k : Fin 2048) :
    (outsAt0 m c n hn).2 (ix2 r k) = xn m c (row n (lt_of_lt_of_eq hn N_0) r) k := by
  induction n with
  | zero =>
    rw [outsAt0_A m c ⟨0, hn⟩ rfl]; frame_out
    rw [pay1_at]; simp only [blk0_at, blk1_at]; rfl
  | succ n ih =>
    have hlt := lt_of_lt_of_eq hn N_0
    by_cases h0 : (n + 1) % 7 = 0
    · rw [outsAt0_A m c ⟨n + 1, hn⟩ h0]; frame_out
      rw [pay1_at]; simp only [blk0_at, blk1_at]; rfl
    · have hr : row (n + 1) hlt r = row n (by omega) r := Fin.ext (by show (n + 1) / 7 * 1024 + r.val = n / 7 * 1024 + r.val; omega)
      rw [hr, ← ih (by omega), outsAt0_B m c ⟨n + 1, hn⟩ h0]; frame_out; rfl

/-- At every point the output's block is the normed rows through the point's columns. -/
theorem out_at (c : Dev nD) (t : Fin cfg0.N) (r : Fin 1024) (j : Fin 1024) :
    (outsAt0 m c t.val t.isLt).1 (ix2 r j) = ∑ k : Fin 2048,
      xn m c (row t.val (lt_of_lt_of_eq t.isLt N_0) r) k * m ((c : Thread nD τ).loc main_arg2) (ix2 k (col t.val j)) := by
  have ht := lt_of_lt_of_eq t.isLt N_0
  by_cases h0 : t.val % 7 = 0
  · rw [outsAt0_A m c t h0]; frame_out
    rw [pay2_at]; simp only [blk2_at, pay1_at, blk0_at, blk1_at]; rfl
  · rw [outsAt0_B m c t h0]; frame_out
    rw [read_unread_whole, pay2_at]
    simp only [blk2_at, xn_at]
    have hr : row (t.val - 1) (by omega) r = row t.val ht r := Fin.ext (by show (t.val - 1) / 7 * 1024 + r.val = t.val / 7 * 1024 + r.val; omega)
    rw [hr]

/-- The kernel's result array is the reference's value of the arguments. -/
theorem final (c : Dev nD) : (dats m 0 c).arrAt 3 cfg0.N
    = Cert.Reference5Ideal.Read.val_main_v13 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht := lt_of_lt_of_eq t.isLt N_0
  blk_simp
  rw [after0_3]
  obtain ⟨r, j, rfl⟩ : ∃ (r : Fin 1024) (j : Fin 1024), y = ix2 r j := ⟨y 0, y 1, by funext a; match a with | ⟨0, _⟩ => rfl | ⟨1, _⟩ => rfl⟩
  have he : (win0_3.blk t).view.emb (ix2 r j) = ix2 (row t.val ht r) (col t.val j) := by
    blk_ext [idx t, row, col]
  rw [he, v13_at, out_at]
  rfl

end Run

end Cert.Proof.ProjEven

end
-- ==== Proof.ProjKvPay.lean ====
module

public import proofs.«01_k».proof.Proof.Gen.Kernel6Ideal.Value
public import proofs.«01_k».proof.Proof.Gen.Reference6Ideal.Read
public import proofs.«01_k».proof.Proof.ProjPay
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.ProjKv

open Idealize.ShloMosaic Idealize.ShloMosaic.TcCoe Idealize.SL.Sem

open Cert.Proof.Proj (nrm)

section Kern
open Cert.Kernel6Ideal Cert.Kernel6Ideal.Gen

/-- The kernel's first payload is the row's RMS norm. -/
theorem pay1_at (x : Vec Ideal S1024x2048 .f32) (g : Vec Ideal S1x2048 .f32) (r : Fin 1024) (j : Fin 2048) :
    k0_pay1 x g (ix2 r j) = nrm (fun k => x (ix2 r k)) (fun k => g (ix2 0 k)) j := by
  pointwise [k0_pay1, nrm]

/-- The second payload is the product with the block of weights. -/
theorem pay2_at (xn : Vec Ideal S1024x2048 .bf16) (w : Vec Ideal S2048x512 .bf16) (r : Fin 1024) (j : Fin 512) :
    k0_pay2 xn w (ix2 r j) = ∑ k : Fin 2048, xn (ix2 r k) * w (ix2 k j) := by
  pointwise [k0_pay2]

end Kern

section Ref
open Cert.Reference6Ideal Cert.Reference6Ideal.Read

variable (x0 : (⟨S16384x2048, .f32⟩ : BufTy).Contents (Elt Ideal)) (x1 : (⟨S2048, .f32⟩ : BufTy).Contents (Elt Ideal))
  (x2 : (⟨S2048x7736, .f32⟩ : BufTy).Contents (Elt Ideal))

/-- The reference's normed row. -/
theorem v12_at (i : Fin 16384) (j : Fin 2048) :
    val_main_v12 x0 x1 (ix2 i j) = nrm (fun k => x0 (ix2 i k)) (fun k => x1 (ix1 k)) j := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0, nrm]

/-- The reference's result: the normed row through columns 1024 to 2559 of the weights. -/
theorem v15_at (i : Fin 16384) (j : Fin 1536) :
    val_main_v15 x0 x1 x2 (ix2 i j)
      = ∑ k : Fin 2048, nrm (fun k => x0 (ix2 i k)) (fun k => x1 (ix1 k)) k * x2 (ix2 k ⟨1024 + j.val, by omega⟩) := by
  pointwise [val_main_v15, val_main_v14, val_main_v13, v12_at]

end Ref

section Run
open Cert.Kernel6Ideal Cert.Kernel6Ideal.Gen

variable (m : (ℓ : Loc nD τ sig) → Buf (Elt Ideal) ℓ)

/-- The windows' block indices at a grid point. -/
theorem idx : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- The row that point `t` holds at place `r`. -/
def row (t : ℕ) (ht : t < 48) (r : Fin 1024) : Fin 16384 := ⟨t / 3 * 1024 + r.val, by omega⟩

/-- The column of the result that point `t` holds at place `j`. -/
def col (t : ℕ) (j : Fin 512) : Fin 1536 := ⟨t % 3 * 512 + j.val, by omega⟩

/-- Window 0 holds 1024 rows of the argument. -/
theorem blk0_at (c : Dev nD) (t : Fin cfg0.N) (r : Fin 1024) (k : Fin 2048) :
    iblk m c 0 t (ix2 r k) = m ((c : Thread nD τ).loc main_arg0) (ix2 (row t.val (lt_of_lt_of_eq t.isLt N_0) r) k) := by
  have ht := lt_of_lt_of_eq t.isLt N_0
  blk_ext [iblk, V, idx t, row]

/-- Window 1 holds the norm's gains. -/
theorem blk1_at (c : Dev nD) (t : Fin cfg0.N) (k : Fin 2048) :
    iblk m c 1 t (ix2 0 k) = m ((c : Thread nD τ).loc main_arg1) (ix1 k) := by
  have ht := lt_of_lt_of_eq t.isLt N_0
  blk_point [iblk, idx t]

/-- Window 2 holds 512 of the weights' columns 1024 to 2559. -/
theorem blk2_at (c : Dev nD) (t : Fin cfg0.N) (k : Fin 2048) (j : Fin 512) :
    iblk m c 2 t (ix2 k j) = m ((c : Thread nD τ).loc main_arg2) (ix2 k ⟨1024 + (col t.val j).val, by omega⟩) := by
  have ht := lt_of_lt_of_eq t.isLt N_0
  blk_point [iblk, idx t, col]

/-- The normed row `i` of the argument. -/
def xn (c : Dev nD) (i : Fin 16384) : Fin 2048 → EReal :=
  nrm (fun k => m ((c : Thread nD τ).loc main_arg0) (ix2 i k)) (fun k => m ((c : Thread nD τ).loc main_arg1) (ix1 k))

/-- After every point the scratch holds the normed rows of the point's block. -/
theorem xn_at (c : Dev nD) (n : ℕ) (hn : n < cfg0.N) (r : Fin 1024) (k : Fin 2048) :
    (outsAt0 m c n hn).2 (ix2 r k) = xn m c (row n (lt_of_lt_of_eq hn N_0) r) k := by
  induction n with
  | zero =>
    rw [outsAt0_A m c ⟨0, hn⟩ rfl]; frame_out
    rw [pay1_at]; simp only [blk0_at, blk1_at]; rfl
  | succ n ih =>
    have hlt := lt_of_lt_of_eq hn N_0
    by_cases h0 : (n + 1) % 3 = 0
    · rw [outsAt0_A m c ⟨n + 1, hn⟩ h0]; frame_out
      rw [pay1_at]; simp only [blk0_at, blk1_at]; rfl
    · have hr : row (n + 1) hlt r = row n (by omega) r := Fin.ext (by show (n + 1) / 3 * 1024 + r.val = n / 3 * 1024 + r.val; omega)
      rw [hr, ← ih (by omega), outsAt0_B m c ⟨n + 1, hn⟩ h0]; frame_out; rfl

/-- At every point the output's block is the normed rows through the point's columns. -/
theorem out_at (c : Dev nD) (t : Fin cfg0.N) (r : Fin 1024) (j : Fin 512) :
    (outsAt0 m c t.val t.isLt).1 (ix2 r j) = ∑ k : Fin 2048,
      xn m c (row t.val (lt_of_lt_of_eq t.isLt N_0) r) k * m ((c : Thread nD τ).loc main_arg2) (ix2 k ⟨1024 + (col t.val j).val, by omega⟩) := by
  have ht := lt_of_lt_of_eq t.isLt N_0
  by_cases h0 : t.val % 3 = 0
  · rw [outsAt0_A m c t h0]; frame_out
    rw [pay2_at]; simp only [blk2_at, pay1_at, blk0_at, blk1_at]; rfl
  · rw [outsAt0_B m c t h0]; frame_out
    rw [read_unread_whole, pay2_at]
    simp only [blk2_at, xn_at]
    have hr : row (t.val - 1) (by omega) r = row t.val ht r := Fin.ext (by show (t.val - 1) / 3 * 1024 + r.val = t.val / 3 * 1024 + r.val; omega)
    rw [hr]

/-- The kernel's result array is the reference's value of the arguments. -/
theorem final (c : Dev nD) : (dats m 0 c).arrAt 3 cfg0.N
    = Cert.Reference6Ideal.Read.val_main_v15 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht := lt_of_lt_of_eq t.isLt N_0
  blk_simp
  rw [after0_3]
  obtain ⟨r, j, rfl⟩ : ∃ (r : Fin 1024) (j : Fin 512), y = ix2 r j := ⟨y 0, y 1, by funext a; match a with | ⟨0, _⟩ => rfl | ⟨1, _⟩ => rfl⟩
  have he : (win0_3.blk t).view.emb (ix2 r j) = ix2 (row t.val ht r) (col t.val j) := by
    blk_ext [idx t, row, col]
  rw [he, v15_at, out_at]
  rfl

end Run

end Cert.Proof.ProjKv

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_steps_below_infinity
public import proofs.«01_k».proof.Proof.SsdBits.Frame
public import proofs.«01_k».proof.Proof.Ssd.Frame
public import proofs.«01_k».proof.Proof.Ssd.Value
public import proofs.«01_k».proof.Proof.Ssd.StepRun
public import proofs.«01_k».proof.Proof.SsdMain
public import proofs.«01_k».proof.Proof.SsdRun
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.FfnPay
public import proofs.«01_k».proof.Proof.Ffn01
public import proofs.«01_k».proof.Proof.Ffn10
public import proofs.«01_k».proof.Proof.Ffn11
public import proofs.«01_k».proof.Proof.Ffn20
public import proofs.«01_k».proof.Proof.Ffn21
public import proofs.«01_k».proof.Proof.Ffn30
public import proofs.«01_k».proof.Proof.Ffn31
public import proofs.«01_k».proof.Proof.OutPay
public import proofs.«01_k».proof.Proof.ProjPay
public import proofs.«01_k».proof.Proof.ProjEvenPay
public import proofs.«01_k».proof.Proof.ProjKvPay
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Claim
public import Idealize.ShloMosaic.Lib.ReduceAll
public import Idealize.ShloMosaic.Adequacy
public import Idealize.ShloMosaic.Init

@[expose] public section

set_option maxRecDepth 16384
set_option maxHeartbeats 1000000

noncomputable section

namespace Cert.Proof

open Idealize.ShloMosaic Idealize.SL.Sem

/-- The mixer's reference runs, keeps its arguments and leaves every counter at zero. -/
theorem ssd_reference : quiescent_ReferenceIdeal (hReferenceIdeal := Cert.ReferenceIdeal.Gen.facts) := by
  intro m ρ _
  exact (θ_run _ _ _).mono (fun r h => ⟨fun c => (h c).2, sem_eq_zero_of_no_sems (by decide) r.2⟩)
    (Ssd.ref_run m ρ)

/-- Every entry of an array that is below +∞ everywhere, by the precondition, is not +∞. -/
theorem ne_top (m : (ℓ : Loc Cert.KernelIdeal.nD Cert.KernelIdeal.τ Cert.KernelIdeal.sig) → Buf (Elt Ideal) ℓ)
    (h : Pre_KernelIdeal_steps_below_infinity (hPre_steps_below_infinity := Cert.Pre_steps_below_infinity.Gen.facts) m)
    (c : Dev Cert.KernelIdeal.nD) (i : (⟨2, ![16384, 32]⟩ : Shape).Idx) : Ssd.at' m c i ≠ ⊤ := by
  have e := congrFun (h c) (fun a => a.elim0)
  unfold Cert.Pre_steps_below_infinity.fn at e
  dsimp only at e
  have e' := Host.reduce_andi_all _ _ _ _ _ e i
  intro hi
  have hb : Ideal.ofBits .f32 0x7F800000#32 = ⊤ := by simp [Ideal.ofBits, Ideal.ieee]
  have e2 : BitVec.ofBool (decide (Ssd.at' m c i < Ideal.ofBits .f32 0x7F800000#32)) = 1#1 := e'
  rw [hi, hb] at e2
  simp at e2

/-- Over the reals, where no step size is +∞, the mixer's call computes the reference's value. -/
theorem ssd_algebraic : algebraic_KernelIdeal_ReferenceIdeal_pre_steps_below_infinity (hKernelIdeal := Cert.KernelIdeal.Gen.facts)
    (hReferenceIdeal := Cert.ReferenceIdeal.Gen.facts) (hPre_steps_below_infinity := Cert.Pre_steps_below_infinity.Gen.facts) := by
  intro m g m' g' hpre hagree
  refine ⟨fun c => (Cert.KernelIdeal.Gen.dats m 0 c).arrAt 18 Cert.KernelIdeal.cfg0.N, ?_, ?_⟩
  · exact (θ_run _ _ _).mono (fun r h c => ⟨Cert.KernelIdeal.Value.post18 m r h c, Cert.KernelIdeal.Value.kept_main_arg0 m r h c, Cert.KernelIdeal.Value.kept_main_arg1 m r h c,
      Cert.KernelIdeal.Value.kept_main_arg2 m r h c, Cert.KernelIdeal.Value.kept_main_arg3 m r h c, Cert.KernelIdeal.Value.kept_main_arg4 m r h c,
      Cert.KernelIdeal.Value.kept_main_arg5 m r h c, Cert.KernelIdeal.Value.kept_main_arg6 m r h c, Cert.KernelIdeal.Value.kept_main_arg7 m r h c, Cert.KernelIdeal.Value.kept_main_arg8 m r h c⟩)
      (Cert.KernelIdeal.Gen.run_main m g)
  · refine (θ_run _ _ _).mono (fun _ h c => ⟨(h c).1.trans ?_, (h c).2⟩) (Ssd.ref_run m' g')
    refine Eq.trans ?_ (Ssd.final m c (ne_top m hpre c)).symm
    obtain ⟨e0, e1, e2, e3, e4, e5, e6, e7, e8⟩ := hagree c
    unfold Ssd.itm
    rw [e0, e1, e2, e3, e4, e5, e6, e7, e8]

/-- The feed-forward reference runs, keeps its arguments and leaves every counter at zero. -/
theorem ffn_reference : quiescent_Reference2Ideal (hReference2Ideal := Cert.Reference2Ideal.Gen.facts) := by
  intro m ρ _
  exact (θ_run _ _ _).mono (fun r h => ⟨fun c => (h c).2, sem_eq_zero_of_no_sems (by decide) r.2⟩)
    (Cert.Reference2Ideal.Value.run (F := Ideal) m ρ)

/-- Over the reals the feed-forward call computes the reference's value. -/
theorem ffn_algebraic : algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    rw [Cert.Reference2Ideal.Read.val_main_v39_eq, (hagree c).1, (hagree c).2.1, (hagree c).2.2.1, (hagree c).2.2.2.1,
      (hagree c).2.2.2.2.1, (hagree c).2.2.2.2.2]
    exact (Ffn.final m c).symm

/-- The output projection's reference runs, keeps its arguments and leaves every counter at zero. -/
theorem out_reference : quiescent_Reference3Ideal (hReference3Ideal := Cert.Reference3Ideal.Gen.facts) := by
  intro m ρ _
  exact (θ_run _ _ _).mono (fun r h => ⟨fun c => (h c).2, sem_eq_zero_of_no_sems (by decide) r.2⟩)
    (Cert.Reference3Ideal.Value.run (F := Ideal) m ρ)

/-- Over the reals the output projection's call computes the reference's value. -/
theorem out_algebraic : algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · refine (θ_run _ _ _).mono (fun _ h c => ⟨(h c).1.trans ?_, (h c).2⟩) (Cert.Reference3Ideal.Value.run (F := Ideal) m' g')
    refine (Cert.Reference3Ideal.Read.val_main_v15_eq _ _ _ _ _).trans ?_
    rw [(hagree c).1, (hagree c).2.1, (hagree c).2.2.1, (hagree c).2.2.2.1, (hagree c).2.2.2.2]
    exact (OutProj.final m c).symm

/-- The odd layers' input projection's reference runs, keeps its arguments and leaves every counter at zero. -/
theorem proj_reference : quiescent_Reference4Ideal (hReference4Ideal := Cert.Reference4Ideal.Gen.facts) := by
  intro m ρ _
  exact (θ_run _ _ _).mono (fun r h => ⟨fun c => (h c).2, sem_eq_zero_of_no_sems (by decide) r.2⟩)
    (Cert.Reference4Ideal.Value.run (F := Ideal) m ρ)

/-- Over the reals the odd layers' input projection's call computes the reference's value. -/
theorem proj_algebraic : algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · refine (θ_run _ _ _).mono (fun _ h c => ⟨(h c).1.trans ?_, (h c).2⟩) (Cert.Reference4Ideal.Value.run (F := Ideal) m' g')
    refine (Cert.Reference4Ideal.Read.val_main_v13_eq _ _ _).trans ?_
    rw [(hagree c).1, (hagree c).2.1, (hagree c).2.2]
    exact (Proj.final m c).symm

/-- The even layers' input projection's reference runs, keeps its arguments and leaves every counter at zero. -/
theorem proj_even_reference : quiescent_Reference5Ideal (hReference5Ideal := Cert.Reference5Ideal.Gen.facts) := by
  intro m ρ _
  exact (θ_run _ _ _).mono (fun r h => ⟨fun c => (h c).2, sem_eq_zero_of_no_sems (by decide) r.2⟩)
    (Cert.Reference5Ideal.Value.run (F := Ideal) m ρ)

/-- Over the reals the even layers' input projection's call computes the reference's value. -/
theorem proj_even_algebraic : algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · refine (θ_run _ _ _).mono (fun _ h c => ⟨(h c).1.trans ?_, (h c).2⟩) (Cert.Reference5Ideal.Value.run (F := Ideal) m' g')
    refine (Cert.Reference5Ideal.Read.val_main_v13_eq _ _ _).trans ?_
    rw [(hagree c).1, (hagree c).2.1, (hagree c).2.2]
    exact (ProjEven.final m c).symm

/-- The even layers' key and value projection's reference runs, keeps its arguments and leaves every counter at zero. -/
theorem proj_kv_reference : quiescent_Reference6Ideal (hReference6Ideal := Cert.Reference6Ideal.Gen.facts) := by
  intro m ρ _
  exact (θ_run _ _ _).mono (fun r h => ⟨fun c => (h c).2, sem_eq_zero_of_no_sems (by decide) r.2⟩)
    (Cert.Reference6Ideal.Value.run (F := Ideal) m ρ)

/-- Over the reals the even layers' key and value projection's call computes the reference's value. -/
theorem proj_kv_algebraic : algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · refine (θ_run _ _ _).mono (fun _ h c => ⟨(h c).1.trans ?_, (h c).2⟩) (Cert.Reference6Ideal.Value.run (F := Ideal) m' g')
    refine (Cert.Reference6Ideal.Read.val_main_v15_eq _ _ _).trans ?_
    rw [(hagree c).1, (hagree c).2.1, (hagree c).2.2]
    exact (ProjKv.final m c).symm

/-- Layer 0, half 1: the feed-forward reference runs, keeps its arguments and leaves every counter at zero. -/
theorem ffn01_reference : quiescent_Reference7Ideal (hReference7Ideal := Cert.Reference7Ideal.Gen.facts) := by
  intro m ρ _
  exact (θ_run _ _ _).mono (fun r h => ⟨fun c => (h c).2, sem_eq_zero_of_no_sems (by decide) r.2⟩)
    (Cert.Reference7Ideal.Value.run (F := Ideal) m ρ)

/-- Layer 0, half 1: over the reals the feed-forward call computes the reference's value. -/
theorem ffn01_algebraic : algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · run_from Cert.Reference7Ideal.Value.run m' g'
    rw [Cert.Reference7Ideal.Read.val_main_v39_eq, (hagree c).1, (hagree c).2.1, (hagree c).2.2.1, (hagree c).2.2.2.1,
      (hagree c).2.2.2.2.1, (hagree c).2.2.2.2.2]
    exact (Ffn01.final m c).symm

/-- Layer 1, half 0: the feed-forward reference runs, keeps its arguments and leaves every counter at zero. -/
theorem ffn10_reference : quiescent_Reference8Ideal (hReference8Ideal := Cert.Reference8Ideal.Gen.facts) := by
  intro m ρ _
  exact (θ_run _ _ _).mono (fun r h => ⟨fun c => (h c).2, sem_eq_zero_of_no_sems (by decide) r.2⟩)
    (Cert.Reference8Ideal.Value.run (F := Ideal) m ρ)

/-- Layer 1, half 0: over the reals the feed-forward call computes the reference's value. -/
theorem ffn10_algebraic : algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    rw [Cert.Reference8Ideal.Read.val_main_v39_eq, (hagree c).1, (hagree c).2.1, (hagree c).2.2.1, (hagree c).2.2.2.1,
      (hagree c).2.2.2.2.1, (hagree c).2.2.2.2.2]
    exact (Ffn10.final m c).symm

/-- Layer 1, half 1: the feed-forward reference runs, keeps its arguments and leaves every counter at zero. -/
theorem ffn11_reference : quiescent_Reference9Ideal (hReference9Ideal := Cert.Reference9Ideal.Gen.facts) := by
  intro m ρ _
  exact (θ_run _ _ _).mono (fun r h => ⟨fun c => (h c).2, sem_eq_zero_of_no_sems (by decide) r.2⟩)
    (Cert.Reference9Ideal.Value.run (F := Ideal) m ρ)

/-- Layer 1, half 1: over the reals the feed-forward call computes the reference's value. -/
theorem ffn11_algebraic : algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    rw [Cert.Reference9Ideal.Read.val_main_v39_eq, (hagree c).1, (hagree c).2.1, (hagree c).2.2.1, (hagree c).2.2.2.1,
      (hagree c).2.2.2.2.1, (hagree c).2.2.2.2.2]
    exact (Ffn11.final m c).symm

/-- Layer 2, half 0: the feed-forward reference runs, keeps its arguments and leaves every counter at zero. -/
theorem ffn20_reference : quiescent_Reference10Ideal (hReference10Ideal := Cert.Reference10Ideal.Gen.facts) := by
  intro m ρ _
  exact (θ_run _ _ _).mono (fun r h => ⟨fun c => (h c).2, sem_eq_zero_of_no_sems (by decide) r.2⟩)
    (Cert.Reference10Ideal.Value.run (F := Ideal) m ρ)

/-- Layer 2, half 0: over the reals the feed-forward call computes the reference's value. -/
theorem ffn20_algebraic : algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    rw [Cert.Reference10Ideal.Read.val_main_v39_eq, (hagree c).1, (hagree c).2.1, (hagree c).2.2.1, (hagree c).2.2.2.1,
      (hagree c).2.2.2.2.1, (hagree c).2.2.2.2.2]
    exact (Ffn20.final m c).symm

/-- Layer 2, half 1: the feed-forward reference runs, keeps its arguments and leaves every counter at zero. -/
theorem ffn21_reference : quiescent_Reference11Ideal (hReference11Ideal := Cert.Reference11Ideal.Gen.facts) := by
  intro m ρ _
  exact (θ_run _ _ _).mono (fun r h => ⟨fun c => (h c).2, sem_eq_zero_of_no_sems (by decide) r.2⟩)
    (Cert.Reference11Ideal.Value.run (F := Ideal) m ρ)

/-- Layer 2, half 1: over the reals the feed-forward call computes the reference's value. -/
theorem ffn21_algebraic : algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · run_from Cert.Reference11Ideal.Value.run m' g'
    rw [Cert.Reference11Ideal.Read.val_main_v39_eq, (hagree c).1, (hagree c).2.1, (hagree c).2.2.1, (hagree c).2.2.2.1,
      (hagree c).2.2.2.2.1, (hagree c).2.2.2.2.2]
    exact (Ffn21.final m c).symm

/-- Layer 3, half 0: the feed-forward reference runs, keeps its arguments and leaves every counter at zero. -/
theorem ffn30_reference : quiescent_Reference12Ideal (hReference12Ideal := Cert.Reference12Ideal.Gen.facts) := by
  intro m ρ _
  exact (θ_run _ _ _).mono (fun r h => ⟨fun c => (h c).2, sem_eq_zero_of_no_sems (by decide) r.2⟩)
    (Cert.Reference12Ideal.Value.run (F := Ideal) m ρ)

/-- Layer 3, half 0: over the reals the feed-forward call computes the reference's value. -/
theorem ffn30_algebraic : algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    rw [Cert.Reference12Ideal.Read.val_main_v39_eq, (hagree c).1, (hagree c).2.1, (hagree c).2.2.1, (hagree c).2.2.2.1,
      (hagree c).2.2.2.2.1, (hagree c).2.2.2.2.2]
    exact (Ffn30.final m c).symm

/-- Layer 3, half 1: the feed-forward reference runs, keeps its arguments and leaves every counter at zero. -/
theorem ffn31_reference : quiescent_Reference13Ideal (hReference13Ideal := Cert.Reference13Ideal.Gen.facts) := by
  intro m ρ _
  exact (θ_run _ _ _).mono (fun r h => ⟨fun c => (h c).2, sem_eq_zero_of_no_sems (by decide) r.2⟩)
    (Cert.Reference13Ideal.Value.run (F := Ideal) m ρ)

/-- Layer 3, half 1: over the reals the feed-forward call computes the reference's value. -/
theorem ffn31_algebraic : algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · run_from Cert.Reference13Ideal.Value.run m' g'
    rw [Cert.Reference13Ideal.Read.val_main_v39_eq, (hagree c).1, (hagree c).2.1, (hagree c).2.2.1, (hagree c).2.2.2.1,
      (hagree c).2.2.2.2.1, (hagree c).2.2.2.2.2]
    exact (Ffn31.final m c).symm

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_steps_below_infinity.Gen.facts,
  fun m ρ _ => Cert.Kernel.Gen.frame m ρ, fun m ρ _ => Cert.KernelIdeal.Gen.frame m ρ, fun m ρ _ => Cert.KernelIdeal.Gen.frame m ρ,
  ssd_reference, fun m ρ _ => ssd_reference m ρ trivial,
  fun m ρ _ => Cert.Kernel2.Gen.frame m ρ, fun m ρ _ => Cert.Kernel2Ideal.Gen.frame m ρ, ffn_reference,
  fun m ρ _ => Cert.Kernel3.Gen.frame m ρ, fun m ρ _ => Cert.Kernel3Ideal.Gen.frame m ρ, out_reference,
  fun m ρ _ => Cert.Kernel4.Gen.frame m ρ, fun m ρ _ => Cert.Kernel4Ideal.Gen.frame m ρ, proj_reference,
  fun m ρ _ => Cert.Kernel5.Gen.frame m ρ, fun m ρ _ => Cert.Kernel5Ideal.Gen.frame m ρ, proj_even_reference,
  fun m ρ _ => Cert.Kernel6.Gen.frame m ρ, fun m ρ _ => Cert.Kernel6Ideal.Gen.frame m ρ, proj_kv_reference,
  fun m ρ _ => Cert.Kernel7.Gen.frame m ρ, fun m ρ _ => Cert.Kernel7Ideal.Gen.frame m ρ, ffn01_reference,
  fun m ρ _ => Cert.Kernel8.Gen.frame m ρ, fun m ρ _ => Cert.Kernel8Ideal.Gen.frame m ρ, ffn10_reference,
  fun m ρ _ => Cert.Kernel9.Gen.frame m ρ, fun m ρ _ => Cert.Kernel9Ideal.Gen.frame m ρ, ffn11_reference,
  fun m ρ _ => Cert.Kernel10.Gen.frame m ρ, fun m ρ _ => Cert.Kernel10Ideal.Gen.frame m ρ, ffn20_reference,
  fun m ρ _ => Cert.Kernel11.Gen.frame m ρ, fun m ρ _ => Cert.Kernel11Ideal.Gen.frame m ρ, ffn21_reference,
  fun m ρ _ => Cert.Kernel12.Gen.frame m ρ, fun m ρ _ => Cert.Kernel12Ideal.Gen.frame m ρ, ffn30_reference,
  fun m ρ _ => Cert.Kernel13.Gen.frame m ρ, fun m ρ _ => Cert.Kernel13Ideal.Gen.frame m ρ, ffn31_reference,
  IdealRules.named_const.statement Cert.KernelIdeal.κ "mask" .f32 0xF149F2CA#32 ⊥ rfl, ssd_algebraic, trivial, ffn_algebraic,
  trivial, out_algebraic, trivial, proj_algebraic, trivial, proj_even_algebraic, trivial, proj_kv_algebraic,
  trivial, ffn01_algebraic, trivial, ffn10_algebraic, trivial, ffn11_algebraic, trivial, ffn20_algebraic,
  trivial, ffn21_algebraic, trivial, ffn30_algebraic, trivial, ffn31_algebraic⟩

end Cert.Proof

end
